-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_gated [hPre_gated : Cert.Pre_gated.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_gated.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_gated [hPre_gated : Cert.Pre_gated.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_gated.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_banded [hPre_banded : Cert.Pre_banded.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_banded.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_banded [hPre_banded : Cert.Pre_banded.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_banded.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_routed [hPre_routed : Cert.Pre_routed.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_routed.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_routed [hPre_routed : Cert.Pre_routed.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_routed.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_gated [hKernel2Ideal : Cert.Kernel2Ideal.Facts] [hPre_gated : Cert.Pre_gated.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_gated m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_gated [hReference2Ideal : Cert.Reference2Ideal.Facts] [hPre_gated : Cert.Pre_gated.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_gated m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13)
      ∧ r.2.mem ((c.tc : Thread Cert.Kernel7.nD Cert.Kernel7.τ).loc Cert.Kernel7.main_arg14) = m ((c.tc : Thread Cert.Kernel7.nD Cert.Kernel7.τ).loc Cert.Kernel7.main_arg14))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
      ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13)
      ∧ r.2.mem ((c.tc : Thread Cert.Reference7Ideal.nD Cert.Reference7Ideal.τ).loc Cert.Reference7Ideal.main_arg14) = m ((c.tc : Thread Cert.Reference7Ideal.nD Cert.Reference7Ideal.τ).loc Cert.Reference7Ideal.main_arg14))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Kernel8Ideal_pre_banded [hKernel8Ideal : Cert.Kernel8Ideal.Facts] [hPre_banded : Cert.Pre_banded.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_banded m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Reference8Ideal_pre_banded [hReference8Ideal : Cert.Reference8Ideal.Facts] [hPre_banded : Cert.Pre_banded.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_banded m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Kernel10Ideal_pre_routed [hKernel10Ideal : Cert.Kernel10Ideal.Facts] [hPre_routed : Cert.Pre_routed.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_routed m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Reference10Ideal_pre_routed [hReference10Ideal : Cert.Reference10Ideal.Facts] [hPre_routed : Cert.Pre_routed.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_routed m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_gated [hKernel2Ideal : Cert.Kernel2Ideal.Facts] [hReference2Ideal : Cert.Reference2Ideal.Facts] [hPre_gated : Cert.Pre_gated.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_gated m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v22_0)) (v1 : (c : Dev Cert.Kernel2Ideal.nD) → Buf (Elt Ideal) ((c.tc : Thread Cert.Kernel2Ideal.nD Cert.Kernel2Ideal.τ).loc Cert.Kernel2Ideal.main_v22_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22_0) = v0 c
          ∧ r.2.mem ((c.tc : Thread Cert.Kernel2Ideal.nD Cert.Kernel2Ideal.τ).loc Cert.Kernel2Ideal.main_v22_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_v60) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v18)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v20)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v20) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v18)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v18) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v24)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v24) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v32) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)
      ∧ m' ((c.tc : Thread Cert.Reference7Ideal.nD Cert.Reference7Ideal.τ).loc Cert.Reference7Ideal.main_arg14) = m ((c.tc : Thread Cert.Kernel7Ideal.nD Cert.Kernel7Ideal.τ).loc Cert.Kernel7Ideal.main_arg14)) →
    ∃ (v0 : (c : Dev Cert.Kernel7Ideal.nD) → Buf (Elt Ideal) ((c.tc : Thread Cert.Kernel7Ideal.nD Cert.Kernel7Ideal.τ).loc Cert.Kernel7Ideal.main_v21_0)) (v1 : (c : Dev Cert.Kernel7Ideal.nD) → Buf (Elt Ideal) ((c.tc : Thread Cert.Kernel7Ideal.nD Cert.Kernel7Ideal.τ).loc Cert.Kernel7Ideal.main_v21_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v21_0) = v0 c
          ∧ r.2.mem ((c.tc : Thread Cert.Kernel7Ideal.nD Cert.Kernel7Ideal.τ).loc Cert.Kernel7Ideal.main_v21_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
          ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v72) = v0 c
          ∧ r.2.mem ((c.tc : Thread Cert.Reference7Ideal.nD Cert.Reference7Ideal.τ).loc Cert.Reference7Ideal.main_v73) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13)
          ∧ r.2.mem ((c.tc : Thread Cert.Reference7Ideal.nD Cert.Reference7Ideal.τ).loc Cert.Reference7Ideal.main_arg14) = m' ((c.tc : Thread Cert.Reference7Ideal.nD Cert.Reference7Ideal.τ).loc Cert.Reference7Ideal.main_arg14))

def preserves_Kernel8_Kernel8Ideal : Prop :=
  IdealRules.named_const.Statement Cert.Kernel8Ideal.κ "mask" .f32 0xF149F2CA#32 ⊥

def algebraic_Kernel8Ideal_Reference8Ideal_pre_banded [hKernel8Ideal : Cert.Kernel8Ideal.Facts] [hReference8Ideal : Cert.Reference8Ideal.Facts] [hPre_banded : Cert.Pre_banded.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_banded m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v64) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  IdealRules.named_const.Statement Cert.Kernel9Ideal.κ "mask" .f32 0xF149F2CA#32 ⊥

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)) →
    ∃ (v0 : (c : Dev Cert.Kernel9Ideal.nD) → Buf (Elt Ideal) ((c.tc : Thread Cert.Kernel9Ideal.nD Cert.Kernel9Ideal.τ).loc Cert.Kernel9Ideal.main_v8)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v8) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v25) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0))

def preserves_Kernel10_Kernel10Ideal : Prop :=
  True

def algebraic_Kernel10Ideal_Reference10Ideal_pre_routed [hKernel10Ideal : Cert.Kernel10Ideal.Facts] [hReference10Ideal : Cert.Reference10Ideal.Facts] [hPre_routed : Cert.Pre_routed.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_routed m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v6)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v6) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v35) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_gated : Cert.Pre_gated.Facts) (hPre_banded : Cert.Pre_banded.Facts) (hPre_routed : Cert.Pre_routed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_gated (hKernel2Ideal := hKernel2Ideal) (hPre_gated := hPre_gated)
    ∧ quiescent_Reference2Ideal (hReference2Ideal := hReference2Ideal)
    ∧ quiescent_Reference2Ideal_pre_gated (hReference2Ideal := hReference2Ideal) (hPre_gated := hPre_gated)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_banded (hKernel8Ideal := hKernel8Ideal) (hPre_banded := hPre_banded)
    ∧ quiescent_Reference8Ideal (hReference8Ideal := hReference8Ideal)
    ∧ quiescent_Reference8Ideal_pre_banded (hReference8Ideal := hReference8Ideal) (hPre_banded := hPre_banded)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_routed (hKernel10Ideal := hKernel10Ideal) (hPre_routed := hPre_routed)
    ∧ quiescent_Reference10Ideal (hReference10Ideal := hReference10Ideal)
    ∧ quiescent_Reference10Ideal_pre_routed (hReference10Ideal := hReference10Ideal) (hPre_routed := hPre_routed)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_gated (hKernel2Ideal := hKernel2Ideal) (hReference2Ideal := hReference2Ideal) (hPre_gated := hPre_gated)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_banded (hKernel8Ideal := hKernel8Ideal) (hReference8Ideal := hReference8Ideal) (hPre_banded := hPre_banded)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_routed (hKernel10Ideal := hKernel10Ideal) (hReference10Ideal := hReference10Ideal) (hPre_routed := hPre_routed)
-- ==== Pre_banded.lean ====
abbrev S17408x3072 : Shape := ⟨2, ![17408, 3072]⟩
abbrev S16x256x768 : Shape := ⟨3, ![16, 256, 768]⟩
abbrev S256x768 : Shape := ⟨2, ![256, 768]⟩
abbrev S_ : Shape := ⟨0, ![]⟩
abbrev S16384x2048 : Shape := ⟨2, ![16384, 2048]⟩
abbrev S16x64x576 : Shape := ⟨3, ![16, 64, 576]⟩

class Facts : Prop where
  bcast_S_S256x768 : S_.BroadcastsInDim S256x768 (![] : Fin 0 → Fin S256x768.rank)
  slices_S17408x3072_S16384x2048_0_0 : S17408x3072.Slices ![0, 0] S16384x2048
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S16x256x768 : S_.BroadcastsInDim S16x256x768 (![] : Fin 0 → Fin S16x256x768.rank)
  bcast_S256x768_S16x256x768_1_2 : S256x768.BroadcastsInDim S16x256x768 (![1, 2] : Fin 2 → Fin S16x256x768.rank)
  reducesTo_S16x256x768_S_d0_1_2 : S16x256x768.ReducesTo [0, 1, 2] S_
  slices_S16x256x768_S16x64x576_0_64_64 : S16x256x768.Slices ![0, 64, 64] S16x64x576
  slices_S16x256x768_S16x64x576_0_0_0 : S16x256x768.Slices ![0, 0, 0] S16x64x576
  reducesTo_S16x64x576_S_d0_1_2 : S16x64x576.ReducesTo [0, 1, 2] S_
  slices_S16x256x768_S16x64x576_0_128_128 : S16x256x768.Slices ![0, 128, 128] S16x64x576
  slices_S16x256x768_S16x64x576_0_192_192 : S16x256x768.Slices ![0, 192, 192] S16x64x576

variable [Facts]

def fn_where {F : FTy → Type} [FloatOps F] (arg0 : IVec S256x768 1) (arg1 : IVec S256x768 32) (arg2 : IVec S256x768 32) : IVec S256x768 32 :=
  let v0 : IVec S256x768 32 := select arg0 arg1 arg2
  v0

def fn_floor_divide {F : FTy → Type} [FloatOps F] (arg0 : IVec S256x768 32) (arg1 : IVec S_ 32) : IVec S256x768 32 :=
  let v0 : IVec S_ 32 := id arg1
  let v1 : IVec S256x768 32 := broadcastInDim S256x768 ![] bcast_S_S256x768 v0
  let v2 : IVec S256x768 32 := Host.divsi arg0 v1
  let v3 : IVec S256x768 32 := signi arg0
  let v4 : IVec S_ 32 := signi v0
  let v5 : IVec S256x768 32 := broadcastInDim S256x768 ![] bcast_S_S256x768 v4
  let v6 : IVec S256x768 1 := cmpi .ne v3 v5
  let v7 : IVec S256x768 32 := broadcastInDim S256x768 ![] bcast_S_S256x768 v0
  let v8 : IVec S256x768 32 := Host.remsi arg0 v7
  let c : IVec S_ 32 := constantI S_ 32 0#32
  let v9 : IVec S256x768 32 := broadcastInDim S256x768 ![] bcast_S_S256x768 c
  let v10 : IVec S256x768 1 := cmpi .ne v8 v9
  let v11 : IVec S256x768 1 := andi v6 v10
  let c_0 : IVec S_ 32 := constantI S_ 32 1#32
  let v12 : IVec S256x768 32 := broadcastInDim S256x768 ![] bcast_S_S256x768 c_0
  let v13 : IVec S256x768 32 := subi v2 v12
  let v14 : IVec S256x768 32 := fn_where (F := F) v11 v13 v2
  v14

def fn_where_0 {F : FTy → Type} [FloatOps F] (arg0 : IVec S256x768 1) (arg1 : IVec S16x256x768 1) (arg2 : IVec S16x256x768 1) : IVec S16x256x768 1 :=
  let v0 : IVec S16x256x768 1 := broadcastInDim S16x256x768 ![1, 2] bcast_S256x768_S16x256x768_1_2 arg0
  let v1 : IVec S16x256x768 1 := select v0 arg1 arg2
  v1

def fn_part2 {F : FTy → Type} [FloatOps F] (main_v33 : IVec S_ 1) (main_v36 : IVec S16x64x576 1) : IVec S_ 1 :=
  let main_c_9 : IVec S_ 1 := constantI S_ 1 1#1
  let main_v37 : IVec S_ 1 := (fun x v => Host.reduce IntOp.andi x v reducesTo_S16x64x576_S_d0_1_2 h_S_) main_v36 main_c_9
  let main_v38 : IVec S_ 1 := andi main_v33 main_v37
  main_v38

def fn_part1 {F : FTy → Type} [FloatOps F] (main_arg1 : FVec F S16x256x768 .f32) (main_v10 : IVec S256x768 1) (main_v15 : IVec S_ 1) (main_v16 : FVec F S16x256x768 .f32) (main_cst_4 : FVec F S_ .f32) : IVec S_ 1 :=
  let main_v17 : FVec F S16x256x768 .f32 := broadcastInDim S16x256x768 ![] bcast_S_S16x256x768 main_cst_4
  let main_v18 : IVec S16x256x768 1 := cmpf .olt main_v16 main_v17
  let main_cst_5 : FVec F S_ .f32 := constant S_ .f32 0xFF800000#32
  let main_v19 : FVec F S16x256x768 .f32 := broadcastInDim S16x256x768 ![] bcast_S_S16x256x768 main_cst_5
  let main_v20 : IVec S16x256x768 1 := cmpf .oeq main_arg1 main_v19
  let main_v21 : IVec S16x256x768 1 := fn_where_0 (F := F) main_v10 main_v18 main_v20
  let main_c_6 : IVec S_ 1 := constantI S_ 1 1#1
  let main_v22 : IVec S_ 1 := (fun x v => Host.reduce IntOp.andi x v reducesTo_S16x256x768_S_d0_1_2 h_S_) main_v21 main_c_6
  let main_v23 : IVec S_ 1 := andi main_v15 main_v22
  let main_v24 : FVec F S16x64x576 .f32 := (extractStridedSlice S16x64x576 ![0, 64, 64] · slices_S16x256x768_S16x64x576_0_64_64) main_arg1
  let main_v25 : FVec F S16x64x576 .f32 := (extractStridedSlice S16x64x576 ![0, 0, 0] · slices_S16x256x768_S16x64x576_0_0_0) main_arg1
  let main_v26 : IVec S16x64x576 1 := cmpf .oeq main_v24 main_v25
  let main_c_7 : IVec S_ 1 := constantI S_ 1 1#1
  let main_v27 : IVec S_ 1 := (fun x v => Host.reduce IntOp.andi x v reducesTo_S16x64x576_S_d0_1_2 h_S_) main_v26 main_c_7
  let main_v28 : IVec S_ 1 := andi main_v23 main_v27
  let main_v29 : FVec F S16x64x576 .f32 := (extractStridedSlice S16x64x576 ![0, 128, 128] · slices_S16x256x768_S16x64x576_0_128_128) main_arg1
  let main_v30 : FVec F S16x64x576 .f32 := (extractStridedSlice S16x64x576 ![0, 0, 0] · slices_S16x256x768_S16x64x576_0_0_0) main_arg1
  let main_v31 : IVec S16x64x576 1 := cmpf .oeq main_v29 main_v30
  let main_c_8 : IVec S_ 1 := constantI S_ 1 1#1
  let main_v32 : IVec S_ 1 := (fun x v => Host.reduce IntOp.andi x v reducesTo_S16x64x576_S_d0_1_2 h_S_) main_v31 main_c_8
  let main_v33 : IVec S_ 1 := andi main_v28 main_v32
  let main_v34 : FVec F S16x64x576 .f32 := (extractStridedSlice S16x64x576 ![0, 192, 192] · slices_S16x256x768_S16x64x576_0_192_192) main_arg1
  let main_v35 : FVec F S16x64x576 .f32 := (extractStridedSlice S16x64x576 ![0, 0, 0] · slices_S16x256x768_S16x64x576_0_0_0) main_arg1
  let main_v36 : IVec S16x64x576 1 := cmpf .oeq main_v34 main_v35
  fn_part2 (F := F) main_v33 main_v36

def fn {F : FTy → Type} [FloatOps F] (main_arg0 : FVec F S17408x3072 .bf16) (main_arg1 : FVec F S16x256x768 .f32) : IVec S_ 1 :=
  let main_v0 : IVec S256x768 32 := iotaInDim S256x768 32 1
  let main_v1 : IVec S256x768 32 := iotaInDim S256x768 32 0
  let main_c : IVec S_ 32 := constantI S_ 32 64#32
  let main_v2 : IVec S256x768 32 := fn_floor_divide (F := F) main_v1 main_c
  let main_c_0 : IVec S_ 32 := constantI S_ 32 64#32
  let main_v3 : IVec S256x768 32 := broadcastInDim S256x768 ![] bcast_S_S256x768 main_c_0
  let main_v4 : IVec S256x768 32 := muli main_v2 main_v3
  let main_v5 : IVec S256x768 32 := subi main_v0 main_v4
  let main_c_1 : IVec S_ 32 := constantI S_ 32 0#32
  let main_v6 : IVec S256x768 32 := broadcastInDim S256x768 ![] bcast_S_S256x768 main_c_1
  let main_v7 : IVec S256x768 1 := cmpi .sge main_v5 main_v6
  let main_c_2 : IVec S_ 32 := constantI S_ 32 576#32
  let main_v8 : IVec S256x768 32 := broadcastInDim S256x768 ![] bcast_S_S256x768 main_c_2
  let main_v9 : IVec S256x768 1 := cmpi .slt main_v5 main_v8
  let main_v10 : IVec S256x768 1 := andi main_v7 main_v9
  let main_v11 : FVec F S16384x2048 .bf16 := (extractStridedSlice S16384x2048 ![0, 0] · slices_S17408x3072_S16384x2048_0_0) main_arg0
  let main_v12 : FVec F S16384x2048 .bf16 := Host.absf main_v11
  let main_cst : FVec F S_ .bf16 := constant S_ .bf16 0x7F80#16
  let main_v13 : FVec F S16384x2048 .bf16 := broadcastInDim S16384x2048 ![] bcast_S_S16384x2048 main_cst
  let main_v14 : IVec S16384x2048 1 := cmpf .olt main_v12 main_v13
  let main_c_3 : IVec S_ 1 := constantI S_ 1 1#1
  let main_v15 : IVec S_ 1 := (fun x v => Host.reduce IntOp.andi x v reducesTo_S16384x2048_S_d0_1 h_S_) main_v14 main_c_3
  let main_v16 : FVec F S16x256x768 .f32 := Host.absf main_arg1
  let main_cst_4 : FVec F S_ .f32 := constant S_ .f32 0x7F800000#32
  fn_part1 (F := F) main_arg1 main_v10 main_v15 main_v16 main_cst_4
-- ==== Pre_finite.lean ====
abbrev S17408x3072 : Shape := ⟨2, ![17408, 3072]⟩
abbrev S2x16x512x16x64 : Shape := ⟨5, ![2, 16, 512, 16, 64]⟩
abbrev S16x64x576 : Shape := ⟨3, ![16, 64, 576]⟩
abbrev S1024x2048 : Shape := ⟨2, ![1024, 2048]⟩
abbrev S_ : Shape := ⟨0, ![]⟩
abbrev S1x16x512x16x64 : Shape := ⟨5, ![1, 16, 512, 16, 64]⟩
abbrev S16x512x16x64 : Shape := ⟨4, ![16, 512, 16, 64]⟩

class Facts : Prop where
  slices_S17408x3072_S1024x2048_16384_0 : S17408x3072.Slices ![16384, 0] S1024x2048
  bcast_S_S1024x2048 : S_.BroadcastsInDim S1024x2048 (![] : Fin 0 → Fin S1024x2048.rank)
  reducesTo_S1024x2048_S_d0_1 : S1024x2048.ReducesTo [0, 1] S_
  h_S_ : 0 < S_.numel
  slices_S2x16x512x16x64_S1x16x512x16x64_0_0_0_0_0 : S2x16x512x16x64.Slices ![0, 0, 0, 0, 0] S1x16x512x16x64
  shapeCasts_S1x16x512x16x64_S16x512x16x64 : S1x16x512x16x64.ShapeCasts S16x512x16x64
  bcast_S_S16x512x16x64 : S_.BroadcastsInDim S16x512x16x64 (![] : Fin 0 → Fin S16x512x16x64.rank)
  reducesTo_S16x512x16x64_S_d0_1_2_3 : S16x512x16x64.ReducesTo [0, 1, 2, 3] S_
  bcast_S_S16x64x576 : S_.BroadcastsInDim S16x64x576 (![] : Fin 0 → Fin S16x64x576.rank)
  reducesTo_S16x64x576_S_d0_1_2 : S16x64x576.ReducesTo [0, 1, 2] S_

variable [Facts]

def fn {F : FTy → Type} [FloatOps F] (main_arg0 : FVec F S17408x3072 .bf16) (main_arg1 : FVec F S2x16x512x16x64 .f32) (main_arg2 : FVec F S2x16x512x16x64 .f32) (main_arg3 : FVec F S16x64x576 .f32) : IVec S_ 1 :=
  let main_v0 : FVec F S1024x2048 .bf16 := (extractStridedSlice S1024x2048 ![16384, 0] · slices_S17408x3072_S1024x2048_16384_0) main_arg0
  let main_v1 : FVec F S1024x2048 .bf16 := Host.absf main_v0
  let main_cst : FVec F S_ .bf16 := constant S_ .bf16 0x7F80#16
  let main_v2 : FVec F S1024x2048 .bf16 := broadcastInDim S1024x2048 ![] bcast_S_S1024x2048 main_cst
  let main_v3 : IVec S1024x2048 1 := cmpf .olt main_v1 main_v2
  let main_c : IVec S_ 1 := constantI S_ 1 1#1
  let main_v4 : IVec S_ 1 := (fun x v => Host.reduce IntOp.andi x v reducesTo_S1024x2048_S_d0_1 h_S_) main_v3 main_c
  let main_v5 : FVec F S1x16x512x16x64 .f32 := (extractStridedSlice S1x16x512x16x64 ![0, 0, 0, 0, 0] · slices_S2x16x512x16x64_S1x16x512x16x64_0_0_0_0_0) main_arg1
  let main_v6 : FVec F S16x512x16x64 .f32 := shapeCast S16x512x16x64 main_v5 shapeCasts_S1x16x512x16x64_S16x512x16x64
  let main_v7 : FVec F S16x512x16x64 .f32 := Host.absf main_v6
  let main_cst_0 : FVec F S_ .f32 := constant S_ .f32 0x7F800000#32
  let main_v8 : FVec F S16x512x16x64 .f32 := broadcastInDim S16x512x16x64 ![] bcast_S_S16x512x16x64 main_cst_0
  let main_v9 : IVec S16x512x16x64 1 := cmpf .olt main_v7 main_v8
  let main_c_1 : IVec S_ 1 := constantI S_ 1 1#1
  let main_v10 : IVec S_ 1 := (fun x v => Host.reduce IntOp.andi x v reducesTo_S16x512x16x64_S_d0_1_2_3 h_S_) main_v9 main_c_1
  let main_v11 : IVec S_ 1 := andi main_v4 main_v10
  let main_v12 : FVec F S16x64x576 .f32 := Host.absf main_arg3
  let main_cst_2 : FVec F S_ .f32 := constant S_ .f32 0x7F800000#32
  let main_v13 : FVec F S16x64x576 .f32 := broadcastInDim S16x64x576 ![] bcast_S_S16x64x576 main_cst_2
  let main_v14 : IVec S16x64x576 1 := cmpf .olt main_v12 main_v13
  let main_c_3 : IVec S_ 1 := constantI S_ 1 1#1
  let main_v15 : IVec S_ 1 := (fun x v => Host.reduce IntOp.andi x v reducesTo_S16x64x576_S_d0_1_2 h_S_) main_v14 main_c_3
  let main_v16 : IVec S_ 1 := andi main_v11 main_v15
  main_v16
-- ==== Pre_gated.lean ====
abbrev S17408x1024 : Shape := ⟨2, ![17408, 1024]⟩
abbrev S64x17408 : Shape := ⟨2, ![64, 17408]⟩
abbrev S2x64x1024x256 : Shape := ⟨4, ![2, 64, 1024, 256]⟩
abbrev S2x64x256x1024 : Shape := ⟨4, ![2, 64, 256, 1024]⟩
abbrev S2x1024x256 : Shape := ⟨3, ![2, 1024, 256]⟩
abbrev S2x256x1024 : Shape := ⟨3, ![2, 256, 1024]⟩
abbrev S2x1024 : Shape := ⟨2, ![2, 1024]⟩
abbrev S_ : Shape := ⟨0, ![]⟩

class Facts : Prop where
  bcast_S_S64x17408 : S_.BroadcastsInDim S64x17408 (![] : Fin 0 → Fin S64x17408.rank)
  reducesTo_S64x17408_S_d0_1 : S64x17408.ReducesTo [0, 1] S_
  h_S_ : 0 < S_.numel

variable [Facts]

def fn {F : FTy → Type} [FloatOps F] (main_arg0 : FVec F S17408x1024 .f32) (main_arg1 : FVec F S64x17408 .f32) (main_arg2 : FVec F S2x64x1024x256 .f32) (main_arg3 : FVec F S2x64x1024x256 .f32) (main_arg4 : FVec F S2x64x256x1024 .f32) (main_arg5 : FVec F S2x1024x256 .f32) (main_arg6 : FVec F S2x1024x256 .f32) (main_arg7 : FVec F S2x256x1024 .f32) (main_arg8 : FVec F S2x1024 .f32) (main_arg9 : FVec F S2x1024 .f32) : IVec S_ 1 :=
  let main_cst : FVec F S_ .f32 := constant S_ .f32 0x00000000#32
  let main_v0 : FVec F S64x17408 .f32 := broadcastInDim S64x17408 ![] bcast_S_S64x17408 main_cst
  let main_v1 : IVec S64x17408 1 := cmpf .oge main_arg1 main_v0
  let main_c : IVec S_ 1 := constantI S_ 1 1#1
  let main_v2 : IVec S_ 1 := (fun x v => Host.reduce IntOp.andi x v reducesTo_S64x17408_S_d0_1 h_S_) main_v1 main_c
  let main_cst_0 : FVec F S_ .f32 := constant S_ .f32 0x7F800000#32
  let main_v3 : FVec F S64x17408 .f32 := broadcastInDim S64x17408 ![] bcast_S_S64x17408 main_cst_0
  let main_v4 : IVec S64x17408 1 := cmpf .olt main_arg1 main_v3
  let main_c_1 : IVec S_ 1 := constantI S_ 1 1#1
  let main_v5 : IVec S_ 1 := (fun x v => Host.reduce IntOp.andi x v reducesTo_S64x17408_S_d0_1 h_S_) main_v4 main_c_1
  let main_v6 : IVec S_ 1 := andi main_v2 main_v5
  main_v6
-- ==== Pre_routed.lean ====
abbrev S17408x1024 : Shape := ⟨2, ![17408, 1024]⟩
abbrev S2x1024x64 : Shape := ⟨3, ![2, 1024, 64]⟩
abbrev S2x64 : Shape := ⟨2, ![2, 64]⟩
abbrev S_ : Shape := ⟨0, ![]⟩
abbrev S1x1024x64 : Shape := ⟨3, ![1, 1024, 64]⟩
abbrev S1024x64 : Shape := ⟨2, ![1024, 64]⟩
abbrev S1x64 : Shape := ⟨2, ![1, 64]⟩
abbrev S64 : Shape := ⟨1, ![64]⟩

class Facts : Prop where
  bcast_S_S17408x1024 : S_.BroadcastsInDim S17408x1024 (![] : Fin 0 → Fin S17408x1024.rank)
  reducesTo_S17408x1024_S_d0_1 : S17408x1024.ReducesTo [0, 1] S_
  h_S_ : 0 < S_.numel
  slices_S2x1024x64_S1x1024x64_0_0_0 : S2x1024x64.Slices ![0, 0, 0] S1x1024x64
  shapeCasts_S1x1024x64_S1024x64 : S1x1024x64.ShapeCasts S1024x64
  bcast_S_S1024x64 : S_.BroadcastsInDim S1024x64 (![] : Fin 0 → Fin S1024x64.rank)
  reducesTo_S1024x64_S_d0_1 : S1024x64.ReducesTo [0, 1] S_
  slices_S2x64_S1x64_0_0 : S2x64.Slices ![0, 0] S1x64
  shapeCasts_S1x64_S64 : S1x64.ShapeCasts S64
  bcast_S_S64 : S_.BroadcastsInDim S64 (![] : Fin 0 → Fin S64.rank)
  reducesTo_S64_S_d0 : S64.ReducesTo [0] S_

variable [Facts]

def fn {F : FTy → Type} [FloatOps F] (main_arg0 : FVec F S17408x1024 .f32) (main_arg1 : FVec F S2x1024x64 .f32) (main_arg2 : FVec F S2x64 .f32) : IVec S_ 1 :=
  let main_v0 : FVec F S17408x1024 .f32 := Host.absf main_arg0
  let main_cst : FVec F S_ .f32 := constant S_ .f32 0x7F800000#32
  let main_v1 : FVec F S17408x1024 .f32 := broadcastInDim S17408x1024 ![] bcast_S_S17408x1024 main_cst
  let main_v2 : IVec S17408x1024 1 := cmpf .olt main_v0 main_v1
  let main_c : IVec S_ 1 := constantI S_ 1 1#1
  let main_v3 : IVec S_ 1 := (fun x v => Host.reduce IntOp.andi x v reducesTo_S17408x1024_S_d0_1 h_S_) main_v2 main_c
  let main_v4 : FVec F S1x1024x64 .f32 := (extractStridedSlice S1x1024x64 ![0, 0, 0] · slices_S2x1024x64_S1x1024x64_0_0_0) main_arg1
  let main_v5 : FVec F S1024x64 .f32 := shapeCast S1024x64 main_v4 shapeCasts_S1x1024x64_S1024x64
  let main_v6 : FVec F S1024x64 .f32 := Host.absf main_v5
  let main_cst_0 : FVec F S_ .f32 := constant S_ .f32 0x7F800000#32
  let main_v7 : FVec F S1024x64 .f32 := broadcastInDim S1024x64 ![] bcast_S_S1024x64 main_cst_0
  let main_v8 : IVec S1024x64 1 := cmpf .olt main_v6 main_v7
  let main_c_1 : IVec S_ 1 := constantI S_ 1 1#1
  let main_v9 : IVec S_ 1 := (fun x v => Host.reduce IntOp.andi x v reducesTo_S1024x64_S_d0_1 h_S_) main_v8 main_c_1
  let main_v10 : IVec S_ 1 := andi main_v3 main_v9
  let main_v11 : FVec F S1x64 .f32 := (extractStridedSlice S1x64 ![0, 0] · slices_S2x64_S1x64_0_0) main_arg2
  let main_v12 : FVec F S64 .f32 := shapeCast S64 main_v11 shapeCasts_S1x64_S64
  let main_v13 : FVec F S64 .f32 := Host.absf main_v12
  let main_cst_2 : FVec F S_ .f32 := constant S_ .f32 0x7F800000#32
  let main_v14 : FVec F S64 .f32 := broadcastInDim S64 ![] bcast_S_S64 main_cst_2
  let main_v15 : IVec S64 1 := cmpf .olt main_v13 main_v14
  let main_c_3 : IVec S_ 1 := constantI S_ 1 1#1
  let main_v16 : IVec S_ 1 := (fun x v => Host.reduce IntOp.andi x v reducesTo_S64_S_d0 h_S_) main_v15 main_c_3
  let main_v17 : IVec S_ 1 := andi main_v10 main_v16
  main_v17
-- ==== Kernel.lean ====
abbrev S17408x3072 : Shape := ⟨2, ![17408, 3072]⟩
abbrev S2x16x512x16x64 : Shape := ⟨5, ![2, 16, 512, 16, 64]⟩
abbrev S16x64x576 : Shape := ⟨3, ![16, 64, 576]⟩
abbrev S2x16x16x64x512 : Shape := ⟨5, ![2, 16, 16, 64, 512]⟩
abbrev S1024x1024 : Shape := ⟨2, ![1024, 1024]⟩
abbrev S64x1024 : Shape := ⟨2, ![64, 1024]⟩
abbrev S1x1x16x64x512 : Shape := ⟨5, ![1, 1, 16, 64, 512]⟩
abbrev S64x128 : Shape := ⟨2, ![64, 128]⟩
abbrev S1x128 : Shape := ⟨2, ![1, 128]⟩
abbrev S1x1x1x64x512 : Shape := ⟨5, ![1, 1, 1, 64, 512]⟩
abbrev S64x512 : Shape := ⟨2, ![64, 512]⟩
abbrev S128x512 : Shape := ⟨2, ![128, 512]⟩
abbrev S1x64x576 : Shape := ⟨3, ![1, 64, 576]⟩
abbrev S64x576 : Shape := ⟨2, ![64, 576]⟩
abbrev S64x64 : Shape := ⟨2, ![64, 64]⟩
abbrev S64 : Shape := ⟨1, ![64]⟩
abbrev S64x1 : Shape := ⟨2, ![64, 1]⟩

abbrev nBuf : Space → Nat
  | .hbm => 7
  | .vmem => 13
  | .smem => 0
  | _ => 0

abbrev bufTy : (tb : Table) → Fin (tcTables nBuf tb) → BufTy
  | .hbm, ⟨0, _⟩ => ⟨S17408x3072, .bf16⟩
  | .hbm, ⟨1, _⟩ => ⟨S2x16x512x16x64, .f32⟩
  | .hbm, ⟨2, _⟩ => ⟨S2x16x512x16x64, .f32⟩
  | .hbm, ⟨3, _⟩ => ⟨S16x64x576, .f32⟩
  | .hbm, ⟨4, _⟩ => ⟨S2x16x16x64x512, .f32⟩
  | .hbm, ⟨5, _⟩ => ⟨S2x16x16x64x512, .f32⟩
  | .hbm, ⟨6, _⟩ => ⟨S1024x1024, .bf16⟩
  | .local _ .vmem, ⟨0, _⟩ => ⟨S64x1024, .bf16⟩
  | .local _ .vmem, ⟨1, _⟩ => ⟨S64x1024, .bf16⟩
  | .local _ .vmem, ⟨2, _⟩ => ⟨S64x1024, .bf16⟩
  | .local _ .vmem, ⟨3, _⟩ => ⟨S64x1024, .bf16⟩
  | .local _ .vmem, ⟨4, _⟩ => ⟨S64x1024, .bf16⟩
  | .local _ .vmem, ⟨5, _⟩ => ⟨S64x1024, .bf16⟩
  | .local _ .vmem, ⟨6, _⟩ => ⟨S1x1x16x64x512, .f32⟩
  | .local _ .vmem, ⟨7, _⟩ => ⟨S1x1x16x64x512, .f32⟩
  | .local _ .vmem, ⟨8, _⟩ => ⟨S1x1x16x64x512, .f32⟩
  | .local _ .vmem, ⟨9, _⟩ => ⟨S1x1x16x64x512, .f32⟩
  | .local _ .vmem, ⟨10, _⟩ => ⟨S16x64x576, .f32⟩
  | .local _ .vmem, ⟨11, _⟩ => ⟨S64x1024, .bf16⟩
  | .local _ .vmem, ⟨12, _⟩ => ⟨S64x1024, .bf16⟩
  | _, _ => ⟨S17408x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c256_i32 : BitVec 32 := 256#32
  let v0 : BitVec 32 := Scalar.addi c256_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c256_i32 : BitVec 32 := 256#32
  let v0 : BitVec 32 := Scalar.addi c256_i32 arg0
  let c2_i32 : BitVec 32 := 2#32
  let c0_i32 : BitVec 32 := 0#32
  ![v0.toNat, c2_i32.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x16x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x16x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x64x576 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S17408x3072 : Shape := ⟨2, ![17408, 3072]⟩
abbrev S2x16x512x16x64 : Shape := ⟨5, ![2, 16, 512, 16, 64]⟩
abbrev S16x64x576 : Shape := ⟨3, ![16, 64, 576]⟩
abbrev S1024x3072 : Shape := ⟨2, ![1024, 3072]⟩
abbrev S1024x1024 : Shape := ⟨2, ![1024, 1024]⟩
abbrev S16x64x16x64 : Shape := ⟨4, ![16, 64, 16, 64]⟩
abbrev S1x16x512x16x64 : Shape := ⟨5, ![1, 16, 512, 16, 64]⟩
abbrev S16x512x16x64 : Shape := ⟨4, ![16, 512, 16, 64]⟩
abbrev S16x576x16x64 : Shape := ⟨4, ![16, 576, 16, 64]⟩
abbrev S16x16x64x576 : Shape := ⟨4, ![16, 16, 64, 576]⟩
abbrev S1x16x64x576 : Shape := ⟨4, ![1, 16, 64, 576]⟩
abbrev S_ : Shape := ⟨0, ![]⟩
abbrev S16x16x64 : Shape := ⟨3, ![16, 16, 64]⟩
abbrev S16x16x64x1 : Shape := ⟨4, ![16, 16, 64, 1]⟩
abbrev S16x16x64x64 : Shape := ⟨4, ![16, 16, 64, 64]⟩

abbrev nBuf : Space → Nat
  | .hbm => 40
  | .vmem => 0
  | .smem => 0
  | _ => 0

abbrev bufTy : (tb : Table) → Fin (tcTables nBuf tb) → BufTy
  | .hbm, ⟨0, _⟩ => ⟨S17408x3072, .bf16⟩
  | .hbm, ⟨1, _⟩ => ⟨S2x16x512x16x64, .f32⟩
  | .hbm, ⟨2, _⟩ => ⟨S2x16x512x16x64, .f32⟩
  | .hbm, ⟨3, _⟩ => ⟨S16x64x576, .f32⟩
  | .hbm, ⟨4, _⟩ => ⟨S17408x3072, .f32⟩
  | .hbm, ⟨5, _⟩ => ⟨S1024x3072, .f32⟩
  | .hbm, ⟨6, _⟩ => ⟨S1024x1024, .f32⟩
  | .hbm, ⟨7, _⟩ => ⟨S16x64x16x64, .f32⟩
  | .hbm, ⟨8, _⟩ => ⟨S1024x1024, .f32⟩
  | .hbm, ⟨9, _⟩ => ⟨S16x64x16x64, .f32⟩
  | .hbm, ⟨10, _⟩ => ⟨S1024x1024, .f32⟩
  | .hbm, ⟨11, _⟩ => ⟨S16x64x16x64, .f32⟩
  | .hbm, ⟨12, _⟩ => ⟨S1x16x512x16x64, .f32⟩
  | .hbm, ⟨13, _⟩ => ⟨S16x512x16x64, .f32⟩
  | .hbm, ⟨14, _⟩ => ⟨S16x576x16x64, .f32⟩
  | .hbm, ⟨15, _⟩ => ⟨S1x16x512x16x64, .f32⟩
  | .hbm, ⟨16, _⟩ => ⟨S16x512x16x64, .f32⟩
  | .hbm, ⟨17, _⟩ => ⟨S16x576x16x64, .f32⟩
  | .hbm, ⟨18, _⟩ => ⟨S16x16x64x576, .f32⟩
  | .hbm, ⟨19, _⟩ => ⟨S1x16x64x576, .f32⟩
  | .hbm, ⟨20, _⟩ => ⟨S16x16x64x576, .f32⟩
  | .hbm, ⟨21, _⟩ => ⟨S16x16x64x576, .f32⟩
  | .hbm, ⟨22, _⟩ => ⟨S_, .f32⟩
  | .hbm, ⟨23, _⟩ => ⟨S16x16x64, .f32⟩
  | .hbm, ⟨24, _⟩ => ⟨S_, .f32⟩
  | .hbm, ⟨25, _⟩ => ⟨S16x16x64, .f32⟩
  | .hbm, ⟨26, _⟩ => ⟨S16x16x64, .f32⟩
  | .hbm, ⟨27, _⟩ => ⟨S16x16x64x1, .f32⟩
  | .hbm, ⟨28, _⟩ => ⟨S16x16x64x576, .f32⟩
  | .hbm, ⟨29, _⟩ => ⟨S16x16x64x576, .f32⟩
  | .hbm, ⟨30, _⟩ => ⟨S16x16x64x576, .f32⟩
  | .hbm, ⟨31, _⟩ => ⟨S_, .f32⟩
  | .hbm, ⟨32, _⟩ => ⟨S16x16x64, .f32⟩
  | .hbm, ⟨33, _⟩ => ⟨S16x16x64x1, .f32⟩
  | .hbm, ⟨34, _⟩ => ⟨S16x16x64x576, .f32⟩
  | .hbm, ⟨35, _⟩ => ⟨S16x16x64x576, .f32⟩
  | .hbm, ⟨36, _⟩ => ⟨S16x16x64x64, .f32⟩
  | .hbm, ⟨37, _⟩ => ⟨S16x64x16x64, .f32⟩
  | .hbm, ⟨38, _⟩ => ⟨S1024x1024, .f32⟩
  | .hbm, ⟨39, _⟩ => ⟨S1024x1024, .bf16⟩
  | _, _ => ⟨S17408x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_1 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]
-- ==== Kernel2.lean ====
abbrev S17408x1024 : Shape := ⟨2, ![17408, 1024]⟩
abbrev S64x17408 : Shape := ⟨2, ![64, 17408]⟩
abbrev S2x64x1024x256 : Shape := ⟨4, ![2, 64, 1024, 256]⟩
abbrev S2x64x256x1024 : Shape := ⟨4, ![2, 64, 256, 1024]⟩
abbrev S2x1024x256 : Shape := ⟨3, ![2, 1024, 256]⟩
abbrev S2x256x1024 : Shape := ⟨3, ![2, 256, 1024]⟩
abbrev S2x1024 : Shape := ⟨2, ![2, 1024]⟩
abbrev S17408x64 : Shape := ⟨2, ![17408, 64]⟩
abbrev S_ : Shape := ⟨0, ![]⟩
abbrev S17408x128 : Shape := ⟨2, ![17408, 128]⟩
abbrev S2x8x2048x1024 : Shape := ⟨4, ![2, 8, 2048, 1024]⟩
abbrev S1x1024x256 : Shape := ⟨3, ![1, 1024, 256]⟩
abbrev S1024x256 : Shape := ⟨2, ![1024, 256]⟩
abbrev S1024x512 : Shape := ⟨2, ![1024, 512]⟩
abbrev S1x256x1024 : Shape := ⟨3, ![1, 256, 1024]⟩
abbrev S256x1024 : Shape := ⟨2, ![256, 1024]⟩
abbrev S1x1024 : Shape := ⟨2, ![1, 1024]⟩
abbrev S1024 : Shape := ⟨1, ![1024]⟩
abbrev S512x1024 : Shape := ⟨2, ![512, 1024]⟩
abbrev S512x128 : Shape := ⟨2, ![512, 128]⟩
abbrev S1x8x1024x256 : Shape := ⟨4, ![1, 8, 1024, 256]⟩
abbrev S1x1x2048x1024 : Shape := ⟨4, ![1, 1, 2048, 1024]⟩
abbrev S1x1x1024x256 : Shape := ⟨4, ![1, 1, 1024, 256]⟩
abbrev S512x256 : Shape := ⟨2, ![512, 256]⟩
abbrev S512x1 : Shape := ⟨2, ![512, 1]⟩
abbrev S512x2048 : Shape := ⟨2, ![512, 2048]⟩
abbrev S2048x1024 : Shape := ⟨2, ![2048, 1024]⟩
abbrev S512x512 : Shape := ⟨2, ![512, 512]⟩
abbrev S512 : Shape := ⟨1, ![512]⟩

abbrev nBuf : Space → Nat
  | .hbm => 36
  | .vmem => 21
  | .smem => 0
  | _ => 0

abbrev bufTy : (tb : Table) → Fin (tcTables nBuf tb) → BufTy
  | .hbm, ⟨0, _⟩ => ⟨S17408x1024, .f32⟩
  | .hbm, ⟨1, _⟩ => ⟨S64x17408, .f32⟩
  | .hbm, ⟨2, _⟩ => ⟨S2x64x1024x256, .f32⟩
  | .hbm, ⟨3, _⟩ => ⟨S2x64x1024x256, .f32⟩
  | .hbm, ⟨4, _⟩ => ⟨S2x64x256x1024, .f32⟩
  | .hbm, ⟨5, _⟩ => ⟨S2x1024x256, .f32⟩
  | .hbm, ⟨6, _⟩ => ⟨S2x1024x256, .f32⟩
  | .hbm, ⟨7, _⟩ => ⟨S2x256x1024, .f32⟩
  | .hbm, ⟨8, _⟩ => ⟨S2x1024, .f32⟩
  | .hbm, ⟨9, _⟩ => ⟨S2x1024, .f32⟩
  | .hbm, ⟨10, _⟩ => ⟨S17408x1024, .bf16⟩
  | .hbm, ⟨11, _⟩ => ⟨S17408x64, .f32⟩
  | .hbm, ⟨12, _⟩ => ⟨S_, .i32⟩
  | .hbm, ⟨13, _⟩ => ⟨S_, .f32⟩
  | .hbm, ⟨14, _⟩ => ⟨S17408x128, .f32⟩
  | .hbm, ⟨15, _⟩ => ⟨S2x64x1024x256, .bf16⟩
  | .hbm, ⟨16, _⟩ => ⟨S2x64x1024x256, .bf16⟩
  | .hbm, ⟨17, _⟩ => ⟨S2x8x2048x1024, .f32⟩
  | .hbm, ⟨18, _⟩ => ⟨S2x8x2048x1024, .bf16⟩
  | .hbm, ⟨19, _⟩ => ⟨S1x1024x256, .f32⟩
  | .hbm, ⟨20, _⟩ => ⟨S1024x256, .f32⟩
  | .hbm, ⟨21, _⟩ => ⟨S1x1024x256, .f32⟩
  | .hbm, ⟨22, _⟩ => ⟨S1024x256, .f32⟩
  | .hbm, ⟨23, _⟩ => ⟨S1024x512, .f32⟩
  | .hbm, ⟨24, _⟩ => ⟨S1024x512, .bf16⟩
  | .hbm, ⟨25, _⟩ => ⟨S1x256x1024, .f32⟩
  | .hbm, ⟨26, _⟩ => ⟨S256x1024, .f32⟩
  | .hbm, ⟨27, _⟩ => ⟨S256x1024, .bf16⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S17408x1024, .f32⟩
  | .hbm, ⟨35, _⟩ => ⟨S17408x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x128, .f32⟩
  | .local _ .vmem, ⟨5, _⟩ => ⟨S512x128, .f32⟩
  | .local _ .vmem, ⟨6, _⟩ => ⟨S1x8x1024x256, .bf16⟩
  | .local _ .vmem, ⟨7, _⟩ => ⟨S1x8x1024x256, .bf16⟩
  | .local _ .vmem, ⟨8, _⟩ => ⟨S1x8x1024x256, .bf16⟩
  | .local _ .vmem, ⟨9, _⟩ => ⟨S1x8x1024x256, .bf16⟩
  | .local _ .vmem, ⟨10, _⟩ => ⟨S1x1x2048x1024, .bf16⟩
  | .local _ .vmem, ⟨11, _⟩ => ⟨S1x1x2048x1024, .bf16⟩
  | .local _ .vmem, ⟨12, _⟩ => ⟨S1024x512, .bf16⟩
  | .local _ .vmem, ⟨13, _⟩ => ⟨S256x1024, .bf16⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22_0 : Ref sig .tc := ⟨.hbm, 34, rfl⟩
abbrev main_v22_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![34, 8], ![false, false]⟩

def k0_cond3 (i : grid0.Coords) : BitVec 1 :=
  let arg1 : BitVec 32 := BitVec.ofNat 32 (i 1).val
  let c7_i32 : BitVec 32 := 7#32
  let v172 : BitVec 1 := Scalar.cmpi .eq arg1 c7_i32
  let v173 : BitVec 32 := Scalar.extui v172
  let c0_i32_112 : BitVec 32 := 0#32
  let v174 : BitVec 1 := Scalar.cmpi .ne v173 c0_i32_112
  v174

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x8x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference2Ideal.lean ====
abbrev S17408x1024 : Shape := ⟨2, ![17408, 1024]⟩
abbrev S64x17408 : Shape := ⟨2, ![64, 17408]⟩
abbrev S2x64x1024x256 : Shape := ⟨4, ![2, 64, 1024, 256]⟩
abbrev S2x64x256x1024 : Shape := ⟨4, ![2, 64, 256, 1024]⟩
abbrev S2x1024x256 : Shape := ⟨3, ![2, 1024, 256]⟩
abbrev S2x256x1024 : Shape := ⟨3, ![2, 256, 1024]⟩
abbrev S2x1024 : Shape := ⟨2, ![2, 1024]⟩
abbrev S1x64x1024x256 : Shape := ⟨4, ![1, 64, 1024, 256]⟩
abbrev S64x1024x256 : Shape := ⟨3, ![64, 1024, 256]⟩
abbrev S64x256x17408 : Shape := ⟨3, ![64, 256, 17408]⟩
abbrev S64x17408x256 : Shape := ⟨3, ![64, 17408, 256]⟩
abbrev S_ : Shape := ⟨0, ![]⟩
abbrev S64x17408x1 : Shape := ⟨3, ![64, 17408, 1]⟩
abbrev S1x64x256x1024 : Shape := ⟨4, ![1, 64, 256, 1024]⟩
abbrev S64x256x1024 : Shape := ⟨3, ![64, 256, 1024]⟩
abbrev S64x17408x1024 : Shape := ⟨3, ![64, 17408, 1024]⟩
abbrev S1x1024x256 : Shape := ⟨3, ![1, 1024, 256]⟩
abbrev S1024x256 : Shape := ⟨2, ![1024, 256]⟩
abbrev S17408x256 : Shape := ⟨2, ![17408, 256]⟩
abbrev S1x256x1024 : Shape := ⟨3, ![1, 256, 1024]⟩
abbrev S256x1024 : Shape := ⟨2, ![256, 1024]⟩
abbrev S17408 : Shape := ⟨1, ![17408]⟩
abbrev S17408x1 : Shape := ⟨2, ![17408, 1]⟩
abbrev S1x1024 : Shape := ⟨2, ![1, 1024]⟩
abbrev S1024 : Shape := ⟨1, ![1024]⟩

abbrev nBuf : Space → Nat
  | .hbm => 94
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S64x17408, .f32⟩
  | .hbm, ⟨2, _⟩ => ⟨S2x64x1024x256, .f32⟩
  | .hbm, ⟨3, _⟩ => ⟨S2x64x1024x256, .f32⟩
  | .hbm, ⟨4, _⟩ => ⟨S2x64x256x1024, .f32⟩
  | .hbm, ⟨5, _⟩ => ⟨S2x1024x256, .f32⟩
  | .hbm, ⟨6, _⟩ => ⟨S2x1024x256, .f32⟩
  | .hbm, ⟨7, _⟩ => ⟨S2x256x1024, .f32⟩
  | .hbm, ⟨8, _⟩ => ⟨S2x1024, .f32⟩
  | .hbm, ⟨9, _⟩ => ⟨S2x1024, .f32⟩
  | .hbm, ⟨10, _⟩ => ⟨S1x64x1024x256, .f32⟩
  | .hbm, ⟨11, _⟩ => ⟨S64x1024x256, .f32⟩
  | .hbm, ⟨12, _⟩ => ⟨S64x256x17408, .f32⟩
  | .hbm, ⟨13, _⟩ => ⟨S64x17408x256, .f32⟩
  | .hbm, ⟨14, _⟩ => ⟨S64x17408x256, .f32⟩
  | .hbm, ⟨15, _⟩ => ⟨S64x17408x256, .f32⟩
  | .hbm, ⟨16, _⟩ => ⟨S_, .f32⟩
  | .hbm, ⟨17, _⟩ => ⟨S64x17408x256, .f32⟩
  | .hbm, ⟨18, _⟩ => ⟨S64x17408x256, .f32⟩
  | .hbm, ⟨19, _⟩ => ⟨S_, .f32⟩
  | .hbm, ⟨20, _⟩ => ⟨S64x17408x256, .f32⟩
  | .hbm, ⟨21, _⟩ => ⟨S64x17408x256, .f32⟩
  | .hbm, ⟨22, _⟩ => ⟨S64x17408x256, .f32⟩
  | .hbm, ⟨23, _⟩ => ⟨S1x64x1024x256, .f32⟩
  | .hbm, ⟨24, _⟩ => ⟨S64x1024x256, .f32⟩
  | .hbm, ⟨25, _⟩ => ⟨S64x256x17408, .f32⟩
  | .hbm, ⟨26, _⟩ => ⟨S64x17408x256, .f32⟩
  | .hbm, ⟨27, _⟩ => ⟨S64x17408x256, .f32⟩
  | .hbm, ⟨28, _⟩ => ⟨S64x17408x1, .f32⟩
  | .hbm, ⟨29, _⟩ => ⟨S1x64x256x1024, .f32⟩
  | .hbm, ⟨30, _⟩ => ⟨S64x256x1024, .f32⟩
  | .hbm, ⟨31, _⟩ => ⟨S64x17408x1024, .f32⟩
  | .hbm, ⟨32, _⟩ => ⟨S64x17408x1024, .f32⟩
  | .hbm, ⟨33, _⟩ => ⟨S64x17408x1024, .f32⟩
  | .hbm, ⟨34, _⟩ => ⟨S_, .f32⟩
  | .hbm, ⟨35, _⟩ => ⟨S17408x1024, .f32⟩
  | .hbm, ⟨36, _⟩ => ⟨S1x1024x256, .f32⟩
  | .hbm, ⟨37, _⟩ => ⟨S1024x256, .f32⟩
  | .hbm, ⟨38, _⟩ => ⟨S17408x256, .f32⟩
  | .hbm, ⟨39, _⟩ => ⟨S17408x256, .f32⟩
  | .hbm, ⟨40, _⟩ => ⟨S17408x256, .f32⟩
  | .hbm, ⟨41, _⟩ => ⟨S_, .f32⟩
  | .hbm, ⟨42, _⟩ => ⟨S17408x256, .f32⟩
  | .hbm, ⟨43, _⟩ => ⟨S17408x256, .f32⟩
  | .hbm, ⟨44, _⟩ => ⟨S_, .f32⟩
  | .hbm, ⟨45, _⟩ => ⟨S17408x256, .f32⟩
  | .hbm, ⟨46, _⟩ => ⟨S17408x256, .f32⟩
  | .hbm, ⟨47, _⟩ => ⟨S17408x256, .f32⟩
  | .hbm, ⟨48, _⟩ => ⟨S1x1024x256, .f32⟩
  | .hbm, ⟨49, _⟩ => ⟨S1024x256, .f32⟩
  | .hbm, ⟨50, _⟩ => ⟨S17408x256, .f32⟩
  | .hbm, ⟨51, _⟩ => ⟨S17408x256, .f32⟩
  | .hbm, ⟨52, _⟩ => ⟨S1x256x1024, .f32⟩
  | .hbm, ⟨53, _⟩ => ⟨S256x1024, .f32⟩
  | .hbm, ⟨54, _⟩ => ⟨S17408x1024, .f32⟩
  | .hbm, ⟨55, _⟩ => ⟨S_, .f32⟩
  | .hbm, ⟨56, _⟩ => ⟨S17408x1024, .f32⟩
  | .hbm, ⟨57, _⟩ => ⟨S17408x1024, .f32⟩
  | .hbm, ⟨58, _⟩ => ⟨S17408x1024, .f32⟩
  | .hbm, ⟨59, _⟩ => ⟨S17408x1024, .f32⟩
  | .hbm, ⟨60, _⟩ => ⟨S_, .f32⟩
  | .hbm, ⟨61, _⟩ => ⟨S17408, .f32⟩
  | .hbm, ⟨62, _⟩ => ⟨S17408x1, .f32⟩
  | .hbm, ⟨63, _⟩ => ⟨S_, .f32⟩
  | .hbm, ⟨64, _⟩ => ⟨S17408x1, .f32⟩
  | .hbm, ⟨65, _⟩ => ⟨S17408x1, .f32⟩
  | .hbm, ⟨66, _⟩ => ⟨S17408x1024, .f32⟩
  | .hbm, ⟨67, _⟩ => ⟨S17408x1024, .f32⟩
  | .hbm, ⟨68, _⟩ => ⟨S17408x1024, .f32⟩
  | .hbm, ⟨69, _⟩ => ⟨S_, .f32⟩
  | .hbm, ⟨70, _⟩ => ⟨S17408, .f32⟩
  | .hbm, ⟨71, _⟩ => ⟨S17408x1, .f32⟩
  | .hbm, ⟨72, _⟩ => ⟨S_, .f32⟩
  | .hbm, ⟨73, _⟩ => ⟨S17408x1, .f32⟩
  | .hbm, ⟨74, _⟩ => ⟨S17408x1, .f32⟩
  | .hbm, ⟨75, _⟩ => ⟨S17408x1024, .f32⟩
  | .hbm, ⟨76, _⟩ => ⟨S17408x1024, .f32⟩
  | .hbm, ⟨77, _⟩ => ⟨S_, .f32⟩
  | .hbm, ⟨78, _⟩ => ⟨S17408x1, .f32⟩
  | .hbm, ⟨79, _⟩ => ⟨S17408x1, .f32⟩
  | .hbm, ⟨80, _⟩ => ⟨S17408x1, .f32⟩
  | .hbm, ⟨81, _⟩ => ⟨S17408x1024, .f32⟩
  | .hbm, ⟨82, _⟩ => ⟨S17408x1024, .f32⟩
  | .hbm, ⟨83, _⟩ => ⟨S1x1024, .f32⟩
  | .hbm, ⟨84, _⟩ => ⟨S1024, .f32⟩
  | .hbm, ⟨85, _⟩ => ⟨S1x1024, .f32⟩
  | .hbm, ⟨86, _⟩ => ⟨S17408x1024, .f32⟩
  | .hbm, ⟨87, _⟩ => ⟨S17408x1024, .f32⟩
  | .hbm, ⟨88, _⟩ => ⟨S1x1024, .f32⟩
  | .hbm, ⟨89, _⟩ => ⟨S1024, .f32⟩
  | .hbm, ⟨90, _⟩ => ⟨S1x1024, .f32⟩
  | .hbm, ⟨91, _⟩ => ⟨S17408x1024, .f32⟩
  | .hbm, ⟨92, _⟩ => ⟨S17408x1024, .f32⟩
  | .hbm, ⟨93, _⟩ => ⟨S17408x1024, .bf16⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_0 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_1 : Ref sig .tc := ⟨.hbm, 60, rfl⟩
abbrev main_v32 : Ref sig .tc := ⟨.hbm, 61, rfl⟩
abbrev main_v33 : Ref sig .tc := ⟨.hbm, 62, rfl⟩
abbrev main_cst_2 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_3 : Ref sig .tc := ⟨.hbm, 69, rfl⟩
abbrev main_v39 : Ref sig .tc := ⟨.hbm, 70, rfl⟩
abbrev main_v40 : Ref sig .tc := ⟨.hbm, 71, rfl⟩
abbrev main_cst_4 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_5 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩

abbrev nD : Nat := 1
abbrev τ : Topo := Topo.v7x

variable {F : FTy → Type} [FloatOps F]
-- ==== Kernel3.lean ====
abbrev S4x4096x1024 : Shape := ⟨3, ![4, 4096, 1024]⟩
abbrev S16x64x1024 : Shape := ⟨3, ![16, 64, 1024]⟩
abbrev S2x1024x11280 : Shape := ⟨3, ![2, 1024, 11280]⟩
abbrev S1x1024x11280 : Shape := ⟨3, ![1, 1024, 11280]⟩
abbrev S1024x11280 : Shape := ⟨2, ![1024, 11280]⟩
abbrev S1024x1024 : Shape := ⟨2, ![1024, 1024]⟩
abbrev S1024x2048 : Shape := ⟨2, ![1024, 2048]⟩
abbrev S1024x16 : Shape := ⟨2, ![1024, 16]⟩
abbrev S1024x3072 : Shape := ⟨2, ![1024, 3072]⟩
abbrev S1024x8192 : Shape := ⟨2, ![1024, 8192]⟩
abbrev S16384x1024 : Shape := ⟨2, ![16384, 1024]⟩
abbrev S17408x1024 : Shape := ⟨2, ![17408, 1024]⟩
abbrev S17408x8192 : Shape := ⟨2, ![17408, 8192]⟩

abbrev nBuf : Space → Nat
  | .hbm => 22
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S16x64x1024, .f32⟩
  | .hbm, ⟨2, _⟩ => ⟨S2x1024x11280, .f32⟩
  | .hbm, ⟨3, _⟩ => ⟨S2x1024x11280, .bf16⟩
  | .hbm, ⟨4, _⟩ => ⟨S1x1024x11280, .bf16⟩
  | .hbm, ⟨5, _⟩ => ⟨S1024x11280, .bf16⟩
  | .hbm, ⟨6, _⟩ => ⟨S1024x1024, .bf16⟩
  | .hbm, ⟨7, _⟩ => ⟨S1024x2048, .bf16⟩
  | .hbm, ⟨8, _⟩ => ⟨S1024x16, .bf16⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1024x3072, .bf16⟩
  | .hbm, ⟨15, _⟩ => ⟨S1024x8192, .bf16⟩
  | .hbm, ⟨16, _⟩ => ⟨S16384x1024, .f32⟩
  | .hbm, ⟨17, _⟩ => ⟨S16384x1024, .bf16⟩
  | .hbm, ⟨18, _⟩ => ⟨S1024x1024, .f32⟩
  | .hbm, ⟨19, _⟩ => ⟨S1024x1024, .bf16⟩
  | .hbm, ⟨20, _⟩ => ⟨S17408x1024, .bf16⟩
  | .hbm, ⟨21, _⟩ => ⟨S17408x8192, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4x4096x1024 : Shape := ⟨3, ![4, 4096, 1024]⟩
abbrev S16x64x1024 : Shape := ⟨3, ![16, 64, 1024]⟩
abbrev S2x1024x11280 : Shape := ⟨3, ![2, 1024, 11280]⟩
abbrev S16384x1024 : Shape := ⟨2, ![16384, 1024]⟩
abbrev S1024x1024 : Shape := ⟨2, ![1024, 1024]⟩
abbrev S17408x1024 : Shape := ⟨2, ![17408, 1024]⟩
abbrev S1x1024x11280 : Shape := ⟨3, ![1, 1024, 11280]⟩
abbrev S1024x11280 : Shape := ⟨2, ![1024, 11280]⟩
abbrev S17408x11280 : Shape := ⟨2, ![17408, 11280]⟩
abbrev S17408x2048 : Shape := ⟨2, ![17408, 2048]⟩
abbrev S17408x16 : Shape := ⟨2, ![17408, 16]⟩
abbrev S17408x3072 : Shape := ⟨2, ![17408, 3072]⟩
abbrev S17408x8192 : Shape := ⟨2, ![17408, 8192]⟩

abbrev nBuf : Space → Nat
  | .hbm => 19
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S16x64x1024, .f32⟩
  | .hbm, ⟨2, _⟩ => ⟨S2x1024x11280, .f32⟩
  | .hbm, ⟨3, _⟩ => ⟨S16384x1024, .f32⟩
  | .hbm, ⟨4, _⟩ => ⟨S1024x1024, .f32⟩
  | .hbm, ⟨5, _⟩ => ⟨S17408x1024, .f32⟩
  | .hbm, ⟨6, _⟩ => ⟨S1x1024x11280, .f32⟩
  | .hbm, ⟨7, _⟩ => ⟨S1024x11280, .f32⟩
  | .hbm, ⟨8, _⟩ => ⟨S17408x11280, .f32⟩
  | .hbm, ⟨9, _⟩ => ⟨S17408x1024, .f32⟩
  | .hbm, ⟨10, _⟩ => ⟨S17408x2048, .f32⟩
  | .hbm, ⟨11, _⟩ => ⟨S17408x16, .f32⟩
  | .hbm, ⟨12, _⟩ => ⟨S17408x1024, .f32⟩
  | .hbm, ⟨13, _⟩ => ⟨S17408x1024, .f32⟩
  | .hbm, ⟨14, _⟩ => ⟨S17408x1024, .f32⟩
  | .hbm, ⟨15, _⟩ => ⟨S17408x1024, .f32⟩
  | .hbm, ⟨16, _⟩ => ⟨S17408x1024, .f32⟩
  | .hbm, ⟨17, _⟩ => ⟨S17408x3072, .f32⟩
  | .hbm, ⟨18, _⟩ => ⟨S17408x8192, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel4.lean ====
abbrev S4x4096x1024 : Shape := ⟨3, ![4, 4096, 1024]⟩
abbrev S16x64x1024 : Shape := ⟨3, ![16, 64, 1024]⟩
abbrev S2x1024x11280 : Shape := ⟨3, ![2, 1024, 11280]⟩
abbrev S1x1024x11280 : Shape := ⟨3, ![1, 1024, 11280]⟩
abbrev S1024x11280 : Shape := ⟨2, ![1024, 11280]⟩
abbrev S1024x1024 : Shape := ⟨2, ![1024, 1024]⟩
abbrev S1024x2048 : Shape := ⟨2, ![1024, 2048]⟩
abbrev S1024x16 : Shape := ⟨2, ![1024, 16]⟩
abbrev S1024x3072 : Shape := ⟨2, ![1024, 3072]⟩
abbrev S_ : Shape := ⟨0, ![]⟩
abbrev S16384x1024 : Shape := ⟨2, ![16384, 1024]⟩
abbrev S17408x1024 : Shape := ⟨2, ![17408, 1024]⟩
abbrev S17408x3072 : Shape := ⟨2, ![17408, 3072]⟩

abbrev nBuf : Space → Nat
  | .hbm => 25
  | .vmem => 5
  | .smem => 0
  | _ => 0

abbrev bufTy : (tb : Table) → Fin (tcTables nBuf tb) → BufTy
  | .hbm, ⟨0, _⟩ => ⟨S4x4096x1024, .f32⟩
  | .hbm, ⟨1, _⟩ => ⟨S16x64x1024, .f32⟩
  | .hbm, ⟨2, _⟩ => ⟨S2x1024x11280, .f32⟩
  | .hbm, ⟨3, _⟩ => ⟨S2x1024x11280, .bf16⟩
  | .hbm, ⟨4, _⟩ => ⟨S1x1024x11280, .bf16⟩
  | .hbm, ⟨5, _⟩ => ⟨S1024x11280, .bf16⟩
  | .hbm, ⟨6, _⟩ => ⟨S1024x1024, .bf16⟩
  | .hbm, ⟨7, _⟩ => ⟨S1024x2048, .bf16⟩
  | .hbm, ⟨8, _⟩ => ⟨S1024x16, .bf16⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1024x3072, .bf16⟩
  | .hbm, ⟨15, _⟩ => ⟨S_, .bf16⟩
  | .hbm, ⟨16, _⟩ => ⟨S1024x1024, .bf16⟩
  | .hbm, ⟨17, _⟩ => ⟨S1024x1024, .bf16⟩
  | .hbm, ⟨18, _⟩ => ⟨S1024x3072, .bf16⟩
  | .hbm, ⟨19, _⟩ => ⟨S16384x1024, .f32⟩
  | .hbm, ⟨20, _⟩ => ⟨S16384x1024, .bf16⟩
  | .hbm, ⟨21, _⟩ => ⟨S1024x1024, .f32⟩
  | .hbm, ⟨22, _⟩ => ⟨S1024x1024, .bf16⟩
  | .hbm, ⟨23, _⟩ => ⟨S17408x1024, .bf16⟩
  | .hbm, ⟨24, _⟩ => ⟨S17408x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x3072, .bf16⟩
  | .local _ .vmem, ⟨3, _⟩ => ⟨S1024x3072, .bf16⟩
  | .local _ .vmem, ⟨4, _⟩ => ⟨S1024x3072, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![17, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4x4096x1024 : Shape := ⟨3, ![4, 4096, 1024]⟩
abbrev S16x64x1024 : Shape := ⟨3, ![16, 64, 1024]⟩
abbrev S2x1024x11280 : Shape := ⟨3, ![2, 1024, 11280]⟩
abbrev S16384x1024 : Shape := ⟨2, ![16384, 1024]⟩
abbrev S1024x1024 : Shape := ⟨2, ![1024, 1024]⟩
abbrev S17408x1024 : Shape := ⟨2, ![17408, 1024]⟩
abbrev S1x1024x11280 : Shape := ⟨3, ![1, 1024, 11280]⟩
abbrev S1024x11280 : Shape := ⟨2, ![1024, 11280]⟩
abbrev S17408x11280 : Shape := ⟨2, ![17408, 11280]⟩
abbrev S17408x2048 : Shape := ⟨2, ![17408, 2048]⟩
abbrev S17408x16 : Shape := ⟨2, ![17408, 16]⟩
abbrev S17408x3072 : Shape := ⟨2, ![17408, 3072]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S16x64x1024, .f32⟩
  | .hbm, ⟨2, _⟩ => ⟨S2x1024x11280, .f32⟩
  | .hbm, ⟨3, _⟩ => ⟨S16384x1024, .f32⟩
  | .hbm, ⟨4, _⟩ => ⟨S1024x1024, .f32⟩
  | .hbm, ⟨5, _⟩ => ⟨S17408x1024, .f32⟩
  | .hbm, ⟨6, _⟩ => ⟨S1x1024x11280, .f32⟩
  | .hbm, ⟨7, _⟩ => ⟨S1024x11280, .f32⟩
  | .hbm, ⟨8, _⟩ => ⟨S17408x11280, .f32⟩
  | .hbm, ⟨9, _⟩ => ⟨S17408x1024, .f32⟩
  | .hbm, ⟨10, _⟩ => ⟨S17408x2048, .f32⟩
  | .hbm, ⟨11, _⟩ => ⟨S17408x16, .f32⟩
  | .hbm, ⟨12, _⟩ => ⟨S17408x1024, .f32⟩
  | .hbm, ⟨13, _⟩ => ⟨S17408x1024, .f32⟩
  | .hbm, ⟨14, _⟩ => ⟨S17408x1024, .f32⟩
  | .hbm, ⟨15, _⟩ => ⟨S17408x1024, .f32⟩
  | .hbm, ⟨16, _⟩ => ⟨S17408x1024, .f32⟩
  | .hbm, ⟨17, _⟩ => ⟨S17408x3072, .f32⟩
  | .hbm, ⟨18, _⟩ => ⟨S_, .f32⟩
  | .hbm, ⟨19, _⟩ => ⟨S17408x1024, .f32⟩
  | .hbm, ⟨20, _⟩ => ⟨S17408x1024, .f32⟩
  | .hbm, ⟨21, _⟩ => ⟨S17408x3072, .f32⟩
  | .hbm, ⟨22, _⟩ => ⟨S17408x3072, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== Kernel5.lean ====
abbrev S4x4096x1024 : Shape := ⟨3, ![4, 4096, 1024]⟩
abbrev S16x64x1024 : Shape := ⟨3, ![16, 64, 1024]⟩
abbrev S2x1024x11280 : Shape := ⟨3, ![2, 1024, 11280]⟩
abbrev S1x1024x11280 : Shape := ⟨3, ![1, 1024, 11280]⟩
abbrev S1024x11280 : Shape := ⟨2, ![1024, 11280]⟩
abbrev S1024x1024 : Shape := ⟨2, ![1024, 1024]⟩
abbrev S1024x2048 : Shape := ⟨2, ![1024, 2048]⟩
abbrev S1024x16 : Shape := ⟨2, ![1024, 16]⟩
abbrev S1024x3072 : Shape := ⟨2, ![1024, 3072]⟩
abbrev S_ : Shape := ⟨0, ![]⟩
abbrev S1024x128 : Shape := ⟨2, ![1024, 128]⟩
abbrev S16384x1024 : Shape := ⟨2, ![16384, 1024]⟩
abbrev S17408x1024 : Shape := ⟨2, ![17408, 1024]⟩
abbrev S17408x128 : Shape := ⟨2, ![17408, 128]⟩

abbrev nBuf : Space → Nat
  | .hbm => 24
  | .vmem => 5
  | .smem => 0
  | _ => 0

abbrev bufTy : (tb : Table) → Fin (tcTables nBuf tb) → BufTy
  | .hbm, ⟨0, _⟩ => ⟨S4x4096x1024, .f32⟩
  | .hbm, ⟨1, _⟩ => ⟨S16x64x1024, .f32⟩
  | .hbm, ⟨2, _⟩ => ⟨S2x1024x11280, .f32⟩
  | .hbm, ⟨3, _⟩ => ⟨S2x1024x11280, .bf16⟩
  | .hbm, ⟨4, _⟩ => ⟨S1x1024x11280, .bf16⟩
  | .hbm, ⟨5, _⟩ => ⟨S1024x11280, .bf16⟩
  | .hbm, ⟨6, _⟩ => ⟨S1024x1024, .bf16⟩
  | .hbm, ⟨7, _⟩ => ⟨S1024x2048, .bf16⟩
  | .hbm, ⟨8, _⟩ => ⟨S1024x16, .bf16⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1024x3072, .bf16⟩
  | .hbm, ⟨15, _⟩ => ⟨S_, .i32⟩
  | .hbm, ⟨16, _⟩ => ⟨S_, .bf16⟩
  | .hbm, ⟨17, _⟩ => ⟨S1024x128, .bf16⟩
  | .hbm, ⟨18, _⟩ => ⟨S16384x1024, .f32⟩
  | .hbm, ⟨19, _⟩ => ⟨S16384x1024, .bf16⟩
  | .hbm, ⟨20, _⟩ => ⟨S1024x1024, .f32⟩
  | .hbm, ⟨21, _⟩ => ⟨S1024x1024, .bf16⟩
  | .hbm, ⟨22, _⟩ => ⟨S17408x1024, .bf16⟩
  | .hbm, ⟨23, _⟩ => ⟨S17408x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_call0_v0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![17, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4x4096x1024 : Shape := ⟨3, ![4, 4096, 1024]⟩
abbrev S16x64x1024 : Shape := ⟨3, ![16, 64, 1024]⟩
abbrev S2x1024x11280 : Shape := ⟨3, ![2, 1024, 11280]⟩
abbrev S16384x1024 : Shape := ⟨2, ![16384, 1024]⟩
abbrev S1024x1024 : Shape := ⟨2, ![1024, 1024]⟩
abbrev S17408x1024 : Shape := ⟨2, ![17408, 1024]⟩
abbrev S1x1024x11280 : Shape := ⟨3, ![1, 1024, 11280]⟩
abbrev S1024x11280 : Shape := ⟨2, ![1024, 11280]⟩
abbrev S17408x11280 : Shape := ⟨2, ![17408, 11280]⟩
abbrev S17408x2048 : Shape := ⟨2, ![17408, 2048]⟩
abbrev S17408x16 : Shape := ⟨2, ![17408, 16]⟩
abbrev S17408x3072 : Shape := ⟨2, ![17408, 3072]⟩
abbrev S_ : Shape := ⟨0, ![]⟩
abbrev S17408x128 : Shape := ⟨2, ![17408, 128]⟩

abbrev nBuf : Space → Nat
  | .hbm => 21
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S16x64x1024, .f32⟩
  | .hbm, ⟨2, _⟩ => ⟨S2x1024x11280, .f32⟩
  | .hbm, ⟨3, _⟩ => ⟨S16384x1024, .f32⟩
  | .hbm, ⟨4, _⟩ => ⟨S1024x1024, .f32⟩
  | .hbm, ⟨5, _⟩ => ⟨S17408x1024, .f32⟩
  | .hbm, ⟨6, _⟩ => ⟨S1x1024x11280, .f32⟩
  | .hbm, ⟨7, _⟩ => ⟨S1024x11280, .f32⟩
  | .hbm, ⟨8, _⟩ => ⟨S17408x11280, .f32⟩
  | .hbm, ⟨9, _⟩ => ⟨S17408x1024, .f32⟩
  | .hbm, ⟨10, _⟩ => ⟨S17408x2048, .f32⟩
  | .hbm, ⟨11, _⟩ => ⟨S17408x16, .f32⟩
  | .hbm, ⟨12, _⟩ => ⟨S17408x1024, .f32⟩
  | .hbm, ⟨13, _⟩ => ⟨S17408x1024, .f32⟩
  | .hbm, ⟨14, _⟩ => ⟨S17408x1024, .f32⟩
  | .hbm, ⟨15, _⟩ => ⟨S17408x1024, .f32⟩
  | .hbm, ⟨16, _⟩ => ⟨S17408x1024, .f32⟩
  | .hbm, ⟨17, _⟩ => ⟨S17408x3072, .f32⟩
  | .hbm, ⟨18, _⟩ => ⟨S_, .i32⟩
  | .hbm, ⟨19, _⟩ => ⟨S_, .f32⟩
  | .hbm, ⟨20, _⟩ => ⟨S17408x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c : Ref sig .tc := ⟨.hbm, 18, rfl⟩
abbrev main_call0_v0 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel6.lean ====
abbrev S4x4096x1024 : Shape := ⟨3, ![4, 4096, 1024]⟩
abbrev S16x64x1024 : Shape := ⟨3, ![16, 64, 1024]⟩
abbrev S2x1024x11280 : Shape := ⟨3, ![2, 1024, 11280]⟩
abbrev S1x1024x11280 : Shape := ⟨3, ![1, 1024, 11280]⟩
abbrev S1024x11280 : Shape := ⟨2, ![1024, 11280]⟩
abbrev S1024x1024 : Shape := ⟨2, ![1024, 1024]⟩
abbrev S1024x2048 : Shape := ⟨2, ![1024, 2048]⟩
abbrev S1024x16 : Shape := ⟨2, ![1024, 16]⟩
abbrev S1024x3072 : Shape := ⟨2, ![1024, 3072]⟩
abbrev S16384x1024 : Shape := ⟨2, ![16384, 1024]⟩
abbrev S17408x1024 : Shape := ⟨2, ![17408, 1024]⟩
abbrev S512x1024 : Shape := ⟨2, ![512, 1024]⟩
abbrev S3072x1024 : Shape := ⟨2, ![3072, 1024]⟩
abbrev S3072x2048 : Shape := ⟨2, ![3072, 2048]⟩

abbrev nBuf : Space → Nat
  | .hbm => 28
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S16x64x1024, .f32⟩
  | .hbm, ⟨2, _⟩ => ⟨S2x1024x11280, .f32⟩
  | .hbm, ⟨3, _⟩ => ⟨S2x1024x11280, .bf16⟩
  | .hbm, ⟨4, _⟩ => ⟨S1x1024x11280, .bf16⟩
  | .hbm, ⟨5, _⟩ => ⟨S1024x11280, .bf16⟩
  | .hbm, ⟨6, _⟩ => ⟨S1024x1024, .bf16⟩
  | .hbm, ⟨7, _⟩ => ⟨S1024x2048, .bf16⟩
  | .hbm, ⟨8, _⟩ => ⟨S1024x16, .bf16⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1024x3072, .bf16⟩
  | .hbm, ⟨15, _⟩ => ⟨S1024x2048, .bf16⟩
  | .hbm, ⟨16, _⟩ => ⟨S16384x1024, .f32⟩
  | .hbm, ⟨17, _⟩ => ⟨S16384x1024, .bf16⟩
  | .hbm, ⟨18, _⟩ => ⟨S1024x1024, .f32⟩
  | .hbm, ⟨19, _⟩ => ⟨S1024x1024, .bf16⟩
  | .hbm, ⟨20, _⟩ => ⟨S17408x1024, .bf16⟩
  | .hbm, ⟨21, _⟩ => ⟨S512x1024, .bf16⟩
  | .hbm, ⟨22, _⟩ => ⟨S512x1024, .bf16⟩
  | .hbm, ⟨23, _⟩ => ⟨S512x1024, .bf16⟩
  | .hbm, ⟨24, _⟩ => ⟨S512x1024, .bf16⟩
  | .hbm, ⟨25, _⟩ => ⟨S1024x1024, .bf16⟩
  | .hbm, ⟨26, _⟩ => ⟨S3072x1024, .bf16⟩
  | .hbm, ⟨27, _⟩ => ⟨S3072x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4x4096x1024 : Shape := ⟨3, ![4, 4096, 1024]⟩
abbrev S16x64x1024 : Shape := ⟨3, ![16, 64, 1024]⟩
abbrev S2x1024x11280 : Shape := ⟨3, ![2, 1024, 11280]⟩
abbrev S1x1024x11280 : Shape := ⟨3, ![1, 1024, 11280]⟩
abbrev S1024x11280 : Shape := ⟨2, ![1024, 11280]⟩
abbrev S4x4096x11280 : Shape := ⟨3, ![4, 4096, 11280]⟩
abbrev S4x4096x2048 : Shape := ⟨3, ![4, 4096, 2048]⟩
abbrev S4x4096x16 : Shape := ⟨3, ![4, 4096, 16]⟩
abbrev S4x4096x3072 : Shape := ⟨3, ![4, 4096, 3072]⟩
abbrev S4x512x1024 : Shape := ⟨3, ![4, 512, 1024]⟩
abbrev S2048x1024 : Shape := ⟨2, ![2048, 1024]⟩
abbrev S16x64x11280 : Shape := ⟨3, ![16, 64, 11280]⟩
abbrev S16x64x2048 : Shape := ⟨3, ![16, 64, 2048]⟩
abbrev S16x64x16 : Shape := ⟨3, ![16, 64, 16]⟩
abbrev S16x64x3072 : Shape := ⟨3, ![16, 64, 3072]⟩
abbrev S1024x1024 : Shape := ⟨2, ![1024, 1024]⟩
abbrev S3072x1024 : Shape := ⟨2, ![3072, 1024]⟩
abbrev S3072x2048 : Shape := ⟨2, ![3072, 2048]⟩

abbrev nBuf : Space → Nat
  | .hbm => 36
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S16x64x1024, .f32⟩
  | .hbm, ⟨2, _⟩ => ⟨S2x1024x11280, .f32⟩
  | .hbm, ⟨3, _⟩ => ⟨S1x1024x11280, .f32⟩
  | .hbm, ⟨4, _⟩ => ⟨S1024x11280, .f32⟩
  | .hbm, ⟨5, _⟩ => ⟨S4x4096x11280, .f32⟩
  | .hbm, ⟨6, _⟩ => ⟨S4x4096x1024, .f32⟩
  | .hbm, ⟨7, _⟩ => ⟨S4x4096x2048, .f32⟩
  | .hbm, ⟨8, _⟩ => ⟨S4x4096x16, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S4x4096x1024, .f32⟩
  | .hbm, ⟨13, _⟩ => ⟨S4x4096x1024, .f32⟩
  | .hbm, ⟨14, _⟩ => ⟨S4x4096x3072, .f32⟩
  | .hbm, ⟨15, _⟩ => ⟨S4x512x1024, .f32⟩
  | .hbm, ⟨16, _⟩ => ⟨S2048x1024, .f32⟩
  | .hbm, ⟨17, _⟩ => ⟨S4x512x1024, .f32⟩
  | .hbm, ⟨18, _⟩ => ⟨S2048x1024, .f32⟩
  | .hbm, ⟨19, _⟩ => ⟨S1x1024x11280, .f32⟩
  | .hbm, ⟨20, _⟩ => ⟨S1024x11280, .f32⟩
  | .hbm, ⟨21, _⟩ => ⟨S16x64x11280, .f32⟩
  | .hbm, ⟨22, _⟩ => ⟨S16x64x1024, .f32⟩
  | .hbm, ⟨23, _⟩ => ⟨S16x64x2048, .f32⟩
  | .hbm, ⟨24, _⟩ => ⟨S16x64x16, .f32⟩
  | .hbm, ⟨25, _⟩ => ⟨S16x64x1024, .f32⟩
  | .hbm, ⟨26, _⟩ => ⟨S16x64x1024, .f32⟩
  | .hbm, ⟨27, _⟩ => ⟨S16x64x1024, .f32⟩
  | .hbm, ⟨28, _⟩ => ⟨S16x64x1024, .f32⟩
  | .hbm, ⟨29, _⟩ => ⟨S16x64x1024, .f32⟩
  | .hbm, ⟨30, _⟩ => ⟨S16x64x3072, .f32⟩
  | .hbm, ⟨31, _⟩ => ⟨S1024x1024, .f32⟩
  | .hbm, ⟨32, _⟩ => ⟨S1024x1024, .f32⟩
  | .hbm, ⟨33, _⟩ => ⟨S3072x1024, .f32⟩
  | .hbm, ⟨34, _⟩ => ⟨S3072x1024, .f32⟩
  | .hbm, ⟨35, _⟩ => ⟨S3072x2048, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩

abbrev nD : Nat := 1
abbrev τ : Topo := Topo.v7x

variable {F : FTy → Type} [FloatOps F]
-- ==== Kernel7.lean ====
abbrev S16384x1024 : Shape := ⟨2, ![16384, 1024]⟩
abbrev S1024x1024 : Shape := ⟨2, ![1024, 1024]⟩
abbrev S17408x8192 : Shape := ⟨2, ![17408, 8192]⟩
abbrev S17408x1024 : Shape := ⟨2, ![17408, 1024]⟩
abbrev S2x1024x1024 : Shape := ⟨3, ![2, 1024, 1024]⟩
abbrev S2x3072 : Shape := ⟨2, ![2, 3072]⟩
abbrev S2x1024 : Shape := ⟨2, ![2, 1024]⟩
abbrev S1x1024x1024 : Shape := ⟨3, ![1, 1024, 1024]⟩
abbrev S1x3072 : Shape := ⟨2, ![1, 3072]⟩
abbrev S3072 : Shape := ⟨1, ![3072]⟩
abbrev S1x1024 : Shape := ⟨2, ![1, 1024]⟩
abbrev S1024 : Shape := ⟨1, ![1024]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩

abbrev nBuf : Space → Nat
  | .hbm => 38
  | .vmem => 27
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .bf16⟩
  | .hbm, ⟨3, _⟩ => ⟨S1024x1024, .bf16⟩
  | .hbm, ⟨4, _⟩ => ⟨S16384x1024, .bf16⟩
  | .hbm, ⟨5, _⟩ => ⟨S1024x1024, .bf16⟩
  | .hbm, ⟨6, _⟩ => ⟨S17408x8192, .f32⟩
  | .hbm, ⟨7, _⟩ => ⟨S17408x1024, .f32⟩
  | .hbm, ⟨8, _⟩ => ⟨S2x1024x1024, .f32⟩
  | .hbm, ⟨9, _⟩ => ⟨S2x1024x1024, .f32⟩
  | .hbm, ⟨10, _⟩ => ⟨S2x1024x1024, .f32⟩
  | .hbm, ⟨11, _⟩ => ⟨S2x1024x1024, .f32⟩
  | .hbm, ⟨12, _⟩ => ⟨S2x3072, .f32⟩
  | .hbm, ⟨13, _⟩ => ⟨S2x1024, .f32⟩
  | .hbm, ⟨14, _⟩ => ⟨S2x1024, .f32⟩
  | .hbm, ⟨15, _⟩ => ⟨S1x1024x1024, .f32⟩
  | .hbm, ⟨16, _⟩ => ⟨S1024x1024, .f32⟩
  | .hbm, ⟨17, _⟩ => ⟨S1024x1024, .bf16⟩
  | .hbm, ⟨18, _⟩ => ⟨S1x1024x1024, .f32⟩
  | .hbm, ⟨19, _⟩ => ⟨S1024x1024, .f32⟩
  | .hbm, ⟨20, _⟩ => ⟨S1024x1024, .bf16⟩
  | .hbm, ⟨21, _⟩ => ⟨S1x1024x1024, .f32⟩
  | .hbm, ⟨22, _⟩ => ⟨S1024x1024, .f32⟩
  | .hbm, ⟨23, _⟩ => ⟨S1024x1024, .bf16⟩
  | .hbm, ⟨24, _⟩ => ⟨S1x1024x1024, .f32⟩
  | .hbm, ⟨25, _⟩ => ⟨S1024x1024, .f32⟩
  | .hbm, ⟨26, _⟩ => ⟨S1024x1024, .bf16⟩
  | .hbm, ⟨27, _⟩ => ⟨S1x3072, .f32⟩
  | .hbm, ⟨28, _⟩ => ⟨S3072, .f32⟩
  | .hbm, ⟨29, _⟩ => ⟨S1x3072, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S17408x1024, .f32⟩
  | .hbm, ⟨37, _⟩ => ⟨S17408x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x3072, .f32⟩
  | .local _ .vmem, ⟨13, _⟩ => ⟨S512x3072, .f32⟩
  | .local _ .vmem, ⟨14, _⟩ => ⟨S512x1024, .f32⟩
  | .local _ .vmem, ⟨15, _⟩ => ⟨S512x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1x3072, .f32⟩
  | .local _ .vmem, ⟨21, _⟩ => ⟨S1x1024, .f32⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .bf16⟩
  | .local _ .vmem, ⟨26, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21_0 : Ref sig .tc := ⟨.hbm, 36, rfl⟩
abbrev main_v21_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x3072 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference7Ideal.lean ====
abbrev S16384x1024 : Shape := ⟨2, ![16384, 1024]⟩
abbrev S1024x1024 : Shape := ⟨2, ![1024, 1024]⟩
abbrev S17408x8192 : Shape := ⟨2, ![17408, 8192]⟩
abbrev S17408x1024 : Shape := ⟨2, ![17408, 1024]⟩
abbrev S2x1024x1024 : Shape := ⟨3, ![2, 1024, 1024]⟩
abbrev S2x3072 : Shape := ⟨2, ![2, 3072]⟩
abbrev S2x1024 : Shape := ⟨2, ![2, 1024]⟩
abbrev S17408x3072 : Shape := ⟨2, ![17408, 3072]⟩
abbrev S1x3072 : Shape := ⟨2, ![1, 3072]⟩
abbrev S3072 : Shape := ⟨1, ![3072]⟩
abbrev S_ : Shape := ⟨0, ![]⟩
abbrev S17408x3x1024 : Shape := ⟨3, ![17408, 3, 1024]⟩
abbrev S17408x1x1024 : Shape := ⟨3, ![17408, 1, 1024]⟩
abbrev S1x1024x1024 : Shape := ⟨3, ![1, 1024, 1024]⟩
abbrev S17408 : Shape := ⟨1, ![17408]⟩
abbrev S17408x1 : Shape := ⟨2, ![17408, 1]⟩
abbrev S1x1024 : Shape := ⟨2, ![1, 1024]⟩
abbrev S1024 : Shape := ⟨1, ![1024]⟩

abbrev nBuf : Space → Nat
  | .hbm => 97
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .bf16⟩
  | .hbm, ⟨3, _⟩ => ⟨S1024x1024, .bf16⟩
  | .hbm, ⟨4, _⟩ => ⟨S16384x1024, .bf16⟩
  | .hbm, ⟨5, _⟩ => ⟨S1024x1024, .bf16⟩
  | .hbm, ⟨6, _⟩ => ⟨S17408x8192, .f32⟩
  | .hbm, ⟨7, _⟩ => ⟨S17408x1024, .f32⟩
  | .hbm, ⟨8, _⟩ => ⟨S2x1024x1024, .f32⟩
  | .hbm, ⟨9, _⟩ => ⟨S2x1024x1024, .f32⟩
  | .hbm, ⟨10, _⟩ => ⟨S2x1024x1024, .f32⟩
  | .hbm, ⟨11, _⟩ => ⟨S2x1024x1024, .f32⟩
  | .hbm, ⟨12, _⟩ => ⟨S2x3072, .f32⟩
  | .hbm, ⟨13, _⟩ => ⟨S2x1024, .f32⟩
  | .hbm, ⟨14, _⟩ => ⟨S2x1024, .f32⟩
  | .hbm, ⟨15, _⟩ => ⟨S17408x1024, .bf16⟩
  | .hbm, ⟨16, _⟩ => ⟨S17408x1024, .f32⟩
  | .hbm, ⟨17, _⟩ => ⟨S17408x1024, .bf16⟩
  | .hbm, ⟨18, _⟩ => ⟨S17408x1024, .f32⟩
  | .hbm, ⟨19, _⟩ => ⟨S17408x1024, .bf16⟩
  | .hbm, ⟨20, _⟩ => ⟨S17408x1024, .f32⟩
  | .hbm, ⟨21, _⟩ => ⟨S17408x3072, .f32⟩
  | .hbm, ⟨22, _⟩ => ⟨S1x3072, .f32⟩
  | .hbm, ⟨23, _⟩ => ⟨S3072, .f32⟩
  | .hbm, ⟨24, _⟩ => ⟨S1x3072, .f32⟩
  | .hbm, ⟨25, _⟩ => ⟨S17408x3072, .f32⟩
  | .hbm, ⟨26, _⟩ => ⟨S17408x3072, .f32⟩
  | .hbm, ⟨27, _⟩ => ⟨S17408x3072, .f32⟩
  | .hbm, ⟨28, _⟩ => ⟨S17408x3072, .f32⟩
  | .hbm, ⟨29, _⟩ => ⟨S_, .f32⟩
  | .hbm, ⟨30, _⟩ => ⟨S17408x3072, .f32⟩
  | .hbm, ⟨31, _⟩ => ⟨S17408x3072, .f32⟩
  | .hbm, ⟨32, _⟩ => ⟨S_, .f32⟩
  | .hbm, ⟨33, _⟩ => ⟨S17408x3072, .f32⟩
  | .hbm, ⟨34, _⟩ => ⟨S17408x3072, .f32⟩
  | .hbm, ⟨35, _⟩ => ⟨S17408x3x1024, .f32⟩
  | .hbm, ⟨36, _⟩ => ⟨S17408x1x1024, .f32⟩
  | .hbm, ⟨37, _⟩ => ⟨S17408x1024, .f32⟩
  | .hbm, ⟨38, _⟩ => ⟨S1x1024x1024, .f32⟩
  | .hbm, ⟨39, _⟩ => ⟨S1024x1024, .f32⟩
  | .hbm, ⟨40, _⟩ => ⟨S17408x1024, .f32⟩
  | .hbm, ⟨41, _⟩ => ⟨S17408x1024, .f32⟩
  | .hbm, ⟨42, _⟩ => ⟨S17408x1x1024, .f32⟩
  | .hbm, ⟨43, _⟩ => ⟨S17408x1024, .f32⟩
  | .hbm, ⟨44, _⟩ => ⟨S1x1024x1024, .f32⟩
  | .hbm, ⟨45, _⟩ => ⟨S1024x1024, .f32⟩
  | .hbm, ⟨46, _⟩ => ⟨S17408x1024, .f32⟩
  | .hbm, ⟨47, _⟩ => ⟨S17408x1024, .f32⟩
  | .hbm, ⟨48, _⟩ => ⟨S17408x1024, .f32⟩
  | .hbm, ⟨49, _⟩ => ⟨S17408x1x1024, .f32⟩
  | .hbm, ⟨50, _⟩ => ⟨S17408x1024, .f32⟩
  | .hbm, ⟨51, _⟩ => ⟨S1x1024x1024, .f32⟩
  | .hbm, ⟨52, _⟩ => ⟨S1024x1024, .f32⟩
  | .hbm, ⟨53, _⟩ => ⟨S17408x1024, .f32⟩
  | .hbm, ⟨54, _⟩ => ⟨S17408x1024, .f32⟩
  | .hbm, ⟨55, _⟩ => ⟨S17408x1024, .f32⟩
  | .hbm, ⟨56, _⟩ => ⟨S_, .f32⟩
  | .hbm, ⟨57, _⟩ => ⟨S17408x1024, .f32⟩
  | .hbm, ⟨58, _⟩ => ⟨S17408x1024, .f32⟩
  | .hbm, ⟨59, _⟩ => ⟨S1x1024x1024, .f32⟩
  | .hbm, ⟨60, _⟩ => ⟨S1024x1024, .f32⟩
  | .hbm, ⟨61, _⟩ => ⟨S17408x1024, .f32⟩
  | .hbm, ⟨62, _⟩ => ⟨S17408x1024, .f32⟩
  | .hbm, ⟨63, _⟩ => ⟨S_, .f32⟩
  | .hbm, ⟨64, _⟩ => ⟨S17408, .f32⟩
  | .hbm, ⟨65, _⟩ => ⟨S17408x1, .f32⟩
  | .hbm, ⟨66, _⟩ => ⟨S_, .f32⟩
  | .hbm, ⟨67, _⟩ => ⟨S17408x1, .f32⟩
  | .hbm, ⟨68, _⟩ => ⟨S17408x1, .f32⟩
  | .hbm, ⟨69, _⟩ => ⟨S17408x1024, .f32⟩
  | .hbm, ⟨70, _⟩ => ⟨S17408x1024, .f32⟩
  | .hbm, ⟨71, _⟩ => ⟨S17408x1024, .f32⟩
  | .hbm, ⟨72, _⟩ => ⟨S_, .f32⟩
  | .hbm, ⟨73, _⟩ => ⟨S17408, .f32⟩
  | .hbm, ⟨74, _⟩ => ⟨S17408x1, .f32⟩
  | .hbm, ⟨75, _⟩ => ⟨S_, .f32⟩
  | .hbm, ⟨76, _⟩ => ⟨S17408x1, .f32⟩
  | .hbm, ⟨77, _⟩ => ⟨S17408x1, .f32⟩
  | .hbm, ⟨78, _⟩ => ⟨S17408x1024, .f32⟩
  | .hbm, ⟨79, _⟩ => ⟨S17408x1024, .f32⟩
  | .hbm, ⟨80, _⟩ => ⟨S_, .f32⟩
  | .hbm, ⟨81, _⟩ => ⟨S17408x1, .f32⟩
  | .hbm, ⟨82, _⟩ => ⟨S17408x1, .f32⟩
  | .hbm, ⟨83, _⟩ => ⟨S17408x1, .f32⟩
  | .hbm, ⟨84, _⟩ => ⟨S17408x1024, .f32⟩
  | .hbm, ⟨85, _⟩ => ⟨S17408x1024, .f32⟩
  | .hbm, ⟨86, _⟩ => ⟨S1x1024, .f32⟩
  | .hbm, ⟨87, _⟩ => ⟨S1024, .f32⟩
  | .hbm, ⟨88, _⟩ => ⟨S1x1024, .f32⟩
  | .hbm, ⟨89, _⟩ => ⟨S17408x1024, .f32⟩
  | .hbm, ⟨90, _⟩ => ⟨S17408x1024, .f32⟩
  | .hbm, ⟨91, _⟩ => ⟨S1x1024, .f32⟩
  | .hbm, ⟨92, _⟩ => ⟨S1024, .f32⟩
  | .hbm, ⟨93, _⟩ => ⟨S1x1024, .f32⟩
  | .hbm, ⟨94, _⟩ => ⟨S17408x1024, .f32⟩
  | .hbm, ⟨95, _⟩ => ⟨S17408x1024, .f32⟩
  | .hbm, ⟨96, _⟩ => ⟨S17408x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_1 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_2 : Ref sig .tc := ⟨.hbm, 63, rfl⟩
abbrev main_v45 : Ref sig .tc := ⟨.hbm, 64, rfl⟩
abbrev main_v46 : Ref sig .tc := ⟨.hbm, 65, rfl⟩
abbrev main_cst_3 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_4 : Ref sig .tc := ⟨.hbm, 72, rfl⟩
abbrev main_v52 : Ref sig .tc := ⟨.hbm, 73, rfl⟩
abbrev main_v53 : Ref sig .tc := ⟨.hbm, 74, rfl⟩
abbrev main_cst_5 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_6 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩

abbrev nD : Nat := 1
abbrev τ : Topo := Topo.v7x

variable {F : FTy → Type} [FloatOps F]
-- ==== Kernel8.lean ====
abbrev S17408x3072 : Shape := ⟨2, ![17408, 3072]⟩
abbrev S16x256x768 : Shape := ⟨3, ![16, 256, 768]⟩
abbrev S16384x1024 : Shape := ⟨2, ![16384, 1024]⟩
abbrev S512x1024 : Shape := ⟨2, ![512, 1024]⟩
abbrev S1024x1024 : Shape := ⟨2, ![1024, 1024]⟩
abbrev S1x768 : Shape := ⟨2, ![1, 768]⟩
abbrev S256x128 : Shape := ⟨2, ![256, 128]⟩
abbrev S1x128 : Shape := ⟨2, ![1, 128]⟩
abbrev S768x128 : Shape := ⟨2, ![768, 128]⟩
abbrev S256x768 : Shape := ⟨2, ![256, 768]⟩
abbrev S1x256x768 : Shape := ⟨3, ![1, 256, 768]⟩
abbrev S256 : Shape := ⟨1, ![256]⟩
abbrev S256x1 : Shape := ⟨2, ![256, 1]⟩

abbrev nBuf : Space → Nat
  | .hbm => 3
  | .vmem => 15
  | .smem => 0
  | _ => 0

abbrev bufTy : (tb : Table) → Fin (tcTables nBuf tb) → BufTy
  | .hbm, ⟨0, _⟩ => ⟨S17408x3072, .bf16⟩
  | .hbm, ⟨1, _⟩ => ⟨S16x256x768, .f32⟩
  | .hbm, ⟨2, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S16x256x768, .f32⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1024x1024, .bf16⟩
  | _, _ => ⟨S17408x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c1_i32_0 : BitVec 32 := 1#32
  let c0_i32_1 : BitVec 32 := 0#32
  ![v3.toNat, c1_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c2_i32 : BitVec 32 := 2#32
  let c0_i32_0 : BitVec 32 := 0#32
  ![v3.toNat, c2_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S16x256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel8Ideal.lean ====
variable {F : FTy → Type} [FloatOps F] [Named F]
def κ : String → Option EReal := fun
  | "mask" => some ⊥
  | _ => none
-- ==== Reference8Ideal.lean ====
abbrev S17408x3072 : Shape := ⟨2, ![17408, 3072]⟩
abbrev S16x256x768 : Shape := ⟨3, ![16, 256, 768]⟩
abbrev S16384x3072 : Shape := ⟨2, ![16384, 3072]⟩
abbrev S16384x1024 : Shape := ⟨2, ![16384, 1024]⟩
abbrev S4x64x64x16x64 : Shape := ⟨5, ![4, 64, 64, 16, 64]⟩
abbrev S4x4096x16x64 : Shape := ⟨4, ![4, 4096, 16, 64]⟩
abbrev S_ : Shape := ⟨0, ![]⟩
abbrev S4x4608x16x64 : Shape := ⟨4, ![4, 4608, 16, 64]⟩
abbrev S4x72x64x16x64 : Shape := ⟨5, ![4, 72, 64, 16, 64]⟩
abbrev S4x64x576x16x64 : Shape := ⟨5, ![4, 64, 576, 16, 64]⟩
abbrev S4x64x16x64x576 : Shape := ⟨5, ![4, 64, 16, 64, 576]⟩
abbrev S16x64x576 : Shape := ⟨3, ![16, 64, 576]⟩
abbrev S1x1x16x64x576 : Shape := ⟨5, ![1, 1, 16, 64, 576]⟩
abbrev S576 : Shape := ⟨1, ![576]⟩
abbrev S1x576 : Shape := ⟨2, ![1, 576]⟩
abbrev S64 : Shape := ⟨1, ![64]⟩
abbrev S64x1 : Shape := ⟨2, ![64, 1]⟩
abbrev S64x576 : Shape := ⟨2, ![64, 576]⟩
abbrev S1x64x1x1x576 : Shape := ⟨5, ![1, 64, 1, 1, 576]⟩
abbrev S4x64x16x64 : Shape := ⟨4, ![4, 64, 16, 64]⟩
abbrev S4x64x16x64x1 : Shape := ⟨5, ![4, 64, 16, 64, 1]⟩
abbrev S4x64x16x64x64 : Shape := ⟨5, ![4, 64, 16, 64, 64]⟩

abbrev nBuf : Space → Nat
  | .hbm => 80
  | .vmem => 0
  | .smem => 0
  | _ => 0

abbrev bufTy : (tb : Table) → Fin (tcTables nBuf tb) → BufTy
  | .hbm, ⟨0, _⟩ => ⟨S17408x3072, .bf16⟩
  | .hbm, ⟨1, _⟩ => ⟨S16x256x768, .f32⟩
  | .hbm, ⟨2, _⟩ => ⟨S17408x3072, .f32⟩
  | .hbm, ⟨3, _⟩ => ⟨S16384x3072, .f32⟩
  | .hbm, ⟨4, _⟩ => ⟨S16384x1024, .f32⟩
  | .hbm, ⟨5, _⟩ => ⟨S4x64x64x16x64, .f32⟩
  | .hbm, ⟨6, _⟩ => ⟨S16384x1024, .f32⟩
  | .hbm, ⟨7, _⟩ => ⟨S4x4096x16x64, .f32⟩
  | .hbm, ⟨8, _⟩ => ⟨S_, .i32⟩
  | .hbm, ⟨9, _⟩ => ⟨S_, .f32⟩
  | .hbm, ⟨10, _⟩ => ⟨S4x4608x16x64, .f32⟩
  | .hbm, ⟨11, _⟩ => ⟨S4x72x64x16x64, .f32⟩
  | .hbm, ⟨12, _⟩ => ⟨S16384x1024, .f32⟩
  | .hbm, ⟨13, _⟩ => ⟨S4x4096x16x64, .f32⟩
  | .hbm, ⟨14, _⟩ => ⟨S_, .i32⟩
  | .hbm, ⟨15, _⟩ => ⟨S_, .f32⟩
  | .hbm, ⟨16, _⟩ => ⟨S4x4608x16x64, .f32⟩
  | .hbm, ⟨17, _⟩ => ⟨S4x72x64x16x64, .f32⟩
  | .hbm, ⟨18, _⟩ => ⟨S4x64x64x16x64, .f32⟩
  | .hbm, ⟨19, _⟩ => ⟨S4x64x64x16x64, .f32⟩
  | .hbm, ⟨20, _⟩ => ⟨S4x64x64x16x64, .f32⟩
  | .hbm, ⟨21, _⟩ => ⟨S4x64x64x16x64, .f32⟩
  | .hbm, ⟨22, _⟩ => ⟨S4x64x64x16x64, .f32⟩
  | .hbm, ⟨23, _⟩ => ⟨S4x64x64x16x64, .f32⟩
  | .hbm, ⟨24, _⟩ => ⟨S4x64x64x16x64, .f32⟩
  | .hbm, ⟨25, _⟩ => ⟨S4x64x64x16x64, .f32⟩
  | .hbm, ⟨26, _⟩ => ⟨S4x64x64x16x64, .f32⟩
  | .hbm, ⟨27, _⟩ => ⟨S4x64x576x16x64, .f32⟩
  | .hbm, ⟨28, _⟩ => ⟨S4x64x64x16x64, .f32⟩
  | .hbm, ⟨29, _⟩ => ⟨S4x64x64x16x64, .f32⟩
  | .hbm, ⟨30, _⟩ => ⟨S4x64x64x16x64, .f32⟩
  | .hbm, ⟨31, _⟩ => ⟨S4x64x64x16x64, .f32⟩
  | .hbm, ⟨32, _⟩ => ⟨S4x64x64x16x64, .f32⟩
  | .hbm, ⟨33, _⟩ => ⟨S4x64x64x16x64, .f32⟩
  | .hbm, ⟨34, _⟩ => ⟨S4x64x64x16x64, .f32⟩
  | .hbm, ⟨35, _⟩ => ⟨S4x64x64x16x64, .f32⟩
  | .hbm, ⟨36, _⟩ => ⟨S4x64x64x16x64, .f32⟩
  | .hbm, ⟨37, _⟩ => ⟨S4x64x576x16x64, .f32⟩
  | .hbm, ⟨38, _⟩ => ⟨S4x64x16x64x576, .f32⟩
  | .hbm, ⟨39, _⟩ => ⟨S16x64x576, .f32⟩
  | .hbm, ⟨40, _⟩ => ⟨S1x1x16x64x576, .f32⟩
  | .hbm, ⟨41, _⟩ => ⟨S4x64x16x64x576, .f32⟩
  | .hbm, ⟨42, _⟩ => ⟨S4x64x16x64x576, .f32⟩
  | .hbm, ⟨43, _⟩ => ⟨S576, .i32⟩
  | .hbm, ⟨44, _⟩ => ⟨S1x576, .i32⟩
  | .hbm, ⟨45, _⟩ => ⟨S64, .i32⟩
  | .hbm, ⟨46, _⟩ => ⟨S64x1, .i32⟩
  | .hbm, ⟨47, _⟩ => ⟨S_, .i32⟩
  | .hbm, ⟨48, _⟩ => ⟨S64x1, .i32⟩
  | .hbm, ⟨49, _⟩ => ⟨S64x1, .i32⟩
  | .hbm, ⟨50, _⟩ => ⟨S_, .i32⟩
  | .hbm, ⟨51, _⟩ => ⟨S64x1, .i32⟩
  | .hbm, ⟨52, _⟩ => ⟨S64x1, .i32⟩
  | .hbm, ⟨53, _⟩ => ⟨S64x576, .i32⟩
  | .hbm, ⟨54, _⟩ => ⟨S64x576, .i32⟩
  | .hbm, ⟨55, _⟩ => ⟨S64x576, .i1⟩
  | .hbm, ⟨56, _⟩ => ⟨S1x64x1x1x576, .i1⟩
  | .hbm, ⟨57, _⟩ => ⟨S_, .f32⟩
  | .hbm, ⟨58, _⟩ => ⟨S_, .f32⟩
  | .hbm, ⟨59, _⟩ => ⟨S4x64x16x64x576, .i1⟩
  | .hbm, ⟨60, _⟩ => ⟨S4x64x16x64x576, .f32⟩
  | .hbm, ⟨61, _⟩ => ⟨S4x64x16x64x576, .f32⟩
  | .hbm, ⟨62, _⟩ => ⟨S_, .f32⟩
  | .hbm, ⟨63, _⟩ => ⟨S4x64x16x64, .f32⟩
  | .hbm, ⟨64, _⟩ => ⟨S_, .f32⟩
  | .hbm, ⟨65, _⟩ => ⟨S4x64x16x64, .f32⟩
  | .hbm, ⟨66, _⟩ => ⟨S4x64x16x64, .f32⟩
  | .hbm, ⟨67, _⟩ => ⟨S4x64x16x64x1, .f32⟩
  | .hbm, ⟨68, _⟩ => ⟨S4x64x16x64x576, .f32⟩
  | .hbm, ⟨69, _⟩ => ⟨S4x64x16x64x576, .f32⟩
  | .hbm, ⟨70, _⟩ => ⟨S4x64x16x64x576, .f32⟩
  | .hbm, ⟨71, _⟩ => ⟨S_, .f32⟩
  | .hbm, ⟨72, _⟩ => ⟨S4x64x16x64, .f32⟩
  | .hbm, ⟨73, _⟩ => ⟨S4x64x16x64x1, .f32⟩
  | .hbm, ⟨74, _⟩ => ⟨S4x64x16x64x576, .f32⟩
  | .hbm, ⟨75, _⟩ => ⟨S4x64x16x64x576, .f32⟩
  | .hbm, ⟨76, _⟩ => ⟨S4x64x16x64x64, .f32⟩
  | .hbm, ⟨77, _⟩ => ⟨S4x64x64x16x64, .f32⟩
  | .hbm, ⟨78, _⟩ => ⟨S16384x1024, .f32⟩
  | .hbm, ⟨79, _⟩ => ⟨S16384x1024, .bf16⟩
  | _, _ => ⟨S17408x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_call1_v0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_c_1 : Ref sig .tc := ⟨.hbm, 47, rfl⟩
abbrev main_v41 : Ref sig .tc := ⟨.hbm, 48, rfl⟩
abbrev main_v42 : Ref sig .tc := ⟨.hbm, 49, rfl⟩
abbrev main_c_2 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_cst : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v49 : Ref sig .tc := ⟨.hbm, 61, rfl⟩
abbrev main_cst_3 : Ref sig .tc := ⟨.hbm, 62, rfl⟩
abbrev main_v50 : Ref sig .tc := ⟨.hbm, 63, rfl⟩
abbrev main_cst_4 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_5 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩

abbrev nD : Nat := 1
abbrev τ : Topo := Topo.v7x

variable {F : FTy → Type} [FloatOps F]
-- ==== Kernel9.lean ====
abbrev S2x16x257 : Shape := ⟨3, ![2, 16, 257]⟩
abbrev S1024 : Shape := ⟨1, ![1024]⟩
abbrev S1x16x257 : Shape := ⟨3, ![1, 16, 257]⟩
abbrev S16x257 : Shape := ⟨2, ![16, 257]⟩
abbrev S_ : Shape := ⟨0, ![]⟩
abbrev S1024x1 : Shape := ⟨2, ![1024, 1]⟩
abbrev S16x1024 : Shape := ⟨2, ![16, 1024]⟩
abbrev S16x1x1024 : Shape := ⟨3, ![16, 1, 1024]⟩
abbrev S16x256x768 : Shape := ⟨3, ![16, 256, 768]⟩
abbrev S1x1x1024 : Shape := ⟨3, ![1, 1, 1024]⟩
abbrev S1x256x768 : Shape := ⟨3, ![1, 256, 768]⟩
abbrev S1x1024 : Shape := ⟨2, ![1, 1024]⟩
abbrev S256x1024 : Shape := ⟨2, ![256, 1024]⟩
abbrev S256x768 : Shape := ⟨2, ![256, 768]⟩

abbrev nBuf : Space → Nat
  | .hbm => 13
  | .vmem => 4
  | .smem => 0
  | _ => 0

abbrev bufTy : (tb : Table) → Fin (tcTables nBuf tb) → BufTy
  | .hbm, ⟨0, _⟩ => ⟨S2x16x257, .f32⟩
  | .hbm, ⟨1, _⟩ => ⟨S1024, .i32⟩
  | .hbm, ⟨2, _⟩ => ⟨S1024, .i1⟩
  | .hbm, ⟨3, _⟩ => ⟨S1x16x257, .f32⟩
  | .hbm, ⟨4, _⟩ => ⟨S16x257, .f32⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S1024x1, .i32⟩
  | .hbm, ⟨10, _⟩ => ⟨S16x1024, .f32⟩
  | .hbm, ⟨11, _⟩ => ⟨S16x1x1024, .f32⟩
  | .hbm, ⟨12, _⟩ => ⟨S16x256x768, .f32⟩
  | .local _ .vmem, ⟨0, _⟩ => ⟨S1x1x1024, .f32⟩
  | .local _ .vmem, ⟨1, _⟩ => ⟨S1x1x1024, .f32⟩
  | .local _ .vmem, ⟨2, _⟩ => ⟨S1x256x768, .f32⟩
  | .local _ .vmem, ⟨3, _⟩ => ⟨S1x256x768, .f32⟩
  | _, _ => ⟨S2x16x257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_c_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Kernel9Ideal.lean ====
variable {F : FTy → Type} [FloatOps F] [Named F]
def κ : String → Option EReal := fun
  | "mask" => some ⊥
  | _ => none
-- ==== Reference9Ideal.lean ====
abbrev S2x16x257 : Shape := ⟨3, ![2, 16, 257]⟩
abbrev S64 : Shape := ⟨1, ![64]⟩
abbrev S64x1 : Shape := ⟨2, ![64, 1]⟩
abbrev S_ : Shape := ⟨0, ![]⟩
abbrev S576 : Shape := ⟨1, ![576]⟩
abbrev S1x576 : Shape := ⟨2, ![1, 576]⟩
abbrev S64x576 : Shape := ⟨2, ![64, 576]⟩
abbrev S1x16x257 : Shape := ⟨3, ![1, 16, 257]⟩
abbrev S16x257 : Shape := ⟨2, ![16, 257]⟩
abbrev S64x576x1 : Shape := ⟨3, ![64, 576, 1]⟩
abbrev S16x64x576 : Shape := ⟨3, ![16, 64, 576]⟩
abbrev S16x64x768 : Shape := ⟨3, ![16, 64, 768]⟩
abbrev S16x256x768 : Shape := ⟨3, ![16, 256, 768]⟩

abbrev nBuf : Space → Nat
  | .hbm => 46
  | .vmem => 0
  | .smem => 0
  | _ => 0

abbrev bufTy : (tb : Table) → Fin (tcTables nBuf tb) → BufTy
  | .hbm, ⟨0, _⟩ => ⟨S2x16x257, .f32⟩
  | .hbm, ⟨1, _⟩ => ⟨S64, .i32⟩
  | .hbm, ⟨2, _⟩ => ⟨S64x1, .i32⟩
  | .hbm, ⟨3, _⟩ => ⟨S_, .i32⟩
  | .hbm, ⟨4, _⟩ => ⟨S64x1, .i32⟩
  | .hbm, ⟨5, _⟩ => ⟨S64x1, .i32⟩
  | .hbm, ⟨6, _⟩ => ⟨S576, .i32⟩
  | .hbm, ⟨7, _⟩ => ⟨S1x576, .i32⟩
  | .hbm, ⟨8, _⟩ => ⟨S64x576, .i32⟩
  | .hbm, ⟨9, _⟩ => ⟨S64x576, .i32⟩
  | .hbm, ⟨10, _⟩ => ⟨S64x576, .i32⟩
  | .hbm, ⟨11, _⟩ => ⟨S1x16x257, .f32⟩
  | .hbm, ⟨12, _⟩ => ⟨S16x257, .f32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S64x576, .i32⟩
  | .hbm, ⟨17, _⟩ => ⟨S64x576, .i32⟩
  | .hbm, ⟨18, _⟩ => ⟨S_, .i32⟩
  | .hbm, ⟨19, _⟩ => ⟨S64x576, .i32⟩
  | .hbm, ⟨20, _⟩ => ⟨S64x576, .i32⟩
  | .hbm, ⟨21, _⟩ => ⟨S_, .i32⟩
  | .hbm, ⟨22, _⟩ => ⟨S64x576, .i32⟩
  | .hbm, ⟨23, _⟩ => ⟨S64x576, .i32⟩
  | .hbm, ⟨24, _⟩ => ⟨S_, .i32⟩
  | .hbm, ⟨25, _⟩ => ⟨S64x576, .i32⟩
  | .hbm, ⟨26, _⟩ => ⟨S64x576, .i1⟩
  | .hbm, ⟨27, _⟩ => ⟨S_, .i32⟩
  | .hbm, ⟨28, _⟩ => ⟨S64x576, .i32⟩
  | .hbm, ⟨29, _⟩ => ⟨S64x576, .i32⟩
  | .hbm, ⟨30, _⟩ => ⟨S64x576, .i32⟩
  | .hbm, ⟨31, _⟩ => ⟨S64x576x1, .i32⟩
  | .hbm, ⟨32, _⟩ => ⟨S16x64x576, .f32⟩
  | .hbm, ⟨33, _⟩ => ⟨S_, .f32⟩
  | .hbm, ⟨34, _⟩ => ⟨S_, .f32⟩
  | .hbm, ⟨35, _⟩ => ⟨S16x64x768, .f32⟩
  | .hbm, ⟨36, _⟩ => ⟨S_, .f32⟩
  | .hbm, ⟨37, _⟩ => ⟨S_, .f32⟩
  | .hbm, ⟨38, _⟩ => ⟨S16x64x768, .f32⟩
  | .hbm, ⟨39, _⟩ => ⟨S_, .f32⟩
  | .hbm, ⟨40, _⟩ => ⟨S_, .f32⟩
  | .hbm, ⟨41, _⟩ => ⟨S16x64x768, .f32⟩
  | .hbm, ⟨42, _⟩ => ⟨S_, .f32⟩
  | .hbm, ⟨43, _⟩ => ⟨S_, .f32⟩
  | .hbm, ⟨44, _⟩ => ⟨S16x64x768, .f32⟩
  | .hbm, ⟨45, _⟩ => ⟨S16x256x768, .f32⟩
  | _, _ => ⟨S2x16x257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c_0 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_call1_v0 : Ref sig .tc := ⟨.hbm, 34, rfl⟩
abbrev main_v21 : Ref sig .tc := ⟨.hbm, 35, rfl⟩
abbrev main_cst_5 : Ref sig .tc := ⟨.hbm, 36, rfl⟩
abbrev main_call2_v0 : Ref sig .tc := ⟨.hbm, 37, rfl⟩
abbrev main_v22 : Ref sig .tc := ⟨.hbm, 38, rfl⟩
abbrev main_cst_6 : Ref sig .tc := ⟨.hbm, 39, rfl⟩
abbrev main_call3_v0 : Ref sig .tc := ⟨.hbm, 40, rfl⟩
abbrev main_v23 : Ref sig .tc := ⟨.hbm, 41, rfl⟩
abbrev main_cst_7 : Ref sig .tc := ⟨.hbm, 42, rfl⟩
abbrev main_call4_v0 : Ref sig .tc := ⟨.hbm, 43, rfl⟩
abbrev main_v24 : Ref sig .tc := ⟨.hbm, 44, rfl⟩
abbrev main_v25 : Ref sig .tc := ⟨.hbm, 45, rfl⟩

abbrev nD : Nat := 1
abbrev τ : Topo := Topo.v7x

variable {F : FTy → Type} [FloatOps F]
-- ==== Kernel10.lean ====
abbrev S17408x1024 : Shape := ⟨2, ![17408, 1024]⟩
abbrev S2x1024x64 : Shape := ⟨3, ![2, 1024, 64]⟩
abbrev S2x64 : Shape := ⟨2, ![2, 64]⟩
abbrev S1x1024x64 : Shape := ⟨3, ![1, 1024, 64]⟩
abbrev S1024x64 : Shape := ⟨2, ![1024, 64]⟩
abbrev S64x1024 : Shape := ⟨2, ![64, 1024]⟩
abbrev S1x64 : Shape := ⟨2, ![1, 64]⟩
abbrev S64 : Shape := ⟨1, ![64]⟩
abbrev S64x1 : Shape := ⟨2, ![64, 1]⟩
abbrev S64x17408 : Shape := ⟨2, ![64, 17408]⟩
abbrev S512x1024 : Shape := ⟨2, ![512, 1024]⟩
abbrev S64x512 : Shape := ⟨2, ![64, 512]⟩
abbrev S8x512 : Shape := ⟨2, ![8, 512]⟩
abbrev S512 : Shape := ⟨1, ![512]⟩
abbrev S1x512 : Shape := ⟨2, ![1, 512]⟩

abbrev nBuf : Space → Nat
  | .hbm => 10
  | .vmem => 6
  | .smem => 0
  | _ => 0

abbrev bufTy : (tb : Table) → Fin (tcTables nBuf tb) → BufTy
  | .hbm, ⟨0, _⟩ => ⟨S17408x1024, .f32⟩
  | .hbm, ⟨1, _⟩ => ⟨S2x1024x64, .f32⟩
  | .hbm, ⟨2, _⟩ => ⟨S2x64, .f32⟩
  | .hbm, ⟨3, _⟩ => ⟨S1x1024x64, .f32⟩
  | .hbm, ⟨4, _⟩ => ⟨S1024x64, .f32⟩
  | .hbm, ⟨5, _⟩ => ⟨S64x1024, .f32⟩
  | .hbm, ⟨6, _⟩ => ⟨S1x64, .f32⟩
  | .hbm, ⟨7, _⟩ => ⟨S64, .f32⟩
  | .hbm, ⟨8, _⟩ => ⟨S64x1, .f32⟩
  | .hbm, ⟨9, _⟩ => ⟨S64x17408, .f32⟩
  | .local _ .vmem, ⟨0, _⟩ => ⟨S512x1024, .f32⟩
  | .local _ .vmem, ⟨1, _⟩ => ⟨S512x1024, .f32⟩
  | .local _ .vmem, ⟨2, _⟩ => ⟨S64x1024, .f32⟩
  | .local _ .vmem, ⟨3, _⟩ => ⟨S64x1, .f32⟩
  | .local _ .vmem, ⟨4, _⟩ => ⟨S64x512, .f32⟩
  | .local _ .vmem, ⟨5, _⟩ => ⟨S64x512, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference10Ideal.lean ====
abbrev S17408x1024 : Shape := ⟨2, ![17408, 1024]⟩
abbrev S2x1024x64 : Shape := ⟨3, ![2, 1024, 64]⟩
abbrev S2x64 : Shape := ⟨2, ![2, 64]⟩
abbrev S1x1024x64 : Shape := ⟨3, ![1, 1024, 64]⟩
abbrev S1024x64 : Shape := ⟨2, ![1024, 64]⟩
abbrev S17408x64 : Shape := ⟨2, ![17408, 64]⟩
abbrev S_ : Shape := ⟨0, ![]⟩
abbrev S1x64 : Shape := ⟨2, ![1, 64]⟩
abbrev S64 : Shape := ⟨1, ![64]⟩
abbrev S17408x8x8 : Shape := ⟨3, ![17408, 8, 8]⟩
abbrev S17408x8x2 : Shape := ⟨3, ![17408, 8, 2]⟩
abbrev S17408x8 : Shape := ⟨2, ![17408, 8]⟩
abbrev S17408x4 : Shape := ⟨2, ![17408, 4]⟩
abbrev S17408x4x1 : Shape := ⟨3, ![17408, 4, 1]⟩
abbrev S1x1x8 : Shape := ⟨3, ![1, 1, 8]⟩
abbrev S17408x4x8 : Shape := ⟨3, ![17408, 4, 8]⟩
abbrev S17408x8x1 : Shape := ⟨3, ![17408, 8, 1]⟩
abbrev S1 : Shape := ⟨1, ![1]⟩
abbrev S1x1x1 : Shape := ⟨3, ![1, 1, 1]⟩
abbrev S17408 : Shape := ⟨1, ![17408]⟩
abbrev S17408x1 : Shape := ⟨2, ![17408, 1]⟩
abbrev S1x1x64 : Shape := ⟨3, ![1, 1, 64]⟩
abbrev S17408x8x64 : Shape := ⟨3, ![17408, 8, 64]⟩
abbrev S64x17408 : Shape := ⟨2, ![64, 17408]⟩

abbrev nBuf : Space → Nat
  | .hbm => 87
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S2x1024x64, .f32⟩
  | .hbm, ⟨2, _⟩ => ⟨S2x64, .f32⟩
  | .hbm, ⟨3, _⟩ => ⟨S1x1024x64, .f32⟩
  | .hbm, ⟨4, _⟩ => ⟨S1024x64, .f32⟩
  | .hbm, ⟨5, _⟩ => ⟨S17408x64, .f32⟩
  | .hbm, ⟨6, _⟩ => ⟨S17408x64, .f32⟩
  | .hbm, ⟨7, _⟩ => ⟨S17408x64, .f32⟩
  | .hbm, ⟨8, _⟩ => ⟨S_, .f32⟩
  | .hbm, ⟨9, _⟩ => ⟨S17408x64, .f32⟩
  | .hbm, ⟨10, _⟩ => ⟨S17408x64, .f32⟩
  | .hbm, ⟨11, _⟩ => ⟨S_, .f32⟩
  | .hbm, ⟨12, _⟩ => ⟨S17408x64, .f32⟩
  | .hbm, ⟨13, _⟩ => ⟨S17408x64, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S17408x64, .f32⟩
  | .hbm, ⟨18, _⟩ => ⟨S17408x64, .f32⟩
  | .hbm, ⟨19, _⟩ => ⟨S17408x8x8, .f32⟩
  | .hbm, ⟨20, _⟩ => ⟨S17408x8x2, .f32⟩
  | .hbm, ⟨21, _⟩ => ⟨S17408x8x2, .i32⟩
  | .hbm, ⟨22, _⟩ => ⟨S_, .f32⟩
  | .hbm, ⟨23, _⟩ => ⟨S17408x8, .f32⟩
  | .hbm, ⟨24, _⟩ => ⟨S17408x4, .f32⟩
  | .hbm, ⟨25, _⟩ => ⟨S17408x4, .i32⟩
  | .hbm, ⟨26, _⟩ => ⟨S17408x4x1, .i32⟩
  | .hbm, ⟨27, _⟩ => ⟨S1x1x8, .i32⟩
  | .hbm, ⟨28, _⟩ => ⟨S17408x4x8, .i32⟩
  | .hbm, ⟨29, _⟩ => ⟨S17408x4x8, .i32⟩
  | .hbm, ⟨30, _⟩ => ⟨S17408x4x8, .i1⟩
  | .hbm, ⟨31, _⟩ => ⟨S17408x4x8, .f32⟩
  | .hbm, ⟨32, _⟩ => ⟨S_, .f32⟩
  | .hbm, ⟨33, _⟩ => ⟨S17408x8, .f32⟩
  | .hbm, ⟨34, _⟩ => ⟨S_, .f32⟩
  | .hbm, ⟨35, _⟩ => ⟨S17408x8, .f32⟩
  | .hbm, ⟨36, _⟩ => ⟨S17408x8, .i1⟩
  | .hbm, ⟨37, _⟩ => ⟨S17408x8x8, .i1⟩
  | .hbm, ⟨38, _⟩ => ⟨S17408x64, .i1⟩
  | .hbm, ⟨39, _⟩ => ⟨S_, .f32⟩
  | .hbm, ⟨40, _⟩ => ⟨S_, .f32⟩
  | .hbm, ⟨41, _⟩ => ⟨S17408x64, .f32⟩
  | .hbm, ⟨42, _⟩ => ⟨S17408x64, .f32⟩
  | .hbm, ⟨43, _⟩ => ⟨S17408x8, .f32⟩
  | .hbm, ⟨44, _⟩ => ⟨S17408x8, .i32⟩
  | .hbm, ⟨45, _⟩ => ⟨S_, .i32⟩
  | .hbm, ⟨46, _⟩ => ⟨S17408x8, .i32⟩
  | .hbm, ⟨47, _⟩ => ⟨S17408x8, .i1⟩
  | .hbm, ⟨48, _⟩ => ⟨S_, .i32⟩
  | .hbm, ⟨49, _⟩ => ⟨S17408x8, .i32⟩
  | .hbm, ⟨50, _⟩ => ⟨S17408x8, .i32⟩
  | .hbm, ⟨51, _⟩ => ⟨S17408x8, .i32⟩
  | .hbm, ⟨52, _⟩ => ⟨S17408x8x1, .i32⟩
  | .hbm, ⟨53, _⟩ => ⟨S1, .i32⟩
  | .hbm, ⟨54, _⟩ => ⟨S_, .i32⟩
  | .hbm, ⟨55, _⟩ => ⟨S17408x8x1, .i32⟩
  | .hbm, ⟨56, _⟩ => ⟨S17408x8x1, .i1⟩
  | .hbm, ⟨57, _⟩ => ⟨S1x1x1, .i32⟩
  | .hbm, ⟨58, _⟩ => ⟨S17408x8x1, .i32⟩
  | .hbm, ⟨59, _⟩ => ⟨S17408x8x1, .i1⟩
  | .hbm, ⟨60, _⟩ => ⟨S17408x8x1, .i1⟩
  | .hbm, ⟨61, _⟩ => ⟨S_, .i1⟩
  | .hbm, ⟨62, _⟩ => ⟨S17408x8, .i1⟩
  | .hbm, ⟨63, _⟩ => ⟨S17408x8, .f32⟩
  | .hbm, ⟨64, _⟩ => ⟨S_, .f32⟩
  | .hbm, ⟨65, _⟩ => ⟨S17408x8, .f32⟩
  | .hbm, ⟨66, _⟩ => ⟨S17408x8, .f32⟩
  | .hbm, ⟨67, _⟩ => ⟨S_, .f32⟩
  | .hbm, ⟨68, _⟩ => ⟨S17408, .f32⟩
  | .hbm, ⟨69, _⟩ => ⟨S17408x1, .f32⟩
  | .hbm, ⟨70, _⟩ => ⟨S17408x8, .f32⟩
  | .hbm, ⟨71, _⟩ => ⟨S17408x8, .f32⟩
  | .hbm, ⟨72, _⟩ => ⟨S_, .f32⟩
  | .hbm, ⟨73, _⟩ => ⟨S17408x8, .f32⟩
  | .hbm, ⟨74, _⟩ => ⟨S17408x8, .f32⟩
  | .hbm, ⟨75, _⟩ => ⟨S17408x8x1, .i32⟩
  | .hbm, ⟨76, _⟩ => ⟨S1x1x64, .i32⟩
  | .hbm, ⟨77, _⟩ => ⟨S17408x8x64, .i32⟩
  | .hbm, ⟨78, _⟩ => ⟨S17408x8x64, .i32⟩
  | .hbm, ⟨79, _⟩ => ⟨S17408x8x64, .i1⟩
  | .hbm, ⟨80, _⟩ => ⟨S17408x8x64, .f32⟩
  | .hbm, ⟨81, _⟩ => ⟨S17408x8x1, .f32⟩
  | .hbm, ⟨82, _⟩ => ⟨S17408x8x64, .f32⟩
  | .hbm, ⟨83, _⟩ => ⟨S17408x8x64, .f32⟩
  | .hbm, ⟨84, _⟩ => ⟨S_, .f32⟩
  | .hbm, ⟨85, _⟩ => ⟨S17408x64, .f32⟩
  | .hbm, ⟨86, _⟩ => ⟨S64x17408, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_values : Ref sig .tc := ⟨.hbm, 20, rfl⟩
abbrev main_indices : Ref sig .tc := ⟨.hbm, 21, rfl⟩
abbrev main_cst_1 : Ref sig .tc := ⟨.hbm, 22, rfl⟩
abbrev main_v15 : Ref sig .tc := ⟨.hbm, 23, rfl⟩
abbrev main_values_2 : Ref sig .tc := ⟨.hbm, 24, rfl⟩
abbrev main_indices_3 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_cst_5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_6 : Ref sig .tc := ⟨.hbm, 39, rfl⟩
abbrev main_call1_v0 : Ref sig .tc := ⟨.hbm, 40, rfl⟩
abbrev main_call1_v1 : Ref sig .tc := ⟨.hbm, 41, rfl⟩
abbrev main_v22 : Ref sig .tc := ⟨.hbm, 42, rfl⟩
abbrev main_values_7 : Ref sig .tc := ⟨.hbm, 43, rfl⟩
abbrev main_indices_8 : Ref sig .tc := ⟨.hbm, 44, rfl⟩
abbrev main_call2_c : Ref sig .tc := ⟨.hbm, 45, rfl⟩
abbrev main_call2_v0 : Ref sig .tc := ⟨.hbm, 46, rfl⟩
abbrev main_call2_v1 : Ref sig .tc := ⟨.hbm, 47, rfl⟩
abbrev main_call2_c_0 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_v5 : Ref sig .tc := ⟨.hbm, 52, rfl⟩
abbrev main_call2_c_1 : Ref sig .tc := ⟨.hbm, 53, rfl⟩
abbrev main_call2_c_2 : Ref sig .tc := ⟨.hbm, 54, rfl⟩
abbrev main_call2_v6 : Ref sig .tc := ⟨.hbm, 55, rfl⟩
abbrev main_call2_v7 : Ref sig .tc := ⟨.hbm, 56, rfl⟩
abbrev main_call2_v8 : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_c_3 : Ref sig .tc := ⟨.hbm, 61, rfl⟩
abbrev main_call2_v12 : Ref sig .tc := ⟨.hbm, 62, rfl⟩
abbrev main_call2_v13 : Ref sig .tc := ⟨.hbm, 63, rfl⟩
abbrev main_call2_cst : Ref sig .tc := ⟨.hbm, 64, rfl⟩
abbrev main_call2_v14 : Ref sig .tc := ⟨.hbm, 65, rfl⟩
abbrev main_v23 : Ref sig .tc := ⟨.hbm, 66, rfl⟩
abbrev main_cst_9 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_cst_10 : Ref sig .tc := ⟨.hbm, 72, rfl⟩
abbrev main_v28 : Ref sig .tc := ⟨.hbm, 73, rfl⟩
abbrev main_v29 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_cst_11 : Ref sig .tc := ⟨.hbm, 84, rfl⟩
abbrev main_v34 : Ref sig .tc := ⟨.hbm, 85, rfl⟩
abbrev main_v35 : Ref sig .tc := ⟨.hbm, 86, rfl⟩

abbrev nD : Nat := 1
abbrev τ : Topo := Topo.v7x

variable {F : FTy → Type} [FloatOps F]
-- ==== Proof.AttSampleTile.lean ====
/- The sample attention, one tile: the eight stores of the kernel all compute the same function of what they load. -/
module

public import proofs.«01_k».proof.Proof.Gen.KernelIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.ValueAtt

open Cert.KernelIdeal Cert.KernelIdeal.Gen

variable {F : FTy → Type} [FloatOps F]

/-- Lanes below 64: the first head of a pair. -/
def firstHead : IVec S64x128 1 :=
  broadcastTo S64x128 (shapeCast S1x128 (cmpi .slt (iota .tc S1x128 32 [1] iota_S1x128_d1_w32) (broadcast S1x128 64#32))
    shapeCasts_S1x128_S1x128) broadcasts_S1x128_S64x128

/-- Two cache planes of 64 rows, stacked. -/
def stack (a b : Vec F S1x1x1x64x512 .f32) : FVec F S128x512 .bf16 :=
  truncf .bf16 (concatenate S128x512 0 [⟨S64x512, shapeCast S64x512 a shapeCasts_S1x1x1x64x512_S64x512⟩,
    ⟨S64x512, shapeCast S64x512 b shapeCasts_S1x1x1x64x512_S64x512⟩] concatenates_S64x512_S64x512_S128x512_d0) bitsLt_bf16_f32

/-- The scores against the cache. -/
def oldScore (q : FVec F S64x128 .bf16) (kt : FVec F S128x512 .bf16) (b : Vec F S1x64x576 .f32) : FVec F S64x512 .f32 :=
  addf (matmul dot_S64x128_S128x512_S64x512_1_0_0_1_n_n none q kt (constant S64x512 .f32 0x00000000#32))
    (extractStridedSlice S64x512 ![0, 0] (shapeCast S64x576 b shapeCasts_S1x64x576_S64x576) slices_S64x576_o0_0_S64x512)

/-- The scores against the new keys. -/
def newScore (q k : FVec F S64x128 .bf16) (b : Vec F S1x64x576 .f32) : FVec F S64x64 .f32 :=
  addf (matmul dot_S64x128_S64x128_S64x64_1_1_0_0_n_n none q k (constant S64x64 .f32 0x00000000#32))
    (extractStridedSlice S64x64 ![0, 512] (shapeCast S64x576 b shapeCasts_S1x64x576_S64x576) slices_S64x576_o0_512_S64x64)

/-- The greatest score of each row, over both pieces. -/
def rowMax (s : FVec F S64x512 .f32) (n : FVec F S64x64 .f32) : FVec F S64x1 .f32 :=
  maximumf (shapeCast S64x1 (multiReduction .maximumf [1] S64 s 0xFF800000#32 reduces_S64x512_S64 (.inl rfl) rfl) shapeCasts_S64_S64x1)
    (shapeCast S64x1 (multiReduction .maximumf [1] S64 n 0xFF800000#32 reduces_S64x64_S64 (.inl rfl) rfl) shapeCasts_S64_S64x1)

/-- The softmax-weighted values, from the exponentials of both pieces. -/
def average (e : FVec F S64x512 .f32) (d : FVec F S64x64 .f32) (vt : FVec F S128x512 .bf16) (v : FVec F S64x128 .bf16) : FVec F S64x128 .f32 :=
  divf
    (addf (matmul dot_S64x512_S128x512_S64x128_1_1_0_0_n_n none (truncf .bf16 e bitsLt_bf16_f32) vt (constant S64x128 .f32 0x00000000#32))
      (matmul dot_S64x64_S64x128_S64x128_1_0_0_1_n_n none (truncf .bf16 d bitsLt_bf16_f32) v (constant S64x128 .f32 0x00000000#32)))
    (broadcastTo S64x128
      (addf (shapeCast S64x1 (multiReduction .add [1] S64 e 0x00000000#32 reduces_S64x512_S64 (.inl rfl) rfl) shapeCasts_S64_S64x1)
        (shapeCast S64x1 (multiReduction .add [1] S64 d 0x00000000#32 reduces_S64x64_S64 (.inl rfl) rfl) shapeCasts_S64_S64x1))
      broadcasts_S64x1_S64x128)

/-- One head's attention, from its (masked) queries and the pair's keys and values. -/
def headAtt (q k v : FVec F S64x128 .bf16) (kt vt : FVec F S128x512 .bf16) (b : Vec F S1x64x576 .f32) : FVec F S64x128 .f32 :=
  average (exp (subf (oldScore q kt b) (broadcastTo S64x512 (rowMax (oldScore q kt b) (newScore q k b)) broadcasts_S64x1_S64x512)))
    (exp (subf (newScore q k b) (broadcastTo S64x64 (rowMax (oldScore q kt b) (newScore q k b)) broadcasts_S64x1_S64x64))) vt v

/-- One pair of heads: the first head's attention in its lanes and the second's in the others. -/
def pairAtt (q k v : Vec F S64x128 .bf16) (ka kb va vb : Vec F S1x1x1x64x512 .f32) (ba bb : Vec F S1x64x576 .f32) : FVec F S64x128 .bf16 :=
  truncf .bf16 (select firstHead
    (headAtt (select firstHead q (broadcast S64x128 (Scalar.ofBits .bf16 0x0000#16))) k v (stack ka kb) (stack va vb) ba)
    (headAtt (select firstHead (broadcast S64x128 (Scalar.ofBits .bf16 0x0000#16)) q) k v (stack ka kb) (stack va vb) bb)) bitsLt_bf16_f32

/-- The output block is eight pairs of heads, side by side. -/
theorem out_eq (x0 x1 x2 : Vec F S64x1024 .bf16) (x3 x4 : Vec F S1x1x16x64x512 .f32) (x5 : Vec F S16x64x576 .f32) :
    out0_6 x0 x1 x2 x3 x4 x5 = View.canon
      [⟨r0_35, pairAtt (View.ld x0 r0_35) (View.ld x1 r0_35) (View.ld x2 r0_35) (View.ld x3 r0_36) (View.ld x3 r0_37) (View.ld x4 r0_36) (View.ld x4 r0_37) (View.ld x5 r0_38) (View.ld x5 r0_39)⟩,
       ⟨r0_30, pairAtt (View.ld x0 r0_30) (View.ld x1 r0_30) (View.ld x2 r0_30) (View.ld x3 r0_31) (View.ld x3 r0_32) (View.ld x4 r0_31) (View.ld x4 r0_32) (View.ld x5 r0_33) (View.ld x5 r0_34)⟩,
       ⟨r0_25, pairAtt (View.ld x0 r0_25) (View.ld x1 r0_25) (View.ld x2 r0_25) (View.ld x3 r0_26) (View.ld x3 r0_27) (View.ld x4 r0_26) (View.ld x4 r0_27) (View.ld x5 r0_28) (View.ld x5 r0_29)⟩,
       ⟨r0_20, pairAtt (View.ld x0 r0_20) (View.ld x1 r0_20) (View.ld x2 r0_20) (View.ld x3 r0_21) (View.ld x3 r0_22) (View.ld x4 r0_21) (View.ld x4 r0_22) (View.ld x5 r0_23) (View.ld x5 r0_24)⟩,
       ⟨r0_15, pairAtt (View.ld x0 r0_15) (View.ld x1 r0_15) (View.ld x2 r0_15) (View.ld x3 r0_16) (View.ld x3 r0_17) (View.ld x4 r0_16) (View.ld x4 r0_17) (View.ld x5 r0_18) (View.ld x5 r0_19)⟩,
       ⟨r0_10, pairAtt (View.ld x0 r0_10) (View.ld x1 r0_10) (View.ld x2 r0_10) (View.ld x3 r0_11) (View.ld x3 r0_12) (View.ld x4 r0_11) (View.ld x4 r0_12) (View.ld x5 r0_13) (View.ld x5 r0_14)⟩,
       ⟨r0_5, pairAtt (View.ld x0 r0_5) (View.ld x1 r0_5) (View.ld x2 r0_5) (View.ld x3 r0_6) (View.ld x3 r0_7) (View.ld x4 r0_6) (View.ld x4 r0_7) (View.ld x5 r0_8) (View.ld x5 r0_9)⟩,
       ⟨r0_0, pairAtt (View.ld x0 r0_0) (View.ld x1 r0_0) (View.ld x2 r0_0) (View.ld x3 r0_1) (View.ld x3 r0_2) (View.ld x4 r0_1) (View.ld x4 r0_2) (View.ld x5 r0_3) (View.ld x5 r0_4)⟩] := by
  rfl

end Cert.KernelIdeal.ValueAtt

end
-- ==== Proof.Softmax.lean ====
/- Softmax averages over the extended reals: the division by the sum of exponentials taken inside or outside the average. -/
module

public import Idealize.ShloMosaic.Lib.Pipeline.ValueKit
public import Idealize.ShloMosaic.Lib.Pointwise
public import Idealize.ShloMosaic.Lib.Claim

@[expose] public section

noncomputable section

open Idealize.ShloMosaic

namespace Cert.Softmax

/-- The greatest of finitely many numbers (the least number, of none). -/
def top {n : ℕ} (s : Fin n → EReal) : EReal := Finset.univ.fold max ⊥ s

/-- The exponential of each number's distance from the greatest. -/
def weight {n : ℕ} (s : Fin n → EReal) (j : Fin n) : EReal := Ideal.exp (s j - top s)

/-- The average of `w` by the softmax of `s`. -/
def mean {n : ℕ} (s w : Fin n → EReal) : EReal := ∑ j, w j * Ideal.div (weight s j) (∑ k, weight s k)

theorem top_eq_sup {n : ℕ} (s : Fin n → EReal) : top s = Finset.univ.sup s := rfl

/-- An exponential is never negative. -/
theorem exp_nonneg (x : EReal) : 0 ≤ Ideal.exp x := by
  induction x with
  | bot => exact le_rfl
  | top => exact le_top
  | coe r => exact EReal.coe_nonneg.2 (Real.exp_pos r).le

/-- An inverse is never infinite. -/
theorem inv_ne_top (x : EReal) : x⁻¹ ≠ ⊤ := by
  induction x with
  | bot => simp
  | top => simp
  | coe r => rw [← EReal.coe_inv]; exact EReal.coe_ne_top _

/-- A finite number that is not negative distributes over a sum. -/
theorem sum_mul_of_nonneg {ι : Type} (s : Finset ι) (f : ι → EReal) {c : EReal} (h0 : 0 ≤ c) (ht : c ≠ ⊤) :
    ∑ i ∈ s, f i * c = (∑ i ∈ s, f i) * c := by
  classical
  induction s using Finset.induction_on with
  | empty => simp
  | insert a s ha ih => rw [Finset.sum_insert ha, Finset.sum_insert ha, ih, EReal.right_distrib_of_nonneg_of_ne_top h0 ht]

/-- The greatest of finite numbers, at least one of them, is one of them. -/
theorem exists_eq_top {n : ℕ} [NeZero n] (s : Fin n → EReal) : ∃ j, top s = s j := by
  obtain ⟨j, -, hj⟩ := Finset.exists_mem_eq_sup (Finset.univ : Finset (Fin n)) Finset.univ_nonempty s
  exact ⟨j, hj⟩

/-- The sum of the weights of finite numbers is at least one. -/
theorem one_le_sum_weight {n : ℕ} [NeZero n] (s : Fin n → EReal) (h : ∀ j, s j ≠ ⊤ ∧ s j ≠ ⊥) : 1 ≤ ∑ k, weight s k := by
  obtain ⟨j, hj⟩ := exists_eq_top s
  have e : weight s j = 1 := by
    unfold weight
    rw [hj, EReal.sub_self (h j).1 (h j).2]
    exact (congrArg ((↑) : ℝ → EReal) Real.exp_zero).trans EReal.coe_one
  exact e ▸ Finset.single_le_sum (f := weight s) (fun k _ => exp_nonneg _) (Finset.mem_univ j)

/-- The division by the sum of the weights can be taken last. -/
theorem mean_eq {n : ℕ} [NeZero n] (s w : Fin n → EReal) (h : ∀ j, s j ≠ ⊤ ∧ s j ≠ ⊥) :
    mean s w = Ideal.div (∑ j, weight s j * w j) (∑ k, weight s k) := by
  have h1 := one_le_sum_weight s h
  have h0 : (0 : EReal) < ∑ k, weight s k := lt_of_lt_of_le zero_lt_one h1
  unfold mean Ideal.div
  simp only [if_neg h0.ne']
  rw [← sum_mul_of_nonneg _ _ (EReal.inv_nonneg_of_nonneg h0.le) (inv_ne_top _)]
  exact Finset.sum_congr rfl fun j _ => by rw [mul_comm (weight s j) (w j), mul_assoc]

/-- The greatest of two runs of numbers is the greater of their greatest. -/
theorem top_append {a b n : ℕ} (hn : n = a + b) (s : Fin n → EReal) :
    top s = max (top fun j : Fin a => s ⟨j, by omega⟩) (top fun j : Fin b => s ⟨a + j, by omega⟩) := by
  subst hn
  simp only [top_eq_sup]
  apply le_antisymm
  · refine Finset.sup_le fun j _ => ?_
    induction j using Fin.addCases with
    | left j => exact le_max_of_le_left (Finset.le_sup (f := fun j : Fin a => s ⟨j, by omega⟩) (Finset.mem_univ j))
    | right j => exact le_max_of_le_right (Finset.le_sup (f := fun j : Fin b => s ⟨a + j, by omega⟩) (Finset.mem_univ j))
  · exact max_le (Finset.sup_le fun j _ => Finset.le_sup (f := s) (Finset.mem_univ _))
      (Finset.sup_le fun j _ => Finset.le_sup (f := s) (Finset.mem_univ _))

/-- A sum over two runs. -/
theorem sum_append {a b n : ℕ} (hn : n = a + b) (f : Fin n → EReal) :
    ∑ j, f j = (∑ j : Fin a, f ⟨j, by omega⟩) + ∑ j : Fin b, f ⟨a + j, by omega⟩ := by
  subst hn
  exact Fin.sum_univ_add f

/-- The average of two runs of scores, each run's exponentials summed apart. -/
theorem mean_append {a b n : ℕ} [NeZero n] (hn : n = a + b) (s w : Fin n → EReal) (h : ∀ j, s j ≠ ⊤ ∧ s j ≠ ⊥)
    (so wo : Fin a → EReal) (sn wn : Fin b → EReal)
    (hso : ∀ j : Fin a, so j = s ⟨j, by omega⟩) (hwo : ∀ j : Fin a, wo j = w ⟨j, by omega⟩)
    (hsn : ∀ j : Fin b, sn j = s ⟨a + j, by omega⟩) (hwn : ∀ j : Fin b, wn j = w ⟨a + j, by omega⟩) :
    Ideal.div ((∑ j, Ideal.exp (so j - max (top so) (top sn)) * wo j) + ∑ j, Ideal.exp (sn j - max (top so) (top sn)) * wn j)
        ((∑ j, Ideal.exp (so j - max (top so) (top sn))) + ∑ j, Ideal.exp (sn j - max (top so) (top sn)))
      = mean s w := by
  obtain rfl : so = _ := funext hso
  obtain rfl : wo = _ := funext hwo
  obtain rfl : sn = _ := funext hsn
  obtain rfl : wn = _ := funext hwn
  rw [mean_eq s w h, sum_append hn (fun j => weight s j * w j), sum_append hn (weight s), ← top_append hn s]
  rfl

/-- The word of minus infinity. -/
theorem ofBits_neg_inf : Ideal.ofBits .f32 0xFF800000#32 = ⊥ := by simp [Ideal.ofBits, Ideal.ieee]

/-- A finite sum of finite numbers is finite. -/
theorem sum_finite {ι : Type} (s : Finset ι) (f : ι → EReal) (h : ∀ i ∈ s, f i ≠ ⊤ ∧ f i ≠ ⊥) :
    (∑ i ∈ s, f i) ≠ ⊤ ∧ (∑ i ∈ s, f i) ≠ ⊥ := by
  classical
  induction s using Finset.induction_on with
  | empty => simp
  | insert a s ha ih =>
    have hs := ih fun i hi => h i (Finset.mem_insert_of_mem hi)
    have ha' := h a (Finset.mem_insert_self a s)
    rw [Finset.sum_insert ha]
    lift f a to ℝ using ha' with x
    lift ∑ i ∈ s, f i to ℝ using hs with y
    rw [← EReal.coe_add]
    exact ⟨EReal.coe_ne_top _, EReal.coe_ne_bot _⟩

/-- A product of finite numbers is finite. -/
theorem mul_finite {x y : EReal} (hx : x ≠ ⊤ ∧ x ≠ ⊥) (hy : y ≠ ⊤ ∧ y ≠ ⊥) : x * y ≠ ⊤ ∧ x * y ≠ ⊥ := by
  lift x to ℝ using hx
  lift y to ℝ using hy
  rw [← EReal.coe_mul]
  exact ⟨EReal.coe_ne_top _, EReal.coe_ne_bot _⟩

/-- A sum of two finite numbers is finite. -/
theorem add_finite {x y : EReal} (hx : x ≠ ⊤ ∧ x ≠ ⊥) (hy : y ≠ ⊤ ∧ y ≠ ⊥) : x + y ≠ ⊤ ∧ x + y ≠ ⊥ := by
  lift x to ℝ using hx
  lift y to ℝ using hy
  rw [← EReal.coe_add]
  exact ⟨EReal.coe_ne_top _, EReal.coe_ne_bot _⟩

/-- A number whose magnitude is below infinity is finite. -/
theorem finite_of_abs_lt {x : EReal} (h : max x (-x) < ⊤) : x ≠ ⊤ ∧ x ≠ ⊥ := by
  refine ⟨fun e => ?_, fun e => ?_⟩ <;> subst e <;> simp at h

/-- Scores of which some are minus infinity, but not all: the division by the sum of the weights can be taken last. -/
theorem mean_eq_of_ne {n : ℕ} [NeZero n] (s w : Fin n → EReal) (ht : ∀ j, s j ≠ ⊤) (hb : ∃ j, s j ≠ ⊥) :
    mean s w = Ideal.div (∑ j, weight s j * w j) (∑ k, weight s k) := by
  obtain ⟨i, hi⟩ := hb
  obtain ⟨j, hj⟩ := exists_eq_top s
  have hjb : s j ≠ ⊥ := fun e => hi (le_bot_iff.1 (e ▸ hj ▸ (top_eq_sup s).symm ▸ Finset.le_sup (f := s) (Finset.mem_univ i)))
  have e : weight s j = 1 := by
    unfold weight
    rw [hj, EReal.sub_self (ht j) hjb]
    exact (congrArg ((↑) : ℝ → EReal) Real.exp_zero).trans EReal.coe_one
  have h1 : (1 : EReal) ≤ ∑ k, weight s k := e ▸ Finset.single_le_sum (f := weight s) (fun k _ => exp_nonneg _) (Finset.mem_univ j)
  have h0 : (0 : EReal) < ∑ k, weight s k := lt_of_lt_of_le zero_lt_one h1
  unfold mean Ideal.div
  simp only [if_neg h0.ne']
  rw [← sum_mul_of_nonneg _ _ (EReal.inv_nonneg_of_nonneg h0.le) (inv_ne_top _)]
  exact Finset.sum_congr rfl fun j _ => by rw [mul_comm (weight s j) (w j), mul_assoc]

/-- A score of minus infinity has no weight. -/
theorem exp_bot_sub (x : EReal) : Ideal.exp (⊥ - x) = 0 := by
  rw [EReal.bot_sub]
  rfl

/-- A sum whose terms vanish off a run is the sum over the run. -/
theorem sum_run {n N : ℕ} (o : ℕ) (ho : o + n ≤ N) (f : Fin N → EReal) (h : ∀ k : Fin N, ¬ (o ≤ k.val ∧ k.val < o + n) → f k = 0) :
    ∑ k, f k = ∑ j : Fin n, f ⟨o + j, by omega⟩ := by
  classical
  have hinj : Function.Injective fun j : Fin n => (⟨o + j, by omega⟩ : Fin N) := fun a b e => Fin.ext (by
    have := congrArg Fin.val e
    dsimp only at this
    omega)
  rw [← Finset.sum_image (s := Finset.univ) (g := fun j : Fin n => (⟨o + j, by omega⟩ : Fin N)) fun a _ b _ e => hinj e]
  refine (Finset.sum_subset (Finset.subset_univ _) fun k _ hk => h k fun hk' => hk ?_).symm
  exact Finset.mem_image.2 ⟨⟨k.val - o, by omega⟩, Finset.mem_univ _, Fin.ext (by dsimp only; omega)⟩

/-- The greatest of numbers that are minus infinity off a run is the greatest of the run. -/
theorem top_run {n N : ℕ} (o : ℕ) (ho : o + n ≤ N) (f : Fin N → EReal) (h : ∀ k : Fin N, ¬ (o ≤ k.val ∧ k.val < o + n) → f k = ⊥) :
    top f = top fun j : Fin n => f ⟨o + j, by omega⟩ := by
  simp only [top_eq_sup]
  apply le_antisymm
  · refine Finset.sup_le fun k _ => ?_
    by_cases hk : o ≤ k.val ∧ k.val < o + n
    · have e : k = ⟨o + (⟨k.val - o, by omega⟩ : Fin n), by dsimp only; omega⟩ := Fin.ext (by dsimp only; omega)
      rw [e]
      exact Finset.le_sup (f := fun j : Fin n => f ⟨o + j, by omega⟩) (Finset.mem_univ _)
    · rw [h k hk]
      exact bot_le
  · exact Finset.sup_le fun j _ => Finset.le_sup (f := f) (Finset.mem_univ _)

/-- Scores that are minus infinity off a run have the average of the run; a value whose score is minus infinity is of no
    account. -/
theorem mean_run {n N : ℕ} [NeZero n] (o : ℕ) (ho : o + n ≤ N) (s w : Fin n → EReal) (ht : ∀ j, s j ≠ ⊤) (hb : ∃ j, s j ≠ ⊥)
    (S W : Fin N → EReal) (hin : ∀ j : Fin n, S ⟨o + j, by omega⟩ = s j) (hout : ∀ k : Fin N, ¬ (o ≤ k.val ∧ k.val < o + n) → S k = ⊥)
    (hw : ∀ j : Fin n, s j ≠ ⊥ → W ⟨o + j, by omega⟩ = w j) :
    Ideal.div (∑ k, Ideal.exp (S k - top S) * W k) (∑ k, Ideal.exp (S k - top S)) = mean s w := by
  have et : top S = top s := (top_run o ho S hout).trans (congrArg top (funext hin))
  have e1 : ∀ k : Fin N, ¬ (o ≤ k.val ∧ k.val < o + n) → Ideal.exp (S k - top S) = 0 := fun k hk => by
    rw [hout k hk, exp_bot_sub]
  rw [mean_eq_of_ne s w ht hb, sum_run o ho _ e1, sum_run o ho _ fun k hk => by rw [e1 k hk, zero_mul]]
  congr 1
  · refine Finset.sum_congr rfl fun j _ => ?_
    rw [hin j, et]
    by_cases hj : s j = ⊥
    · unfold weight
      rw [hj, exp_bot_sub, zero_mul, zero_mul]
    · rw [hw j hj]
      rfl
  · exact Finset.sum_congr rfl fun j _ => by rw [hin j, et]; rfl

end Cert.Softmax

end
-- ==== Proof.AttSampleSpec.lean ====
/- The sample attention at one entry: what the reference computes there, in coordinates. -/
module

public import proofs.«01_k».proof.Proof.Softmax
public import proofs.«01_k».proof.Proof.Gen.ReferenceIdeal.Read

@[expose] public section

set_option maxRecDepth 16384

noncomputable section

open Idealize.ShloMosaic Idealize.ShloMosaic.TcCoe Idealize.SL.Sem

namespace Cert.AttSample

open Cert.ReferenceIdeal Cert.ReferenceIdeal.Gen Cert.ReferenceIdeal.Read

/-- The score of query `i` of sample `b` at head `h` against key `j`: the product with the cached key below 512 and
    with the sample's own new key from there, plus the bias. -/
def score (qkv : FVec Ideal S17408x3072 .bf16) (ck : FVec Ideal S2x16x512x16x64 .f32) (bias : FVec Ideal S16x64x576 .f32)
    (b h : Fin 16) (i : Fin 64) (j : Fin 576) : EReal :=
  (∑ x : Fin 64, qkv (ix2 ⟨16384 + (b * 64 + i), by omega⟩ ⟨h * 64 + x, by omega⟩) *
    if hj : j.val < 512 then ck (ix5 0 b ⟨j, hj⟩ h x)
    else qkv (ix2 ⟨16384 + (b * 64 + (j - 512)), by omega⟩ ⟨1024 + (h * 64 + x), by omega⟩)) + bias (ix3 h i j)

/-- Lane `x` of the value at `j`, cached below 512 and new from there. -/
def value (qkv : FVec Ideal S17408x3072 .bf16) (cv : FVec Ideal S2x16x512x16x64 .f32)
    (b h : Fin 16) (x : Fin 64) (j : Fin 576) : EReal :=
  if hj : j.val < 512 then cv (ix5 0 b ⟨j, hj⟩ h x)
  else qkv (ix2 ⟨16384 + (b * 64 + (j - 512)), by omega⟩ ⟨2048 + (h * 64 + x), by omega⟩)

/-- A maximum over the last axis is the fold of `max` along it. -/
theorem hostMax_apply (v : FVec Ideal S16x16x64x576 .f32) (c : FVec Ideal S_ .f32) (j : S16x16x64.Idx) :
    Host.reduce FloatOps.maximumf v c reducesTo_S16x16x64x576_S16x16x64_d3 h_S_ j
      = Finset.univ.fold max (c (Shape.Idx.first h_S_)) fun k : Fin 576 => v (ix4 (j 0) (j 1) (j 2) k) := by
  simp only [pointwise]

/-- The reference's scores. -/
theorem score_apply (x0 : FVec Ideal S17408x3072 .bf16) (x1 : FVec Ideal S2x16x512x16x64 .f32) (x3 : FVec Ideal S16x64x576 .f32)
    (j : S16x16x64x576.Idx) : val_main_v17 (F := Ideal) x0 x1 x3 j = score x0 x1 x3 (j 0) (j 1) (j 2) (j 3) := by
  pointwise [val_main_v17, val_main_v16, val_main_v15, val_main_v14, val_main_v10, val_main_v9, val_main_v8, val_main_v5,
    val_main_v4, val_main_v3, val_main_v2, val_main_v1, val_main_v0, score]

/-- The reference's greatest scores. -/
theorem top_apply (x0 : FVec Ideal S17408x3072 .bf16) (x1 : FVec Ideal S2x16x512x16x64 .f32) (x3 : FVec Ideal S16x64x576 .f32)
    (j : S16x16x64.Idx) : val_main_v20 (F := Ideal) x0 x1 x3 j = Softmax.top (score x0 x1 x3 (j 0) (j 1) (j 2)) := by
  rw [val_main_v20_apply, val_main_v19_apply, val_main_cst_0_apply, Ideal.maximumf_def, Ideal.ofBits_def, Softmax.ofBits_neg_inf,
    max_eq_right bot_le]
  unfold val_main_v18 Softmax.top
  rw [hostMax_apply, val_main_cst_apply, Ideal.ofBits_def, Softmax.ofBits_neg_inf]
  exact Finset.fold_congr fun k _ => score_apply x0 x1 x3 _

/-- The reference's exponentials. -/
theorem weight_apply (x0 : FVec Ideal S17408x3072 .bf16) (x1 : FVec Ideal S2x16x512x16x64 .f32) (x3 : FVec Ideal S16x64x576 .f32)
    (j : S16x16x64x576.Idx) :
    val_main_v24 (F := Ideal) x0 x1 x3 j = Softmax.weight (score x0 x1 x3 (j 0) (j 1) (j 2)) (j 3) := by
  rw [val_main_v24_apply, val_main_v23_apply, val_main_v22_apply, val_main_v21_apply, top_apply, score_apply]
  rfl

/-- The reference's values. -/
theorem value_apply (x0 : FVec Ideal S17408x3072 .bf16) (x2 : FVec Ideal S2x16x512x16x64 .f32) (j : S16x576x16x64.Idx) :
    val_main_v13 (F := Ideal) x0 x2 j = value x0 x2 (j 0) (j 2) (j 3) (j 1) := by
  pointwise [val_main_v13, val_main_v12, val_main_v11, val_main_v7, val_main_v6, val_main_v1, val_main_v0, value]

/-- The reference at row `r` and column `k`: the softmax average of sample `r / 64` and head `k / 64`. -/
theorem result_apply (x0 : FVec Ideal S17408x3072 .bf16) (x1 x2 : FVec Ideal S2x16x512x16x64 .f32) (x3 : FVec Ideal S16x64x576 .f32)
    (j : S1024x1024.Idx) (r k : Fin 1024) (hr : j 0 = r) (hk : j 1 = k) :
    val_main_v32 (F := Ideal) x0 x1 x2 x3 j
      = Softmax.mean (score x0 x1 x3 ⟨r / 64, by omega⟩ ⟨k / 64, by omega⟩ ⟨r % 64, by omega⟩)
          (value x0 x2 ⟨r / 64, by omega⟩ ⟨k / 64, by omega⟩ ⟨k % 64, by omega⟩) := by
  subst hr hk
  pointwise [val_main_v32, val_main_v31, val_main_v30, val_main_v29, val_main_v28, val_main_v27, val_main_v26, val_main_v25]
  simp only [val_main_cst_1_apply, Ideal.ofBits_def, Ideal.ofBits_zero_f32, zero_add, weight_apply, value_apply]
  rfl

end Cert.AttSample

end
-- ==== Proof.AttSampleValue.lean ====
/- The sample attention: what the kernel leaves in its result is the softmax average that the reference computes. -/
module

public import proofs.«01_k».proof.Proof.AttSampleTile
public import proofs.«01_k».proof.Proof.AttSampleSpec

@[expose] public section

set_option maxRecDepth 16384

noncomputable section

open Idealize.ShloMosaic Idealize.ShloMosaic.TcCoe Idealize.SL.Sem
open Idealize.ShloMosaic.Pipeline (Dat)

namespace Cert.KernelIdeal.ValueAtt

open Cert.KernelIdeal Cert.KernelIdeal.Gen Cert.AttSample

/-- Two pairs of coordinates of equal values are one index. -/
theorem ix2_congr {a b : ℕ} {i i' : Fin a} {j j' : Fin b} (hi : i.val = i'.val) (hj : j.val = j'.val) : ix2 i j = ix2 i' j' := by
  rw [Fin.ext hi, Fin.ext hj]

/-- One head's tile at row `i` and lane `l`, in terms of its scores. -/
theorem headAtt_apply (q k v : FVec Ideal S64x128 .bf16) (kt vt : FVec Ideal S128x512 .bf16) (b : Vec Ideal S1x64x576 .f32)
    (i : Fin 64) (l : Fin 128) :
    headAtt q k v kt vt b (ix2 i l) =
      Ideal.div
        ((∑ x, Ideal.exp (oldScore q kt b (ix2 i x) - max (Softmax.top fun x => oldScore q kt b (ix2 i x)) (Softmax.top fun x => newScore q k b (ix2 i x))) * vt (ix2 l x))
          + ∑ x, Ideal.exp (newScore q k b (ix2 i x) - max (Softmax.top fun x => oldScore q kt b (ix2 i x)) (Softmax.top fun x => newScore q k b (ix2 i x))) * v (ix2 x l))
        ((∑ x, Ideal.exp (oldScore q kt b (ix2 i x) - max (Softmax.top fun x => oldScore q kt b (ix2 i x)) (Softmax.top fun x => newScore q k b (ix2 i x))))
          + ∑ x, Ideal.exp (newScore q k b (ix2 i x) - max (Softmax.top fun x => oldScore q kt b (ix2 i x)) (Softmax.top fun x => newScore q k b (ix2 i x)))) := by
  unfold headAtt
  generalize oldScore q kt b = s
  generalize newScore q k b = n
  pointwise [average, rowMax]
  simp only [Softmax.ofBits_neg_inf]
  rfl

/-- A head's tile is the softmax average, once its scores and values are the reference's. -/
theorem headAtt_eq (qkv : FVec Ideal S17408x3072 .bf16) (ck cv : FVec Ideal S2x16x512x16x64 .f32) (bias : FVec Ideal S16x64x576 .f32)
    (B h : Fin 16) (i : Fin 64) (z : Fin 64) (l : Fin 128) (hfin : ∀ j, score qkv ck bias B h i j ≠ ⊤ ∧ score qkv ck bias B h i j ≠ ⊥)
    (q k v : FVec Ideal S64x128 .bf16) (kt vt : FVec Ideal S128x512 .bf16) (b : Vec Ideal S1x64x576 .f32)
    (hso : ∀ j : Fin 512, oldScore q kt b (ix2 i j) = score qkv ck bias B h i ⟨j, by omega⟩)
    (hsn : ∀ j : Fin 64, newScore q k b (ix2 i j) = score qkv ck bias B h i ⟨512 + j, by omega⟩)
    (hvo : ∀ j : Fin 512, vt (ix2 l j) = value qkv cv B h z ⟨j, by omega⟩)
    (hvn : ∀ j : Fin 64, v (ix2 j l) = value qkv cv B h z ⟨512 + j, by omega⟩) :
    headAtt q k v kt vt b (ix2 i l) = Softmax.mean (score qkv ck bias B h i) (value qkv cv B h z) := by
  rw [headAtt_apply]
  exact Softmax.mean_append (a := 512) (b := 64) rfl (score qkv ck bias B h i) (value qkv cv B h z) hfin
    (fun x => oldScore q kt b (ix2 i x)) (fun x => vt (ix2 l x)) (fun x => newScore q k b (ix2 i x)) (fun x => v (ix2 x l))
    hso hvo hsn hvn

/-- A product over a pair's 128 lanes whose first factor is zero off the first head's lanes. -/
theorem sum_first (f g : Fin 128 → EReal) : (∑ x : Fin 128, (if x.val < 64 then f x else 0) * g x)
    = ∑ x : Fin 64, f ⟨x, by omega⟩ * g ⟨x, by omega⟩ := by
  rw [Softmax.sum_append (a := 64) (b := 64) rfl]
  simp

/-- A product over a pair's 128 lanes whose first factor is zero on the first head's lanes. -/
theorem sum_second (f g : Fin 128 → EReal) : (∑ x : Fin 128, (if x.val < 64 then 0 else f x) * g x)
    = ∑ x : Fin 64, f ⟨64 + x, by omega⟩ * g ⟨64 + x, by omega⟩ := by
  rw [Softmax.sum_append (a := 64) (b := 64) rfl]
  simp

/-- The first head's lanes are those below 64. -/
theorem select_firstHead {φ : FTy} (a b : FVec Ideal S64x128 φ) (i : Fin 64) (l : Fin 128) :
    select firstHead a b (ix2 i l) = if l.val < 64 then a (ix2 i l) else b (ix2 i l) := by
  have e : select firstHead a b (ix2 i l)
      = Scalar.select (IntOp.cmpi .slt (BitVec.ofNat 32 l.val) 64#32) (a (ix2 i l)) (b (ix2 i l)) := by
    pointwise [firstHead]
  have key : ∀ l : Fin 128, IntOp.cmpi .slt (BitVec.ofNat 32 l.val) 64#32 = if l.val < 64 then 1#1 else 0#1 := by decide
  rw [e, key l]
  by_cases hl : l.val < 64
  · simp only [if_pos hl]; rfl
  · simp only [if_neg hl]; rfl

/-- Two stacked planes, row by row. -/
theorem stack_apply (a b : Vec Ideal S1x1x1x64x512 .f32) (l : Fin 128) (j : Fin 512) :
    stack a b (ix2 l j) = if hl : l.val < 64 then a (ix5 0 0 0 ⟨l, hl⟩ j) else b (ix5 0 0 0 ⟨l.val - 64, by omega⟩ j) := by
  pointwise [stack]

/-- The scores of one half of a pair (lanes `64 * p` to `64 * p + 63`), against the cache and against the new keys. -/
theorem scores_eq (qkv : FVec Ideal S17408x3072 .bf16) (ck : FVec Ideal S2x16x512x16x64 .f32) (bias : FVec Ideal S16x64x576 .f32)
    (B h : Fin 16) (P : Fin 8) (p : Fin 2) (hh : h.val = 2 * P + p)
    (q q' k : FVec Ideal S64x128 .bf16) (kt : FVec Ideal S128x512 .bf16) (b : Vec Ideal S1x64x576 .f32)
    (hq : ∀ (i : Fin 64) (l : Fin 128), q (ix2 i l) = qkv (ix2 ⟨16384 + (B * 64 + i), by omega⟩ ⟨P * 128 + l, by omega⟩))
    (hk : ∀ (i : Fin 64) (l : Fin 128), k (ix2 i l) = qkv (ix2 ⟨16384 + (B * 64 + i), by omega⟩ ⟨1024 + (P * 128 + l), by omega⟩))
    (hkt : ∀ (x : Fin 64) (j : Fin 512), kt (ix2 ⟨64 * p + x, by omega⟩ j) = ck (ix5 0 B j h x))
    (hb : ∀ (i : Fin 64) (j : Fin 576), b (ix3 0 i j) = bias (ix3 h i j)) (i : Fin 64)
    (hq' : ∀ g : Fin 128 → EReal, (∑ x, q' (ix2 i x) * g x) = ∑ x : Fin 64, q (ix2 i ⟨64 * p + x, by omega⟩) * g ⟨64 * p + x, by omega⟩) :
    (∀ j : Fin 512, oldScore q' kt b (ix2 i j) = score qkv ck bias B h i ⟨j, by omega⟩)
    ∧ ∀ j : Fin 64, newScore q' k b (ix2 i j) = score qkv ck bias B h i ⟨512 + j, by omega⟩ := by
  refine ⟨fun j => ?_, fun j => ?_⟩
  · have e : oldScore q' kt b (ix2 i j) = (∑ x, q' (ix2 i x) * kt (ix2 x j)) + b (ix3 0 i ⟨j, by omega⟩) := by pointwise [oldScore]
    rw [e, hq' fun x => kt (ix2 x j)]
    simp only [hkt, hq, hb, score, Fin.is_lt, dite_true]
    refine congrArg (· + _) (Finset.sum_congr rfl fun x _ => ?_)
    exact congrArg (· * _) (congrArg qkv (ix2_congr rfl (by dsimp only; omega)))
  · have e : newScore q' k b (ix2 i j) = (∑ x, q' (ix2 i x) * k (ix2 j x)) + b (ix3 0 i ⟨512 + j, by omega⟩) := by pointwise [newScore]
    rw [e, hq' fun x => k (ix2 j x)]
    have hj : ¬ (512 + j.val < 512) := by omega
    simp only [hk, hq, hb, score, dif_neg hj]
    refine congrArg (· + _) (Finset.sum_congr rfl fun x _ => ?_)
    exact congrArg₂ (· * ·) (congrArg qkv (ix2_congr rfl (by dsimp only; omega)))
      (congrArg qkv (ix2_congr (by dsimp only; omega) (by dsimp only; omega)))

/-- One half of a pair is the softmax average of its head. -/
theorem half_eq (qkv : FVec Ideal S17408x3072 .bf16) (ck cv : FVec Ideal S2x16x512x16x64 .f32) (bias : FVec Ideal S16x64x576 .f32)
    (B h : Fin 16) (P : Fin 8) (p : Fin 2) (hh : h.val = 2 * P + p) (i z : Fin 64) (l : Fin 128) (hl : l.val = 64 * p + z)
    (hfin : ∀ j, score qkv ck bias B h i j ≠ ⊤ ∧ score qkv ck bias B h i j ≠ ⊥)
    (q q' k v : FVec Ideal S64x128 .bf16) (kt vt : FVec Ideal S128x512 .bf16) (b : Vec Ideal S1x64x576 .f32)
    (hq : ∀ (i : Fin 64) (l : Fin 128), q (ix2 i l) = qkv (ix2 ⟨16384 + (B * 64 + i), by omega⟩ ⟨P * 128 + l, by omega⟩))
    (hk : ∀ (i : Fin 64) (l : Fin 128), k (ix2 i l) = qkv (ix2 ⟨16384 + (B * 64 + i), by omega⟩ ⟨1024 + (P * 128 + l), by omega⟩))
    (hv : ∀ (i : Fin 64) (l : Fin 128), v (ix2 i l) = qkv (ix2 ⟨16384 + (B * 64 + i), by omega⟩ ⟨2048 + (P * 128 + l), by omega⟩))
    (hkt : ∀ (x : Fin 64) (j : Fin 512), kt (ix2 ⟨64 * p + x, by omega⟩ j) = ck (ix5 0 B j h x))
    (hvt : ∀ (x : Fin 64) (j : Fin 512), vt (ix2 ⟨64 * p + x, by omega⟩ j) = cv (ix5 0 B j h x))
    (hb : ∀ (i : Fin 64) (j : Fin 576), b (ix3 0 i j) = bias (ix3 h i j))
    (hq' : ∀ g : Fin 128 → EReal, (∑ x, q' (ix2 i x) * g x) = ∑ x : Fin 64, q (ix2 i ⟨64 * p + x, by omega⟩) * g ⟨64 * p + x, by omega⟩) :
    headAtt q' k v kt vt b (ix2 i l) = Softmax.mean (score qkv ck bias B h i) (value qkv cv B h z) := by
  obtain ⟨hso, hsn⟩ := scores_eq qkv ck bias B h P p hh q q' k kt b hq hk hkt hb i hq'
  obtain ⟨l, ltl⟩ := l
  dsimp only at hl
  subst hl
  refine headAtt_eq qkv ck cv bias B h i z _ hfin _ _ _ _ _ _ hso hsn (fun j => ?_) (fun j => ?_)
  · simp only [hvt, value, Fin.is_lt, dite_true]
  · have hj : ¬ (512 + j.val < 512) := by omega
    simp only [hv, value, dif_neg hj]
    exact congrArg qkv (ix2_congr (by dsimp only; omega) (by dsimp only; omega))

/-- One tile is the softmax average of its pair of heads, from what its loads hold. -/
theorem pairAtt_eq (qkv : FVec Ideal S17408x3072 .bf16) (ck cv : FVec Ideal S2x16x512x16x64 .f32) (bias : FVec Ideal S16x64x576 .f32)
    (B : Fin 16) (P : Fin 8) (hfin : ∀ h i j, score qkv ck bias B h i j ≠ ⊤ ∧ score qkv ck bias B h i j ≠ ⊥)
    (q k v : Vec Ideal S64x128 .bf16) (ka kb va vb : Vec Ideal S1x1x1x64x512 .f32) (ba bb : Vec Ideal S1x64x576 .f32)
    (hq : ∀ (i : Fin 64) (l : Fin 128), q (ix2 i l) = qkv (ix2 ⟨16384 + (B * 64 + i), by omega⟩ ⟨P * 128 + l, by omega⟩))
    (hk : ∀ (i : Fin 64) (l : Fin 128), k (ix2 i l) = qkv (ix2 ⟨16384 + (B * 64 + i), by omega⟩ ⟨1024 + (P * 128 + l), by omega⟩))
    (hv : ∀ (i : Fin 64) (l : Fin 128), v (ix2 i l) = qkv (ix2 ⟨16384 + (B * 64 + i), by omega⟩ ⟨2048 + (P * 128 + l), by omega⟩))
    (hka : ∀ (x : Fin 64) (j : Fin 512), ka (ix5 0 0 0 x j) = ck (ix5 0 B j ⟨2 * P, by omega⟩ x))
    (hkb : ∀ (x : Fin 64) (j : Fin 512), kb (ix5 0 0 0 x j) = ck (ix5 0 B j ⟨2 * P + 1, by omega⟩ x))
    (hva : ∀ (x : Fin 64) (j : Fin 512), va (ix5 0 0 0 x j) = cv (ix5 0 B j ⟨2 * P, by omega⟩ x))
    (hvb : ∀ (x : Fin 64) (j : Fin 512), vb (ix5 0 0 0 x j) = cv (ix5 0 B j ⟨2 * P + 1, by omega⟩ x))
    (hba : ∀ (i : Fin 64) (j : Fin 576), ba (ix3 0 i j) = bias (ix3 ⟨2 * P, by omega⟩ i j))
    (hbb : ∀ (i : Fin 64) (j : Fin 576), bb (ix3 0 i j) = bias (ix3 ⟨2 * P + 1, by omega⟩ i j))
    (i : Fin 64) (l : Fin 128) (h : Fin 16) (z : Fin 64) (hh : h.val = 2 * P + l / 64) (hz : z.val = l % 64) :
    pairAtt q k v ka kb va vb ba bb (ix2 i l) = Softmax.mean (score qkv ck bias B h i) (value qkv cv B h z) := by
  have e : pairAtt q k v ka kb va vb ba bb (ix2 i l) = if l.val < 64
      then headAtt (select firstHead q (broadcast S64x128 (Scalar.ofBits .bf16 0x0000#16))) k v (stack ka kb) (stack va vb) ba (ix2 i l)
      else headAtt (select firstHead (broadcast S64x128 (Scalar.ofBits .bf16 0x0000#16)) q) k v (stack ka kb) (stack va vb) bb (ix2 i l) :=
    select_firstHead _ _ i l
  have zero : ∀ (i : Fin 64) (l : Fin 128), (broadcast S64x128 (Scalar.ofBits (F := Ideal) .bf16 0x0000#16) : FVec Ideal S64x128 .bf16) (ix2 i l) = 0 :=
    fun i l => Ideal.ofBits_zero_bf16
  rw [e]
  by_cases hl : l.val < 64
  · have eh : (⟨2 * P, by omega⟩ : Fin 16) = h := Fin.ext (by simp only; omega)
    rw [if_pos hl]
    rw [eh] at hka hva hba
    refine half_eq qkv ck cv bias B h P 0 (by simp only [Fin.val_zero]; omega) i z l (by simp only [Fin.val_zero]; omega) (hfin h i)
      q _ k v _ _ ba hq hk hv (fun x j => ?_) (fun x j => ?_) hba (fun g => ?_)
    · rw [stack_apply, dif_pos (by simp only [Fin.val_zero]; omega), ← hka]; simp
    · rw [stack_apply, dif_pos (by simp only [Fin.val_zero]; omega), ← hva]; simp
    · simp only [select_firstHead, zero]
      rw [sum_first (fun x => q (ix2 i x)) g]
      simp
  · have eh : (⟨2 * P + 1, by omega⟩ : Fin 16) = h := Fin.ext (by simp only; omega)
    rw [if_neg hl]
    rw [eh] at hkb hvb hbb
    refine half_eq qkv ck cv bias B h P 1 (by simp only [Fin.val_one]; omega) i z l (by simp only [Fin.val_one]; omega) (hfin h i)
      q _ k v _ _ bb hq hk hv (fun x j => ?_) (fun x j => ?_) hbb (fun g => ?_)
    · rw [stack_apply, dif_neg (by simp only [Fin.val_one]; omega), ← hkb]; simp
    · rw [stack_apply, dif_neg (by simp only [Fin.val_one]; omega), ← hvb]; simp
    · simp only [select_firstHead, zero]
      rw [sum_second (fun x => q (ix2 i x)) g]
      simp

variable (m : (ℓ : Loc nD τ sig) → Buf (Elt Ideal) ℓ)

/-- Which block of each operand a grid point works on. -/
theorem idx_val : ∀ t : Fin cfg0.N, win0_0.index t = ![t.val + 256, 0] ∧ win0_1.index t = ![t.val + 256, 1]
    ∧ win0_2.index t = ![t.val + 256, 2] ∧ win0_3.index t = ![0, t.val, 0, 0, 0] ∧ win0_4.index t = ![0, t.val, 0, 0, 0]
    ∧ win0_5.index t = ![0, 0, 0] ∧ win0_6.index t = ![t.val, 0] :=
  (by decide +kernel : ∀ t : Fin grid0.N, _)

/-- The query block of a grid point. -/
theorem blk0 (c : Dev nD) (t : Fin cfg0.N) (ht : t.val < 16) (i : Fin 64) (l : Fin 1024) :
    iblk m c 0 t (ix2 i l) = m ((c : Thread nD τ).loc main_arg0) (ix2 ⟨16384 + (t * 64 + i), by omega⟩ ⟨l, by omega⟩) := by
  blk_ext [iblk, V, idx_val t]

/-- The new-key block of a grid point. -/
theorem blk1 (c : Dev nD) (t : Fin cfg0.N) (ht : t.val < 16) (i : Fin 64) (l : Fin 1024) :
    iblk m c 1 t (ix2 i l) = m ((c : Thread nD τ).loc main_arg0) (ix2 ⟨16384 + (t * 64 + i), by omega⟩ ⟨1024 + l, by omega⟩) := by
  blk_ext [iblk, V, idx_val t]

/-- The new-value block of a grid point. -/
theorem blk2 (c : Dev nD) (t : Fin cfg0.N) (ht : t.val < 16) (i : Fin 64) (l : Fin 1024) :
    iblk m c 2 t (ix2 i l) = m ((c : Thread nD τ).loc main_arg0) (ix2 ⟨16384 + (t * 64 + i), by omega⟩ ⟨2048 + l, by omega⟩) := by
  blk_ext [iblk, V, idx_val t]

/-- The cached-key block of a grid point. -/
theorem blk3 (c : Dev nD) (t : Fin cfg0.N) (ht : t.val < 16) (h : Fin 16) (x : Fin 64) (j : Fin 512) :
    iblk m c 3 t (ix5 0 0 h x j) = m ((c : Thread nD τ).loc main_arg1) (ix5 0 ⟨t, ht⟩ j h x) := by
  blk_simp [iblk, idx_val t]
  entry_read
  pointwise
  blk_ext [idx_val t]

/-- The cached-value block of a grid point. -/
theorem blk4 (c : Dev nD) (t : Fin cfg0.N) (ht : t.val < 16) (h : Fin 16) (x : Fin 64) (j : Fin 512) :
    iblk m c 4 t (ix5 0 0 h x j) = m ((c : Thread nD τ).loc main_arg2) (ix5 0 ⟨t, ht⟩ j h x) := by
  blk_simp [iblk, idx_val t]
  entry_read
  pointwise
  blk_ext [idx_val t]

/-- The bias block of a grid point. -/
theorem blk5 (c : Dev nD) (t : Fin cfg0.N) (h : Fin 16) (i : Fin 64) (j : Fin 576) :
    iblk m c 5 t (ix3 h i j) = m ((c : Thread nD τ).loc main_arg3) (ix3 h i j) := by
  blk_ext [iblk, V, idx_val t]

/-- Equal heads give equal indices of a cache. -/
theorem ix5_congr {a b : Nat} {A : Fin 2} {B : Fin 16} {j : Fin 512} {x : Fin 64} {ha : a < 16} {hb : b < 16} (h : a = b) :
    (ix5 A B j ⟨a, ha⟩ x : S2x16x512x16x64.Idx) = ix5 A B j ⟨b, hb⟩ x := by subst h; rfl

/-- Equal heads give equal indices of the bias. -/
theorem ix3_congr {a b : Nat} {i : Fin 64} {j : Fin 576} {ha : a < 16} {hb : b < 16} (h : a = b) :
    (ix3 ⟨a, ha⟩ i j : S16x64x576.Idx) = ix3 ⟨b, hb⟩ i j := by subst h; rfl

/-- An index of a tile is its two coordinates. -/
theorem at_ix2 (x : S64x128.Idx) : x = ix2 (x 0) (x 1) := by
  funext a; fin_cases a <;> rfl

/-- The scores are finite numbers. -/
abbrev Finite (c : Dev nD) : Prop :=
  ∀ b h i j, score (m ((c : Thread nD τ).loc main_arg0)) (m ((c : Thread nD τ).loc main_arg1)) (m ((c : Thread nD τ).loc main_arg3)) b h i j ≠ ⊤
    ∧ score (m ((c : Thread nD τ).loc main_arg0)) (m ((c : Thread nD τ).loc main_arg1)) (m ((c : Thread nD τ).loc main_arg3)) b h i j ≠ ⊥

set_option maxHeartbeats 4000000 in
/-- What one grid point leaves in its output block: the softmax averages of its sample. -/
theorem point (c : Dev nD) (t : Fin cfg0.N) (y : S64x1024.Idx) (r k : Fin 1024) (hr : r.val = t.val * 64 + (y 0).val) (hk : k.val = (y 1).val)
    (hfin : Finite m c) :
    out0_6 (iblk m c 0 t) (iblk m c 1 t) (iblk m c 2 t) (iblk m c 3 t) (iblk m c 4 t) (iblk m c 5 t) y
      = Softmax.mean (score (m ((c : Thread nD τ).loc main_arg0)) (m ((c : Thread nD τ).loc main_arg1)) (m ((c : Thread nD τ).loc main_arg3)) ⟨r / 64, by omega⟩ ⟨k / 64, by omega⟩ ⟨r % 64, by omega⟩)
          (value (m ((c : Thread nD τ).loc main_arg0)) (m ((c : Thread nD τ).loc main_arg2)) ⟨r / 64, by omega⟩ ⟨k / 64, by omega⟩ ⟨k % 64, by omega⟩) := by
  have ht : t.val < 16 := lt_of_lt_of_eq t.isLt N_0
  have hy0 : (y 0).val < 64 := (y 0).isLt
  have hy1 : (y 1).val < 1024 := (y 1).isLt
  have eB : (⟨r / 64, by omega⟩ : Fin 16) = ⟨t, ht⟩ := Fin.ext (by dsimp only; omega)
  have eI : (⟨r % 64, by omega⟩ : Fin 64) = ⟨y 0, hy0⟩ := Fin.ext (by dsimp only; omega)
  rw [out_eq, eB, eI]
  canon_tiles x g
  all_goals
    rw [at_ix2 x]
    have eX : (⟨y 0, hy0⟩ : Fin 64) = x 0 := Fin.ext g0
    rw [eX]
    refine pairAtt_eq _ _ _ _ _ ⟨(y 1).val / 128, by omega⟩ (hfin _) _ _ _ _ _ _ _ _ _ (fun i l => ?_) (fun i l => ?_) (fun i l => ?_)
      (fun i l => ?_) (fun i l => ?_) (fun i l => ?_) (fun i l => ?_) (fun i l => ?_) (fun i l => ?_) _ _ _ _ (by dsimp only; omega) (by dsimp only; omega)
    · pointwise; rw [blk0 m c t ht]; exact congrArg (m _) (ix2_congr rfl (by dsimp only; omega))
    · pointwise; rw [blk1 m c t ht]; exact congrArg (m _) (ix2_congr rfl (by dsimp only; omega))
    · pointwise; rw [blk2 m c t ht]; exact congrArg (m _) (ix2_congr rfl (by dsimp only; omega))
    · pointwise; rw [blk3 m c t ht]; exact congrArg (m _) (ix5_congr (by dsimp only; omega))
    · pointwise; rw [blk3 m c t ht]; exact congrArg (m _) (ix5_congr (by dsimp only; omega))
    · pointwise; rw [blk4 m c t ht]; exact congrArg (m _) (ix5_congr (by dsimp only; omega))
    · pointwise; rw [blk4 m c t ht]; exact congrArg (m _) (ix5_congr (by dsimp only; omega))
    · pointwise; rw [blk5 m c t]; exact congrArg (m _) (ix3_congr (by dsimp only; omega))
    · pointwise; rw [blk5 m c t]; exact congrArg (m _) (ix3_congr (by dsimp only; omega))

/-- The row of the result that a block's row is. -/
theorem emb6_row (t : Fin cfg0.N) (y : S64x1024.Idx) : ((win0_6.blk t).view.emb y 0).val = t.val * 64 + (y 0).val := by
  blk_simp [idx_val t]

/-- The column of the result that a block's column is. -/
theorem emb6_col (t : Fin cfg0.N) (y : S64x1024.Idx) : ((win0_6.blk t).view.emb y 1).val = (y 1).val := by
  blk_simp [idx_val t]

/-- The kernel's result is the reference's, of the same arguments. -/
theorem final (c : Dev nD) (hfin : Finite m c) : (dats m 0 c).arrAt 6 (cfgs 0).N
    = Cert.ReferenceIdeal.Read.val_main_v32 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 6 _ (by decide +kernel) fun t _ y => ?_
  have ht : t.val < 16 := lt_of_lt_of_eq t.isLt N_0
  have hy0 : (y 0).val < 64 := (y 0).isLt
  have hy1 : (y 1).val < 1024 := (y 1).isLt
  blk_simp
  rw [after0_6, result_apply _ _ _ _ _ ⟨t * 64 + (y 0).val, by omega⟩ ⟨(y 1).val, hy1⟩ ?_ ?_]
  · exact point m c t y _ _ rfl rfl hfin
  · exact Fin.ext (emb6_row t y)
  · exact Fin.ext (emb6_col t y)

end Cert.KernelIdeal.ValueAtt

end
-- ==== Proof.AttSampleFinite.lean ====
/- The precondition read back: the numbers the sample attention reads are finite, hence its scores are. -/
module

public import proofs.«01_k».proof.Proof.AttSampleSpec
public import proofs.«01_k».proof.Proof.Gen.Pre_finite
public import Idealize.ShloMosaic.Lib.ReduceAll

@[expose] public section

set_option maxRecDepth 16384

noncomputable section

open Idealize.ShloMosaic Idealize.SL.Sem

namespace Cert.AttSample

open Cert.ReferenceIdeal Cert.ReferenceIdeal.Gen

/-- The word for infinity in 32 bits is infinity. -/
theorem ofBits_inf32 : Ideal.ofBits .f32 0x7F800000#32 = ⊤ := by simp [Ideal.ofBits, Ideal.ieee]

/-- The word for infinity in 16 bits is infinity. -/
theorem ofBits_inf16 : Ideal.ofBits .bf16 0x7F80#16 = ⊤ := by simp [Ideal.ofBits, Ideal.ieee]

/-- A number whose absolute value compares below infinity is finite. -/
theorem finite_of_cmpf {φ : FTy} {x b : Ideal φ} (hb : b = (⊤ : EReal))
    (h : FloatOps.cmpf .olt (FloatOps.hostAbsf x) b = 1#1) : x ≠ (⊤ : EReal) ∧ x ≠ (⊥ : EReal) := by
  subst hb
  exact Softmax.finite_of_abs_lt (by by_contra hn; have e : FloatOps.cmpf .olt (FloatOps.hostAbsf x) (⊤ : Ideal φ) = BitVec.ofBool (decide (max x (-x) < (⊤ : EReal))) := rfl; rw [e, decide_eq_false hn] at h; exact absurd h (by decide))

/-- The precondition makes every score a finite number. -/
theorem scores_finite (x0 : FVec Ideal S17408x3072 .bf16) (x1 x2 : FVec Ideal S2x16x512x16x64 .f32) (x3 : FVec Ideal S16x64x576 .f32)
    (h : Cert.Pre_finite.fn (F := Ideal) x0 x1 x2 x3 = fun _ => 1#1) (b h' : Fin 16) (i : Fin 64) (j : Fin 576) :
    score x0 x1 x3 b h' i j ≠ ⊤ ∧ score x0 x1 x3 b h' i j ≠ ⊥ := by
  have e := congrFun h (Shape.Idx.first Cert.Pre_finite.Gen.h_S_)
  dsimp only [Cert.Pre_finite.fn] at e
  obtain ⟨e, e3⟩ := IntOp.andi_eq_one.1 e
  obtain ⟨e0, e1⟩ := IntOp.andi_eq_one.1 e
  have : Subsingleton (Shape.Idx Cert.Pre_finite.S_) := ⟨fun a b => funext fun k => k.elim0⟩
  have f3 : ∀ i, x3 i ≠ ⊤ ∧ x3 i ≠ ⊥ := fun i =>
    finite_of_cmpf ofBits_inf32 (Host.reduce_andi_all _ _ _ _ _ e3 i)
  have f1 : ∀ (b : Fin 16) (j : Fin 512) (h : Fin 16) (x : Fin 64), x1 (ix5 0 b j h x) ≠ ⊤ ∧ x1 (ix5 0 b j h x) ≠ ⊥ := fun b j h x => by
    have q := finite_of_cmpf ofBits_inf32 (Host.reduce_andi_all _ _ _ _ _ e1 (ix4 b j h x))
    revert q
    pointwise
    exact id
  have f0 : ∀ (a : Fin 1024) (l : Fin 2048), x0 (ix2 ⟨16384 + a, by omega⟩ ⟨l, by omega⟩) ≠ ⊤ ∧ x0 (ix2 ⟨16384 + a, by omega⟩ ⟨l, by omega⟩) ≠ ⊥ := fun a l => by
    have q := finite_of_cmpf ofBits_inf16 (Host.reduce_andi_all _ _ _ _ _ e0 (ix2 a l))
    revert q
    pointwise
    exact id
  refine Softmax.add_finite (Softmax.sum_finite _ _ fun x _ => Softmax.mul_finite ?_ ?_) (f3 _)
  · exact f0 ⟨b * 64 + i, by omega⟩ ⟨h' * 64 + x, by omega⟩
  · split
    · exact f1 _ _ _ _
    · exact f0 ⟨b * 64 + (j - 512), by omega⟩ ⟨1024 + (h' * 64 + x), by omega⟩

end Cert.AttSample

end
-- ==== Proof.MoeTile.lean ====
/- The mixture of experts, one tile: what a grid point adds to the running sum of expert outputs, and what the last point of a
   row block makes of it. -/
module

public import proofs.«01_k».proof.Proof.Gen.Kernel2Ideal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.ValueMoe

open Cert.Kernel2Ideal Cert.Kernel2Ideal.Gen

variable {F : FTy → Type} [FloatOps F]

/-- Half of one, in every cell. -/
def halves : FVec F S512x256 .f32 := broadcast S512x256 (Scalar.ofBits .f32 0x3F000000#32)

/-- `z · sigmoid z`, the sigmoid written with a hyperbolic tangent. -/
def swish (z : FVec F S512x256 .f32) : FVec F S512x256 .f32 :=
  mulf z (addf (mulf halves (tanh (mulf halves z))) halves)

/-- The rows through one expert's matrix. -/
def through (x : Vec F S512x1024 .bf16) (w : Vec F S1x1x1024x256 .bf16) : FVec F S512x256 .f32 :=
  matmul dot_S512x1024_S1024x256_S512x256_1_0_0_1_n_n none (shapeCast S512x1024 x shapeCasts_S512x1024_S512x1024)
    (shapeCast S1024x256 w shapeCasts_S1x1x1024x256_S1024x256) (constant S512x256 .f32 0x00000000#32)

/-- One expert's gated hidden layer, scaled by the expert's gate, which is lane `o` of the rolled gates. -/
def expert (x : Vec F S512x1024 .bf16) (g : FVec F S512x128 .f32) (o : ℕ) (ho : S512x128.Slices ![0, o] S512x1)
    (wg wu : Vec F S1x1x1024x256 .bf16) : FVec F S512x256 .f32 :=
  mulf (mulf (swish (through x wg)) (through x wu))
    (broadcastTo S512x256 (extractStridedSlice S512x1 ![0, o] g ho) broadcasts_S512x1_S512x256)

/-- The matrix of expert `o` of a group of eight. -/
def one (w : Vec F S1x8x1024x256 .bf16) (o : ℕ) (ho : ∀ a, (![0, o, 0, 0] : Fin 4 → ℕ) a + S1x1x1024x256.size a ≤ S1x8x1024x256.size a) :
    Vec F S1x1x1024x256 .bf16 := View.ld w (Rect.unit (s := S1x8x1024x256) ![0, o, 0, 0] S1x1x1024x256.size ho)

/-- The scaled hidden layers of the group's eight experts, side by side. -/
def group (x : Vec F S512x1024 .bf16) (g : FVec F S512x128 .f32) (wg wu : Vec F S1x8x1024x256 .bf16) : FVec F S512x2048 .f32 :=
  concatenate S512x2048 1
    [⟨S512x256, expert x g 0 slices_S512x128_o0_0_S512x1 (one wg 0 inb_S1x8x1024x256_S1x1x1024x256_0_0_0_0) (one wu 0 inb_S1x8x1024x256_S1x1x1024x256_0_0_0_0)⟩,
     ⟨S512x256, expert x g 1 slices_S512x128_o0_1_S512x1 (one wg 1 inb_S1x8x1024x256_S1x1x1024x256_0_1_0_0) (one wu 1 inb_S1x8x1024x256_S1x1x1024x256_0_1_0_0)⟩,
     ⟨S512x256, expert x g 2 slices_S512x128_o0_2_S512x1 (one wg 2 inb_S1x8x1024x256_S1x1x1024x256_0_2_0_0) (one wu 2 inb_S1x8x1024x256_S1x1x1024x256_0_2_0_0)⟩,
     ⟨S512x256, expert x g 3 slices_S512x128_o0_3_S512x1 (one wg 3 inb_S1x8x1024x256_S1x1x1024x256_0_3_0_0) (one wu 3 inb_S1x8x1024x256_S1x1x1024x256_0_3_0_0)⟩,
     ⟨S512x256, expert x g 4 slices_S512x128_o0_4_S512x1 (one wg 4 inb_S1x8x1024x256_S1x1x1024x256_0_4_0_0) (one wu 4 inb_S1x8x1024x256_S1x1x1024x256_0_4_0_0)⟩,
     ⟨S512x256, expert x g 5 slices_S512x128_o0_5_S512x1 (one wg 5 inb_S1x8x1024x256_S1x1x1024x256_0_5_0_0) (one wu 5 inb_S1x8x1024x256_S1x1x1024x256_0_5_0_0)⟩,
     ⟨S512x256, expert x g 6 slices_S512x128_o0_6_S512x1 (one wg 6 inb_S1x8x1024x256_S1x1x1024x256_0_6_0_0) (one wu 6 inb_S1x8x1024x256_S1x1x1024x256_0_6_0_0)⟩,
     ⟨S512x256, expert x g 7 slices_S512x128_o0_7_S512x1 (one wg 7 inb_S1x8x1024x256_S1x1x1024x256_0_7_0_0) (one wu 7 inb_S1x8x1024x256_S1x1x1024x256_0_7_0_0)⟩]
    concatenates_S512x256_S512x256_S512x256_S512x256_S512x256_S512x256_S512x256_S512x256_S512x2048_d1

/-- What one group of eight experts contributes to the rows. -/
def part (x : Vec F S512x1024 .bf16) (g : FVec F S512x128 .f32) (wg wu : Vec F S1x8x1024x256 .bf16) (wd : Vec F S1x1x2048x1024 .bf16) :
    FVec F S512x1024 .f32 :=
  matmul dot_S512x2048_S2048x1024_S512x1024_1_0_0_1_n_n none (truncf .bf16 (group x g wg wu) bitsLt_bf16_f32)
    (shapeCast S2048x1024 wd shapeCasts_S1x1x2048x1024_S2048x1024) (constant S512x1024 .f32 0x00000000#32)

/-- The part, as a point's blocks give it. -/
def tilePart (i : grid0.Coords) (x : Vec F S512x1024 .bf16) (g : Vec F S512x128 .f32) (wg wu : Vec F S1x8x1024x256 .bf16)
    (wd : Vec F S1x1x2048x1024 .bf16) : FVec F S512x1024 .f32 := part x (k0_pay10 i g) wg wu wd

/-- The expert every row passes through. -/
def shared (x : Vec F S512x1024 .bf16) (wgu : Vec F S1024x512 .bf16) (wd : Vec F S256x1024 .bf16) : FVec F S512x1024 .f32 :=
  have z : FVec F S512x512 .f32 := matmul dot_S512x1024_S1024x512_S512x512_1_0_0_1_n_n none (shapeCast S512x1024 x shapeCasts_S512x1024_S512x1024)
    (shapeCast S1024x512 wgu shapeCasts_S1024x512_S1024x512) (constant S512x512 .f32 0x00000000#32)
  matmul dot_S512x256_S256x1024_S512x1024_1_0_0_1_n_n none
    (truncf .bf16 (mulf (swish (extractStridedSlice S512x256 ![0, 0] z slices_S512x512_o0_0_S512x256))
      (extractStridedSlice S512x256 ![0, 256] z slices_S512x512_o0_256_S512x256)) bitsLt_bf16_f32)
    (shapeCast S256x1024 wd shapeCasts_S256x1024_S256x1024) (constant S512x1024 .f32 0x00000000#32)

/-- The rows before the norm: `α · x` and the outputs of the experts. -/
def resid (x : Vec F S512x1024 .bf16) (wgu : Vec F S1024x512 .bf16) (wd : Vec F S256x1024 .bf16) (r acc : Vec F S512x1024 .f32) :
    FVec F S512x1024 .f32 :=
  addf (mulf (broadcast S512x1024 (Scalar.ofBits .f32 0x3FB504F3#32)) r) (addf acc (shared x wgu wd))

/-- The mean of each row. -/
def rowMean (y : FVec F S512x1024 .f32) : FVec F S512x1 .f32 :=
  divf (shapeCast S512x1 (multiReduction .add [1] S512 y 0x00000000#32 reduces_S512x1024_S512 (.inl rfl) rfl) shapeCasts_S512_S512x1)
    (broadcast S512x1 (Scalar.ofBits .f32 0x44800000#32))

/-- The rows less their means. -/
def centred (y : FVec F S512x1024 .f32) : FVec F S512x1024 .f32 :=
  subf y (broadcastTo S512x1024 (rowMean y) broadcasts_S512x1_S512x1024)

/-- The layer norm of the rows. -/
def normed (y : FVec F S512x1024 .f32) (g b : Vec F S1x1024 .f32) : FVec F S512x1024 .f32 :=
  addf (mulf (mulf (centred y) (broadcastTo S512x1024
      (rsqrt (addf (rowMean (mulf (centred y) (centred y))) (broadcast S512x1 (Scalar.ofBits .f32 0x3727C5AC#32)))) broadcasts_S512x1_S512x1024))
      (broadcastTo S512x1024 (shapeCast S1x1024 g shapeCasts_S1x1024_S1x1024) broadcasts_S1x1024_S512x1024))
    (broadcastTo S512x1024 (shapeCast S1x1024 b shapeCasts_S1x1024_S1x1024) broadcasts_S1x1024_S512x1024)

variable (m : (ℓ : Loc nD τ sig) → Buf (Elt Ideal) ℓ)

/-- The part of grid point `t`. -/
def pointPart (c : Dev nD) (t : Fin cfg0.N) : FVec Ideal S512x1024 .f32 :=
  tilePart (grid0.coords t) (iblk m c 0 t) (iblk m c 2 t) (iblk m c 3 t) (iblk m c 4 t) (iblk m c 5 t)

/-- The first point of a row block starts the sum with its part. -/
theorem sum_first (c : Dev nD) (t : Fin cfg0.N) (h0 : t.val % 8 = 0) (y : S512x1024.Idx) :
    (outsAt0 m c t.val t.isLt).2.2 y = pointPart m c t y := by
  rw [outsAt0_A m c t h0 (by omega) (by omega)]
  frame_out
  rw [show pointPart m c t = shapeCast S512x1024 (pointPart m c t) shapeCasts_S512x1024_S512x1024 from (shapeCast_self ..).symm]
  rfl

/-- Every later point adds its part. -/
theorem sum_next (c : Dev nD) (t : Fin cfg0.N) (h0 : ¬t.val % 8 = 0) (y : S512x1024.Idx) :
    (outsAt0 m c t.val t.isLt).2.2 y
      = (outsAt0 m c (t.val - 1) (by omega)).2.2 y + pointPart m c t y := by
  by_cases h2 : t.val % 8 = 7
  on_goal 1 => rw [outsAt0_C m c t h0 (by omega) h2]
  on_goal 2 => rw [outsAt0_B m c t h0 (by omega) h2]
  all_goals
    frame_out
    refine Eq.trans ?_ (congrFun (shapeCast_self (addf (outsAt0 m c (t.val - 1) (by omega)).2.2 (pointPart m c t)) shapeCasts_S512x1024_S512x1024) y)
    unfold k0_pay1
    rw [read_unread_whole]
    rfl

/-- The last point of a row block stores the norm of the rows. -/
theorem out_last (c : Dev nD) (t : Fin cfg0.N) (h2 : t.val % 8 = 7) (y : S512x1024.Idx) :
    (outsAt0 m c t.val t.isLt).1 y
      = normed (resid (iblk m c 0 t) (iblk m c 6 t) (iblk m c 7 t) (iblk m c 1 t) (outsAt0 m c t.val t.isLt).2.2)
          (iblk m c 8 t) (iblk m c 9 t) y := by
  rw [outsAt0_C m c t (by omega) (by omega) h2]
  frame_out
  rfl

/-- The rounded result is the same rows. -/
theorem out_last' (c : Dev nD) (t : Fin cfg0.N) (h2 : t.val % 8 = 7) (y : S512x1024.Idx) :
    (outsAt0 m c t.val t.isLt).2.1 y = (outsAt0 m c t.val t.isLt).1 y := by
  rw [outsAt0_C m c t (by omega) (by omega) h2]
  frame_out
  rfl

end Cert.Kernel2Ideal.ValueMoe

end
-- ==== Proof.MoeBlocks.lean ====
/- The mixture of experts: what each operand's block holds at a grid point, in the arguments' coordinates. -/
module

public import proofs.«01_k».proof.Proof.MoeTile

@[expose] public section

set_option maxRecDepth 16384

noncomputable section

open Idealize.ShloMosaic Idealize.ShloMosaic.TcCoe Idealize.SL.Sem
open Idealize.ShloMosaic.Pipeline (Dat)

namespace Cert.Kernel2Ideal.ValueMoe

open Cert.Kernel2Ideal Cert.Kernel2Ideal.Gen

variable (m : (ℓ : Loc nD τ sig) → Buf (Elt Ideal) ℓ)

/-- Which block of each operand a grid point works on: row block `t / 8`, group of experts `t % 8`. -/
theorem idx_val : ∀ t : Fin cfg0.N, win0_0.index t = ![t.val / 8, 0] ∧ win0_1.index t = ![t.val / 8, 0]
    ∧ win0_2.index t = ![t.val / 8, 0] ∧ win0_3.index t = ![0, t.val % 8, 0, 0] ∧ win0_4.index t = ![0, t.val % 8, 0, 0]
    ∧ win0_5.index t = ![0, t.val % 8, 0, 0] ∧ win0_6.index t = ![0, 0] ∧ win0_7.index t = ![0, 0] ∧ win0_8.index t = ![0, 0]
    ∧ win0_9.index t = ![0, 0] ∧ win0_10.index t = ![t.val / 8, 0] ∧ win0_11.index t = ![t.val / 8, 0] ∧ (grid0.coords t 1).val = t.val % 8 :=
  (by decide +kernel : ∀ t : Fin grid0.N, _)

/-- The operand the gates become: transposed and padded to 128 lanes. -/
def laneGates (g : FVec Ideal S64x17408 .f32) : FVec Ideal S17408x128 .f32 :=
  pad S17408x128 ![0, 0] ![0, 64] ![0, 0] (transpose S17408x64 [1, 0] g transposes_S64x17408_S17408x64_1_0)
    (sitofp (F := Ideal) .f32 (constantI S_ 32 0#32)) pads_S17408x64_S17408x128_000_0640 h_S_

/-- The operand the experts' last matrices become: eight by eight, one below the other. -/
def stackedDown (w : FVec Ideal S2x64x256x1024 .f32) : FVec Ideal S2x8x2048x1024 .bf16 :=
  truncf .bf16 (shapeCast S2x8x2048x1024 w shapeCasts_S2x64x256x1024_S2x8x2048x1024) bitsLt_bf16_f32

/-- The operand the shared expert's first matrices become: side by side. -/
def besides (a b : FVec Ideal S2x1024x256 .f32) : FVec Ideal S1024x512 .bf16 :=
  truncf .bf16 (concatenate S1024x512 1
    [⟨S1024x256, shapeCast S1024x256 (extractStridedSlice S1x1024x256 ![0, 0, 0] a slices_S2x1024x256_S1x1024x256_0_0_0) shapeCasts_S1x1024x256_S1024x256⟩,
     ⟨S1024x256, shapeCast S1024x256 (extractStridedSlice S1x1024x256 ![0, 0, 0] b slices_S2x1024x256_S1x1024x256_0_0_0) shapeCasts_S1x1024x256_S1024x256⟩]
    concatenates_S1024x256_S1024x256_S1024x512_d1) bitsLt_bf16_f32

/-- The rounded rows of a grid point. -/
theorem blk0 (c : Dev nD) (t : Fin cfg0.N) (ht : t.val < 272) (i : Fin 512) (d : Fin 1024) :
    iblk m c 0 t (ix2 i d) = m ((c : Thread nD τ).loc main_arg0) (ix2 ⟨t / 8 * 512 + i, by omega⟩ d) := by
  blk_simp [iblk, idx_val t]
  entry_read
  pointwise
  blk_ext [idx_val t]

/-- The rows of a grid point. -/
theorem blk1 (c : Dev nD) (t : Fin cfg0.N) (ht : t.val < 272) (i : Fin 512) (d : Fin 1024) :
    iblk m c 1 t (ix2 i d) = m ((c : Thread nD τ).loc main_arg0) (ix2 ⟨t / 8 * 512 + i, by omega⟩ d) := by
  blk_ext [iblk, V, idx_val t]

/-- The lane gates in the region's entry. -/
theorem entry2 (c : Dev nD) : V m c main_v2 = laneGates (m ((c : Thread nD τ).loc main_arg1)) := by
  unfold V
  simp only [List.flatten_cons, List.flatten_nil, List.cons_append, List.nil_append, List.append_nil]
  entry_read
  rfl

/-- The stacked matrices in the region's entry. -/
theorem entry6 (c : Dev nD) : V m c main_v6 = stackedDown (m ((c : Thread nD τ).loc main_arg4)) := by
  unfold V
  simp only [List.flatten_cons, List.flatten_nil, List.cons_append, List.nil_append, List.append_nil]
  entry_read
  rfl

/-- The shared expert's first matrices in the region's entry. -/
theorem entry12 (c : Dev nD) : V m c main_v12 = besides (m ((c : Thread nD τ).loc main_arg5)) (m ((c : Thread nD τ).loc main_arg6)) := by
  unfold V
  simp only [List.flatten_cons, List.flatten_nil, List.cons_append, List.nil_append, List.append_nil]
  entry_read
  rfl

/-- The lane gates: the first 64 lanes are the experts. -/
theorem laneGates_apply (g : FVec Ideal S64x17408 .f32) (r : Fin 17408) (e : ℕ) (he : e < 64) :
    laneGates g (ix2 r ⟨e, by omega⟩) = g (ix2 ⟨e, he⟩ r) := by
  pointwise [laneGates]
  exact dif_pos he

/-- The stacked matrices: row `k` of group `j` is row `k % 256` of expert `8 j + k / 256`. -/
theorem stackedDown_apply (w : FVec Ideal S2x64x256x1024 .f32) (j : Fin 8) (k : Fin 2048) (d : Fin 1024) :
    stackedDown w (ix4 0 j k d) = w (ix4 0 ⟨j * 8 + k / 256, by omega⟩ ⟨k % 256, by omega⟩ d) := by
  pointwise [stackedDown]

/-- The shared expert's first matrices: the first 256 lanes are the first matrix. -/
theorem besides_first (a b : FVec Ideal S2x1024x256 .f32) (d : Fin 1024) (h : Fin 256) :
    besides a b (ix2 d ⟨h, by omega⟩) = a (ix3 0 d h) := by
  pointwise [besides]

/-- The shared expert's first matrices: the last 256 lanes are the second matrix. -/
theorem besides_second (a b : FVec Ideal S2x1024x256 .f32) (d : Fin 1024) (h : Fin 256) :
    besides a b (ix2 d ⟨256 + h, by omega⟩) = b (ix3 0 d h) := by
  pointwise [besides]

/-- The gates of a grid point: the first 64 lanes are the experts. -/
theorem blk2 (c : Dev nD) (t : Fin cfg0.N) (ht : t.val < 272) (i : Fin 512) (e : ℕ) (he : e < 64) :
    iblk m c 2 t (ix2 i ⟨e, by omega⟩) = m ((c : Thread nD τ).loc main_arg1) (ix2 ⟨e, he⟩ ⟨t / 8 * 512 + i, by omega⟩) := by
  refine Eq.trans ?_ (laneGates_apply (m ((c : Thread nD τ).loc main_arg1)) ⟨t / 8 * 512 + i, by omega⟩ e he)
  blk_simp [iblk, idx_val t]
  rw [entry2]
  blk_ext [idx_val t]

/-- The first matrices of a grid point's experts. -/
theorem blk3 (c : Dev nD) (t : Fin cfg0.N) (ht : t.val < 272) (o : Fin 8) (d : Fin 1024) (h : Fin 256) :
    iblk m c 3 t (ix4 0 o d h) = m ((c : Thread nD τ).loc main_arg2) (ix4 0 ⟨t % 8 * 8 + o, by omega⟩ d h) := by
  blk_simp [iblk, idx_val t]
  entry_read
  pointwise
  blk_ext [idx_val t]

/-- The second matrices of a grid point's experts. -/
theorem blk4 (c : Dev nD) (t : Fin cfg0.N) (ht : t.val < 272) (o : Fin 8) (d : Fin 1024) (h : Fin 256) :
    iblk m c 4 t (ix4 0 o d h) = m ((c : Thread nD τ).loc main_arg3) (ix4 0 ⟨t % 8 * 8 + o, by omega⟩ d h) := by
  blk_simp [iblk, idx_val t]
  entry_read
  pointwise
  blk_ext [idx_val t]

/-- The third matrices of a grid point's experts, one below the other. -/
theorem blk5 (c : Dev nD) (t : Fin cfg0.N) (ht : t.val < 272) (k : Fin 2048) (d : Fin 1024) :
    iblk m c 5 t (ix4 0 0 k d) = m ((c : Thread nD τ).loc main_arg4) (ix4 0 ⟨t % 8 * 8 + k / 256, by omega⟩ ⟨k % 256, by omega⟩ d) := by
  refine Eq.trans ?_ (stackedDown_apply (m ((c : Thread nD τ).loc main_arg4)) ⟨t % 8, by omega⟩ k d)
  blk_simp [iblk, idx_val t]
  rw [entry6]
  blk_ext [idx_val t]

/-- The shared expert's first two matrices, side by side: the first. -/
theorem blk6_first (c : Dev nD) (t : Fin cfg0.N) (d : Fin 1024) (h : Fin 256) :
    iblk m c 6 t (ix2 d ⟨h, by omega⟩) = m ((c : Thread nD τ).loc main_arg5) (ix3 0 d h) := by
  refine Eq.trans ?_ (besides_first (m ((c : Thread nD τ).loc main_arg5)) (m ((c : Thread nD τ).loc main_arg6)) d h)
  blk_simp [iblk, idx_val t]
  rw [entry12]
  blk_ext [idx_val t]

/-- The shared expert's first two matrices, side by side: the second. -/
theorem blk6_second (c : Dev nD) (t : Fin cfg0.N) (d : Fin 1024) (h : Fin 256) :
    iblk m c 6 t (ix2 d ⟨256 + h, by omega⟩) = m ((c : Thread nD τ).loc main_arg6) (ix3 0 d h) := by
  refine Eq.trans ?_ (besides_second (m ((c : Thread nD τ).loc main_arg5)) (m ((c : Thread nD τ).loc main_arg6)) d h)
  blk_simp [iblk, idx_val t]
  rw [entry12]
  blk_ext [idx_val t]

/-- The shared expert's last matrix. -/
theorem blk7 (c : Dev nD) (t : Fin cfg0.N) (h : Fin 256) (d : Fin 1024) :
    iblk m c 7 t (ix2 h d) = m ((c : Thread nD τ).loc main_arg7) (ix3 0 h d) := by
  blk_simp [iblk, idx_val t]
  unfold V
  simp only [List.flatten_cons, List.flatten_nil, List.cons_append, List.nil_append, List.append_nil]
  entry_read
  pointwise
  blk_ext [idx_val t]

/-- The norm's scale. -/
theorem blk8 (c : Dev nD) (t : Fin cfg0.N) (d : Fin 1024) :
    iblk m c 8 t (ix2 0 d) = m ((c : Thread nD τ).loc main_arg8) (ix2 0 d) := by
  blk_simp [iblk, idx_val t]
  unfold V
  simp only [List.flatten_cons, List.flatten_nil, List.cons_append, List.nil_append, List.append_nil]
  entry_read
  pointwise
  blk_ext [idx_val t]

/-- The norm's shift. -/
theorem blk9 (c : Dev nD) (t : Fin cfg0.N) (d : Fin 1024) :
    iblk m c 9 t (ix2 0 d) = m ((c : Thread nD τ).loc main_arg9) (ix2 0 d) := by
  blk_simp [iblk, idx_val t]
  unfold V
  simp only [List.flatten_cons, List.flatten_nil, List.cons_append, List.nil_append, List.append_nil]
  entry_read
  pointwise
  blk_ext [idx_val t]

end Cert.Kernel2Ideal.ValueMoe

end
-- ==== Proof.MoeSpec.lean ====
/- The mixture of experts and the norm after it, at one entry: what the reference computes there, in coordinates. -/
module

public import proofs.«01_k».proof.Proof.Gen.Reference2Ideal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Moe

open Cert.Reference2Ideal Cert.Reference2Ideal.Gen Cert.Reference2Ideal.Read

/-- `z · sigmoid z`. -/
def swish (z : EReal) : EReal := z * Ideal.div 1 (1 + Ideal.exp (-z))

/-- Lane `h` of a gated hidden layer, from a row and two columns of weights. -/
def hidden {n : ℕ} (x wg wu : Fin n → EReal) : EReal := swish (∑ d, x d * wg d) * ∑ d, x d * wu d

/-- The mean of a row of 1024. -/
def mean (y : Fin 1024 → EReal) : EReal := Ideal.div (∑ d, y d) (Ideal.ofBits .f32 0x44800000#32)

/-- The layer norm of a row, at `d`. -/
def norm (y g b : Fin 1024 → EReal) (d : Fin 1024) : EReal :=
  (y d - mean y) * Ideal.rsqrt (mean (fun k => (y k - mean y) * (y k - mean y)) + Ideal.ofBits .f32 0x3727C5AC#32) * g d + b d

/-- What the routed experts give row `r` at column `d`: each expert's output times its gate. -/
def routed (x : FVec Ideal S17408x1024 .f32) (g : FVec Ideal S64x17408 .f32) (wg wu : FVec Ideal S2x64x1024x256 .f32)
    (wd : FVec Ideal S2x64x256x1024 .f32) (r : Fin 17408) (d : Fin 1024) : EReal :=
  ∑ e : Fin 64, g (ix2 e r) * ∑ h : Fin 256,
    hidden (fun k => x (ix2 r k)) (fun k => wg (ix4 0 e k h)) (fun k => wu (ix4 0 e k h)) * wd (ix4 0 e h d)

/-- What the shared expert gives. -/
def shared (x : FVec Ideal S17408x1024 .f32) (sg su : FVec Ideal S2x1024x256 .f32)
    (sd : FVec Ideal S2x256x1024 .f32) (r : Fin 17408) (d : Fin 1024) : EReal :=
  ∑ h : Fin 256, hidden (fun k => x (ix2 r k)) (fun k => sg (ix3 0 k h)) (fun k => su (ix3 0 k h)) * sd (ix3 0 h d)

/-- The row before the norm. -/
def resid (x : FVec Ideal S17408x1024 .f32) (g : FVec Ideal S64x17408 .f32) (wg wu : FVec Ideal S2x64x1024x256 .f32)
    (wd : FVec Ideal S2x64x256x1024 .f32) (sg su : FVec Ideal S2x1024x256 .f32) (sd : FVec Ideal S2x256x1024 .f32)
    (r : Fin 17408) (d : Fin 1024) : EReal :=
  Ideal.ofBits .f32 0x3FB504F3#32 * x (ix2 r d) + (routed x g wg wu wd r d + shared x sg su sd r d)

/-- The gates are finite and not negative. -/
def Gated (g : FVec Ideal S64x17408 .f32) : Prop := ∀ (e : Fin 64) (r : Fin 17408), 0 ≤ g (ix2 e r) ∧ g (ix2 e r) ≠ ⊤

/-- The reference's hidden layers. -/
theorem hidden_apply (x0 : FVec Ideal S17408x1024 .f32) (x2 x3 : FVec Ideal S2x64x1024x256 .f32) (e : Fin 64) (r : Fin 17408) (h : Fin 256) :
    val_main_v9 (F := Ideal) x0 x2 x3 (ix3 e r h)
      = hidden (fun k => x0 (ix2 r k)) (fun k => x2 (ix4 0 e k h)) (fun k => x3 (ix4 0 e k h)) := by
  pointwise [val_main_v9, val_main_v8, val_main_v7, val_main_v6, val_main_v5, val_main_v4, val_main_call0_v5, val_main_call0_v4, val_main_call0_v3,
    val_main_call0_v2, val_main_call0_v1, val_main_call0_v0, val_main_call0_cst, val_main_call0_cst_0, val_main_v3, val_main_v2, val_main_v1, val_main_v0,
    hidden, swish]
  simp only [mul_comm (x2 _), mul_comm (x3 _)]

/-- The reference's sum over the routed experts. -/
theorem routed_apply (x0 : FVec Ideal S17408x1024 .f32) (x1 : FVec Ideal S64x17408 .f32) (x2 x3 : FVec Ideal S2x64x1024x256 .f32)
    (x4 : FVec Ideal S2x64x256x1024 .f32) (r : Fin 17408) (d : Fin 1024) :
    val_main_v16 (F := Ideal) x0 x1 x2 x3 x4 (ix2 r d) = routed x0 x1 x2 x3 x4 r d := by
  pointwise [val_main_v16, val_main_v15, val_main_v14, val_main_v13, val_main_v12, val_main_v11, val_main_v10, val_main_cst, routed, hidden_apply]

/-- The reference's shared expert. -/
theorem shared_apply (x0 : FVec Ideal S17408x1024 .f32) (x5 x6 : FVec Ideal S2x1024x256 .f32)
    (x7 : FVec Ideal S2x256x1024 .f32) (r : Fin 17408) (d : Fin 1024) :
    val_main_v27 (F := Ideal) x0 x5 x6 x7 (ix2 r d) = shared x0 x5 x6 x7 r d := by
  pointwise [val_main_v27, val_main_v26, val_main_v25, val_main_v24, val_main_v23, val_main_v22, val_main_v21, val_main_v20, val_main_call1_v5, val_main_call1_v4, val_main_call1_v3,
    val_main_call1_v2, val_main_call1_v1, val_main_call1_v0, val_main_call1_cst, val_main_call1_cst_0, val_main_v19, val_main_v18, val_main_v17, shared, hidden, swish]

/-- The reference's rows before the norm. -/
theorem resid_apply (x0 : FVec Ideal S17408x1024 .f32) (x1 : FVec Ideal S64x17408 .f32) (x2 x3 : FVec Ideal S2x64x1024x256 .f32)
    (x4 : FVec Ideal S2x64x256x1024 .f32) (x5 x6 : FVec Ideal S2x1024x256 .f32)
    (x7 : FVec Ideal S2x256x1024 .f32) (r : Fin 17408) (d : Fin 1024) :
    val_main_v31 (F := Ideal) x0 x1 x2 x3 x4 x5 x6 x7 (ix2 r d) = resid x0 x1 x2 x3 x4 x5 x6 x7 r d := by
  pointwise [val_main_v31, val_main_v30, val_main_v29, val_main_v28, val_main_cst_0, resid, routed_apply, shared_apply]

/-- The reference's result at row `r` and column `d`. -/
theorem result_apply (x0 : FVec Ideal S17408x1024 .f32) (x1 : FVec Ideal S64x17408 .f32) (x2 x3 : FVec Ideal S2x64x1024x256 .f32)
    (x4 : FVec Ideal S2x64x256x1024 .f32) (x5 x6 : FVec Ideal S2x1024x256 .f32)
    (x7 : FVec Ideal S2x256x1024 .f32) (x8 x9 : FVec Ideal S2x1024 .f32) (r : Fin 17408) (d : Fin 1024) :
    val_main_v59 (F := Ideal) x0 x1 x2 x3 x4 x5 x6 x7 x8 x9 (ix2 r d) = norm (resid x0 x1 x2 x3 x4 x5 x6 x7 r) (fun k => x8 (ix2 0 k)) (fun k => x9 (ix2 0 k)) d := by
  pointwise [val_main_v59, val_main_v58, val_main_v57, val_main_v56, val_main_v55, val_main_v54, val_main_v53, val_main_v52, val_main_v51, val_main_v50,
    val_main_v49, val_main_v48, val_main_v47, val_main_v46, val_main_v45, val_main_v44, val_main_v43, val_main_v42, val_main_v41, val_main_v40, val_main_v39,
    val_main_v38, val_main_v37, val_main_v36, val_main_v35, val_main_v34, val_main_v33, val_main_v32, val_main_cst_1, val_main_cst_2, val_main_cst_3,
    val_main_cst_4, val_main_cst_5, norm, mean, resid_apply]

/-- The reference's rounded result is the same. -/
theorem rounded_apply (x0 : FVec Ideal S17408x1024 .f32) (x1 : FVec Ideal S64x17408 .f32) (x2 x3 : FVec Ideal S2x64x1024x256 .f32)
    (x4 : FVec Ideal S2x64x256x1024 .f32) (x5 x6 : FVec Ideal S2x1024x256 .f32)
    (x7 : FVec Ideal S2x256x1024 .f32) (x8 x9 : FVec Ideal S2x1024 .f32) (r : Fin 17408) (d : Fin 1024) :
    val_main_v60 (F := Ideal) x0 x1 x2 x3 x4 x5 x6 x7 x8 x9 (ix2 r d) = norm (resid x0 x1 x2 x3 x4 x5 x6 x7 r) (fun k => x8 (ix2 0 k)) (fun k => x9 (ix2 0 k)) d := by
  rw [val_main_v60_apply, ← result_apply]
  rfl

/-- The word of one half. -/
theorem ofBits_half : Ideal.ofBits .f32 0x3F000000#32 = ((1 / 2 : ℝ) : EReal) := by
  simp [Ideal.ofBits, Ideal.ieee]
  rw [← EReal.coe_mul]
  norm_num

/-- The sigmoid written with a hyperbolic tangent. -/
theorem sigmoid_tanh (z : EReal) :
    Ideal.ofBits .f32 0x3F000000#32 * Ideal.tanh (Ideal.ofBits .f32 0x3F000000#32 * z) + Ideal.ofBits .f32 0x3F000000#32
      = Ideal.div 1 (1 + Ideal.exp (-z)) := by
  rw [ofBits_half]
  show _ = Ideal.logistic z
  induction z with
  | bot =>
    rw [EReal.coe_mul_bot_of_pos (by norm_num), Ideal.tanh_bot, Ideal.logistic_bot, show (-1 : EReal) = ((-1 : ℝ) : EReal) by simp, ← EReal.coe_mul, ← EReal.coe_add]
    norm_num
  | top =>
    rw [EReal.coe_mul_top_of_pos (by norm_num), Ideal.tanh_top, Ideal.logistic_top]
    norm_cast
    norm_num
  | coe x =>
    rw [Ideal.logistic_coe, ← EReal.coe_mul, Ideal.tanh_coe, ← EReal.coe_mul, ← EReal.coe_add]
    congr 1
    rw [Real.tanh_eq_sinh_div_cosh, Real.sinh_eq, Real.cosh_eq]
    have e : Real.exp (-x) = Real.exp (-(1 / 2 * x)) * Real.exp (-(1 / 2 * x)) := by rw [← Real.exp_add]; ring_nf
    have f : Real.exp (1 / 2 * x) * Real.exp (-(1 / 2 * x)) = 1 := by rw [← Real.exp_add]; simp
    have p := Real.exp_pos (1 / 2 * x)
    have q := Real.exp_pos (-(1 / 2 * x))
    rw [e]
    generalize Real.exp (1 / 2 * x) = a at *
    generalize Real.exp (-(1 / 2 * x)) = b at *
    have h1 : (a + b) / 2 ≠ 0 := by positivity
    have h2 : 1 + b * b ≠ 0 := by positivity
    field_simp
    nlinarith [f, mul_pos p q]

/-- A finite gate that is not negative goes into the sum it multiplies. -/
theorem gate_sum {n : ℕ} (g : EReal) (h0 : 0 ≤ g) (h1 : g ≠ ⊤) (a b : Fin n → EReal) :
    g * ∑ k, a k * b k = ∑ k, a k * g * b k := by
  have key : ∀ s : Finset (Fin n), g * ∑ k ∈ s, a k * b k = ∑ k ∈ s, a k * g * b k := by
    intro s
    induction s using Finset.induction_on with
    | empty => simp
    | insert k s hk ih =>
      rw [Finset.sum_insert hk, Finset.sum_insert hk, EReal.left_distrib_of_nonneg_of_ne_top h0 h1, ih, ← mul_assoc, mul_comm g]
  exact key _

/-- The routed experts, eight at a time: group `j` sums over the 2048 lanes of its eight hidden layers. -/
theorem routed_eq (x : FVec Ideal S17408x1024 .f32) (g : FVec Ideal S64x17408 .f32) (wg wu : FVec Ideal S2x64x1024x256 .f32)
    (wd : FVec Ideal S2x64x256x1024 .f32) (r : Fin 17408) (d : Fin 1024) (h0 : ∀ e, 0 ≤ g (ix2 e r)) (h1 : ∀ e, g (ix2 e r) ≠ ⊤) :
    routed x g wg wu wd r d = ∑ j : Fin 8, ∑ k : Fin 2048,
      hidden (fun i => x (ix2 r i)) (fun i => wg (ix4 0 ⟨j * 8 + k / 256, by omega⟩ i ⟨k % 256, by omega⟩))
          (fun i => wu (ix4 0 ⟨j * 8 + k / 256, by omega⟩ i ⟨k % 256, by omega⟩))
        * g (ix2 ⟨j * 8 + k / 256, by omega⟩ r) * wd (ix4 0 ⟨j * 8 + k / 256, by omega⟩ ⟨k % 256, by omega⟩ d) := by
  unfold routed
  rw [← Fin.sum_mul_add_fin 8 8]
  refine Finset.sum_congr rfl fun j _ => ?_
  refine Eq.trans (Finset.sum_congr rfl fun c _ => gate_sum _ (h0 _) (h1 _) _ _) ?_
  exact (Fin.sum_divmod_congr (A := 8) (S := 256) fun k _ _ => rfl).symm

end Cert.Moe

end
-- ==== Proof.MoeValue.lean ====
/- The mixture of experts: the kernel's results are the reference's. -/
module

public import proofs.«01_k».proof.Proof.MoeBlocks
public import proofs.«01_k».proof.Proof.MoeSpec

@[expose] public section

set_option maxRecDepth 16384

noncomputable section

open Idealize.ShloMosaic Idealize.ShloMosaic.TcCoe Idealize.SL.Sem
open Idealize.ShloMosaic.Pipeline (Dat)

namespace Cert.Kernel2Ideal.ValueMoe

open Cert.Kernel2Ideal Cert.Kernel2Ideal.Gen

/-- The roll that brings lane `8 j` to lane 0, as the kernel computes it from `j`. -/
def rollBy (j : BitVec 32) : BitVec 32 :=
  have n : BitVec 32 := Scalar.select (Scalar.cmpi .eq 128#32 0#32) 1#32 128#32
  have r : BitVec 32 := Scalar.remsi (Scalar.subi 128#32 (Scalar.muli j 8#32)) n
  Scalar.select (Scalar.andi (Scalar.xori (Scalar.cmpi .slt r 0#32) (Scalar.cmpi .slt n 0#32)) (Scalar.cmpi .ne r 0#32)) (Scalar.addi r n) r

/-- It is `-8 j` modulo 128. -/
theorem rollBy_val : ∀ j : Fin 8, (rollBy (BitVec.ofNat 32 j.val)).toNat % 128 = (128 - 8 * j.val) % 128 := by decide

/-- Lane `o` of the rolled gates of group `j` is the gate of expert `8 j + o`. -/
theorem rolled_apply (i : grid0.Coords) (g : Vec Ideal S512x128 .f32) (j : ℕ) (hj : (i 1).val = j) (hj8 : j < 8) (r : Fin 512) (o : ℕ) (ho : o < 8) :
    k0_pay10 i g (ix2 r ⟨o, by omega⟩) = g (ix2 r ⟨j * 8 + o, by omega⟩) := by
  pointwise [k0_pay10]
  refine congrArg g (congrArg (ix2 r) (Fin.ext ?_))
  show (o + 128 - (rollBy (BitVec.ofNat 32 (i 1).val)).toNat % 128) % 128 = j * 8 + o
  have e := rollBy_val ⟨j, hj8⟩
  dsimp only at e
  rw [hj, e]
  omega

/-- One entry of a scaled hidden layer: expert `o` of the group, lane `h`. -/
def cell (x : Vec Ideal S512x1024 .bf16) (g : FVec Ideal S512x128 .f32) (wg wu : Vec Ideal S1x8x1024x256 .bf16) (r : Fin 512) (o : Fin 8) (h : Fin 256) : EReal :=
  Cert.Moe.hidden (fun d : Fin 1024 => x (ix2 r d)) (fun d => wg (ix4 0 o d h)) (fun d => wu (ix4 0 o d h)) * g (ix2 r ⟨o, by omega⟩)

/-- One expert's scaled hidden layer, entry by entry. -/
theorem expert_apply (x : Vec Ideal S512x1024 .bf16) (g : FVec Ideal S512x128 .f32) (wg wu : Vec Ideal S1x8x1024x256 .bf16) (o : ℕ) (ho : S512x128.Slices ![0, o] S512x1)
    (hg hu : ∀ a, (![0, o, 0, 0] : Fin 4 → ℕ) a + S1x1x1024x256.size a ≤ S1x8x1024x256.size a) (o8 : o < 8) (r : Fin 512) (h : Fin 256) :
    expert x g o ho (one wg o hg) (one wu o hu) (ix2 r h) = cell x g wg wu r ⟨o, o8⟩ h := by
  pointwise [expert, Cert.Kernel2Ideal.ValueMoe.swish, halves, through, one]
  rw [Cert.Moe.sigmoid_tanh]
  rfl

/-- The group's hidden layers side by side: lane `k` is lane `k % 256` of expert `k / 256`. -/
theorem group_apply (x : Vec Ideal S512x1024 .bf16) (g : FVec Ideal S512x128 .f32) (wg wu : Vec Ideal S1x8x1024x256 .bf16) (r : Fin 512) (k : Fin 2048) :
    group x g wg wu (ix2 r k) = cell x g wg wu r ⟨k / 256, by omega⟩ ⟨k % 256, by omega⟩ := by
  pointwise [group]
  split_ifs
  all_goals
    rw [expert_apply _ _ _ _ _ _ _ _ (by decide)]
    exact congrArg₂ (cell x g wg wu r) (Fin.ext (by dsimp only; omega)) (Fin.ext (by dsimp only; omega))

/-- What a group contributes, entry by entry. -/
theorem part_apply (x : Vec Ideal S512x1024 .bf16) (g : FVec Ideal S512x128 .f32) (wg wu : Vec Ideal S1x8x1024x256 .bf16) (wd : Vec Ideal S1x1x2048x1024 .bf16)
    (r : Fin 512) (d : Fin 1024) :
    part x g wg wu wd (ix2 r d) = ∑ k : Fin 2048, cell x g wg wu r ⟨k / 256, by omega⟩ ⟨k % 256, by omega⟩ * wd (ix4 0 0 k d) := by
  pointwise [part]
  simp only [group_apply]

/-- The shared expert, entry by entry. -/
theorem shared_apply (x : Vec Ideal S512x1024 .bf16) (wgu : Vec Ideal S1024x512 .bf16) (wd : Vec Ideal S256x1024 .bf16) (r : Fin 512) (d : Fin 1024) :
    Cert.Kernel2Ideal.ValueMoe.shared x wgu wd (ix2 r d) = ∑ h : Fin 256,
      Cert.Moe.hidden (fun k : Fin 1024 => x (ix2 r k)) (fun k => wgu (ix2 k ⟨h, by omega⟩)) (fun k => wgu (ix2 k ⟨256 + h, by omega⟩)) * wd (ix2 h d) := by
  pointwise [Cert.Kernel2Ideal.ValueMoe.shared, Cert.Kernel2Ideal.ValueMoe.swish, halves]
  simp only [Cert.Moe.sigmoid_tanh]
  rfl

/-- The norm, entry by entry. -/
theorem normed_apply (y : FVec Ideal S512x1024 .f32) (g b : Vec Ideal S1x1024 .f32) (r : Fin 512) (d : Fin 1024) :
    normed y g b (ix2 r d) = Cert.Moe.norm (fun k => y (ix2 r k)) (fun k => g (ix2 0 k)) (fun k => b (ix2 0 k)) d := by
  pointwise [normed, centred, rowMean, Cert.Moe.norm, Cert.Moe.mean]

variable (m : (ℓ : Loc nD τ sig) → Buf (Elt Ideal) ℓ)

/-- A grid point's part, in the arguments' coordinates. -/
theorem pointPart_apply (c : Dev nD) (t : Fin cfg0.N) (ht : t.val < 272) (i : Fin 512) (d : Fin 1024) (R : Fin 17408) (hR : R.val = t.val / 8 * 512 + i)
    (j : Fin 8) (hj : j.val = t.val % 8) :
    pointPart m c t (ix2 i d) = ∑ k : Fin 2048,
      Cert.Moe.hidden (fun k' : Fin 1024 => m ((c : Thread nD τ).loc main_arg0) (ix2 R k'))
          (fun k' => m ((c : Thread nD τ).loc main_arg2) (ix4 0 ⟨j * 8 + k / 256, by omega⟩ k' ⟨k % 256, by omega⟩))
          (fun k' => m ((c : Thread nD τ).loc main_arg3) (ix4 0 ⟨j * 8 + k / 256, by omega⟩ k' ⟨k % 256, by omega⟩))
        * m ((c : Thread nD τ).loc main_arg1) (ix2 ⟨j * 8 + k / 256, by omega⟩ R)
        * m ((c : Thread nD τ).loc main_arg4) (ix4 0 ⟨j * 8 + k / 256, by omega⟩ ⟨k % 256, by omega⟩ d) := by
  obtain ⟨R, ltR⟩ := R
  obtain ⟨j, ltj⟩ := j
  dsimp only at hR hj
  subst hR hj
  unfold pointPart tilePart
  rw [part_apply]
  refine Finset.sum_congr rfl fun k _ => ?_
  unfold cell
  rw [rolled_apply _ _ (t.val % 8) (idx_val t).2.2.2.2.2.2.2.2.2.2.2.2 (by omega) i (k / 256) (by omega)]
  rw [blk2 m c t ht i _ (by omega), blk5 m c t ht]
  simp only [blk0 m c t ht, blk3 m c t ht, blk4 m c t ht]

/-- The running sum at the last point of a row block is the routed experts' output. -/
theorem routed_point (c : Dev nD) (hg : Cert.Moe.Gated (m ((c : Thread nD τ).loc main_arg1))) (t : Fin cfg0.N) (ht : t.val < 272) (h7 : t.val % 8 = 7) (i : Fin 512) (d : Fin 1024) (R : Fin 17408) (hR : R.val = t.val / 8 * 512 + i) :
    (outsAt0 m c t.val t.isLt).2.2 (ix2 i d)
      = Cert.Moe.routed (m ((c : Thread nD τ).loc main_arg0)) (m ((c : Thread nD τ).loc main_arg1)) (m ((c : Thread nD τ).loc main_arg2))
          (m ((c : Thread nD τ).loc main_arg3)) (m ((c : Thread nD τ).loc main_arg4)) R d := by
  rw [Cert.Moe.routed_eq _ _ _ _ _ _ _ (fun e => (hg e R).1) (fun e => (hg e R).2)]
  refine (Pipeline.eq_sum_fin_of_reset_step_apply_of_flush (fun n h => (outsAt0 m c n h).2.2) 8 (fun _ => (0 : EReal)) (pointPart m c)
    (fun t h y => by rw [zero_add]; exact sum_first m c t h y) (fun t h y => sum_next m c t h y) t h7 (ix2 i d)).trans ?_
  rw [zero_add]
  refine Finset.sum_congr rfl fun s _ => ?_
  have hN : cfg0.N = 272 := N_0
  exact pointPart_apply m c ⟨8 * (t.val / 8) + s.val, by omega⟩ (by dsimp only; omega) i d R (by dsimp only; omega) s (by dsimp only; omega)

/-- What the last point of a row block stores: the reference's rows. -/
theorem point (c : Dev nD) (hg : Cert.Moe.Gated (m ((c : Thread nD τ).loc main_arg1))) (t : Fin cfg0.N) (ht : t.val < 272) (h7 : t.val % 8 = 7) (i : Fin 512) (d : Fin 1024) (R : Fin 17408) (hR : R.val = t.val / 8 * 512 + i) :
    (outsAt0 m c t.val t.isLt).1 (ix2 i d)
      = Cert.Moe.norm (Cert.Moe.resid (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) R)
          (fun k => m ((c : Thread nD τ).loc main_arg8) (ix2 0 k)) (fun k => m ((c : Thread nD τ).loc main_arg9) (ix2 0 k)) d := by
  rw [out_last m c t h7, normed_apply]
  simp only [blk8, blk9]
  refine congrArg (fun y => Cert.Moe.norm y _ _ d) (funext fun k => ?_)
  have e : resid (iblk m c 0 t) (iblk m c 6 t) (iblk m c 7 t) (iblk m c 1 t) (outsAt0 m c t.val t.isLt).2.2 (ix2 i k)
      = Ideal.ofBits .f32 0x3FB504F3#32 * iblk m c 1 t (ix2 i k) + ((outsAt0 m c t.val t.isLt).2.2 (ix2 i k)
        + Cert.Kernel2Ideal.ValueMoe.shared (iblk m c 0 t) (iblk m c 6 t) (iblk m c 7 t) (ix2 i k)) := by pointwise [resid]
  rw [e, routed_point m c hg t ht h7 i k R hR, shared_apply, blk1 m c t ht]
  simp only [blk0 m c t ht, blk6_first, blk6_second, blk7]
  rw [show (⟨t.val / 8 * 512 + i, by omega⟩ : Fin 17408) = R from Fin.ext hR.symm]
  rfl

/-- An index of a tile is its two coordinates. -/
theorem at_ix2 (x : S512x1024.Idx) : x = ix2 (x 0) (x 1) := by
  funext a; fin_cases a <;> rfl

/-- An index of a result is its two coordinates. -/
theorem at_row (x : S17408x1024.Idx) (r : Fin 17408) (k : Fin 1024) (hr : (x 0).val = r.val) (hk : (x 1).val = k.val) : x = ix2 r k := by
  funext a; fin_cases a
  · exact Fin.ext hr
  · exact Fin.ext hk

/-- The row and the column of the first result that a block's are. -/
theorem emb10 (t : Fin cfg0.N) (y : S512x1024.Idx) : ((win0_10.blk t).view.emb y 0).val = t.val / 8 * 512 + (y 0).val ∧ ((win0_10.blk t).view.emb y 1).val = (y 1).val :=
  ⟨by blk_simp [idx_val t], by blk_simp [idx_val t]⟩

/-- The row and the column of the second result that a block's are. -/
theorem emb11 (t : Fin cfg0.N) (y : S512x1024.Idx) : ((win0_11.blk t).view.emb y 0).val = t.val / 8 * 512 + (y 0).val ∧ ((win0_11.blk t).view.emb y 1).val = (y 1).val :=
  ⟨by blk_simp [idx_val t], by blk_simp [idx_val t]⟩

/-- The kernel's first result is the reference's, of the same arguments. -/
theorem final10 (c : Dev nD) (hg : Cert.Moe.Gated (m ((c : Thread nD τ).loc main_arg1))) : (dats m 0 c).arrAt 10 (cfgs 0).N
    = Cert.Reference2Ideal.Read.val_main_v59 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (m ((c : Thread nD τ).loc main_arg9)) := by
  refine (dats m 0 c).arrAt_eq_of_covers 10 _ (by decide +kernel) fun t hf y => ?_
  have ht : t.val < 272 := lt_of_lt_of_eq t.isLt N_0
  have h7 := (flush0_10 t).mp hf
  have hy0 : (y 0).val < 512 := (y 0).isLt
  have hy1 : (y 1).val < 1024 := (y 1).isLt
  blk_simp
  rw [after0_10, at_row ((win0_10.blk t).view.emb y) ⟨t.val / 8 * 512 + (y 0).val, by omega⟩ ⟨(y 1).val, hy1⟩ (emb10 t y).1 (emb10 t y).2, Cert.Moe.result_apply]
  exact (congrArg (outsAt0 m c t.val t.isLt).1 (at_ix2 y)).trans (point m c hg t ht h7 _ _ _ rfl)

/-- The kernel's second result is the reference's, of the same arguments. -/
theorem final11 (c : Dev nD) (hg : Cert.Moe.Gated (m ((c : Thread nD τ).loc main_arg1))) : (dats m 0 c).arrAt 11 (cfgs 0).N
    = Cert.Reference2Ideal.Read.val_main_v60 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (m ((c : Thread nD τ).loc main_arg9)) := by
  refine (dats m 0 c).arrAt_eq_of_covers 11 _ (by decide +kernel) fun t hf y => ?_
  have ht : t.val < 272 := lt_of_lt_of_eq t.isLt N_0
  have h7 := (flush0_11 t).mp hf
  have hy0 : (y 0).val < 512 := (y 0).isLt
  have hy1 : (y 1).val < 1024 := (y 1).isLt
  blk_simp
  rw [after0_11, at_row ((win0_11.blk t).view.emb y) ⟨t.val / 8 * 512 + (y 0).val, by omega⟩ ⟨(y 1).val, hy1⟩ (emb11 t y).1 (emb11 t y).2, Cert.Moe.rounded_apply]
  exact ((congrArg (outsAt0 m c t.val t.isLt).2.1 (at_ix2 y)).trans (out_last' m c t h7 _)).trans (point m c hg t ht h7 _ _ _ rfl)

end Cert.Kernel2Ideal.ValueMoe

end
-- ==== Proof.MoeGated.lean ====
/- The mixture of experts: the precondition says that every gate is a number, and none negative. -/
module

public import proofs.«01_k».proof.Proof.MoeSpec
public import proofs.«01_k».proof.Proof.AttSampleFinite
public import proofs.«01_k».proof.Proof.Gen.Pre_gated
public import Idealize.ShloMosaic.Lib.Claim

@[expose] public section

set_option maxRecDepth 16384

noncomputable section

open Idealize.ShloMosaic Idealize.SL.Sem

namespace Cert.Moe

open Cert.Reference2Ideal Cert.Reference2Ideal.Gen

/-- A comparison that answers yes is true: at least. -/
theorem le_of_cmpf {φ : FTy} {x b : Ideal φ} (h : FloatOps.cmpf .oge x b = 1#1) : (b : EReal) ≤ x := by
  have e : FloatOps.cmpf .oge x b = BitVec.ofBool (decide ((b : EReal) ≤ x)) := rfl
  by_contra hn
  rw [e, decide_eq_false hn] at h
  exact absurd h (by decide)

/-- A comparison that answers yes is true: below. -/
theorem lt_of_cmpf {φ : FTy} {x b : Ideal φ} (h : FloatOps.cmpf .olt x b = 1#1) : (x : EReal) < b := by
  have e : FloatOps.cmpf .olt x b = BitVec.ofBool (decide ((x : EReal) < b)) := rfl
  by_contra hn
  rw [e, decide_eq_false hn] at h
  exact absurd h (by decide)

/-- The precondition on the gates. -/
theorem gated_of (x0 : FVec Ideal S17408x1024 .f32) (x1 : FVec Ideal S64x17408 .f32) (x2 x3 : FVec Ideal S2x64x1024x256 .f32)
    (x4 : FVec Ideal S2x64x256x1024 .f32) (x5 x6 : FVec Ideal S2x1024x256 .f32)
    (x7 : FVec Ideal S2x256x1024 .f32) (x8 x9 : FVec Ideal S2x1024 .f32)
    (h : Cert.Pre_gated.fn (F := Ideal) x0 x1 x2 x3 x4 x5 x6 x7 x8 x9 = fun _ => 1#1) : Gated x1 := by
  have e := congrFun h (Shape.Idx.first Cert.Pre_gated.Gen.h_S_)
  dsimp only [Cert.Pre_gated.fn] at e
  obtain ⟨e0, e1⟩ := IntOp.andi_eq_one.1 e
  have : Subsingleton (Shape.Idx Cert.Pre_gated.S_) := ⟨fun a b => funext fun k => k.elim0⟩
  refine fun a r => ⟨?_, ?_⟩
  · have q := le_of_cmpf (Host.reduce_andi_all _ _ _ _ _ e0 (ix2 a r))
    exact le_of_eq_of_le Ideal.ofBits_zero_f32.symm q
  · have q := lt_of_cmpf (Host.reduce_andi_all _ _ _ _ _ e1 (ix2 a r))
    exact (lt_of_lt_of_eq q Cert.AttSample.ofBits_inf32).ne

end Cert.Moe

end
-- ==== Proof.ProjSpec.lean ====
/- The input projections, at one entry: what the references compute there, and what the kernels' host code hands to the products. -/
module

public import proofs.«01_k».proof.Proof.Gen.Kernel3Ideal
public import proofs.«01_k».proof.Proof.Gen.Kernel4Ideal
public import proofs.«01_k».proof.Proof.Gen.Kernel5Ideal
public import proofs.«01_k».proof.Proof.Gen.Kernel6Ideal
public import proofs.«01_k».proof.Proof.Gen.Reference3Ideal.Read
public import proofs.«01_k».proof.Proof.Gen.Reference4Ideal.Read
public import proofs.«01_k».proof.Proof.Gen.Reference5Ideal.Read
public import proofs.«01_k».proof.Proof.Gen.Reference6Ideal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Proj

open Cert.Kernel3Ideal Cert.Kernel3Ideal.Gen

/-- The tokens of the prompt and, after them, of the samples: row `r`, column `k`. -/
def token (x0 : FVec Ideal S4x4096x1024 .f32) (x1 : FVec Ideal S16x64x1024 .f32) (r : Fin 17408) (k : Fin 1024) : EReal :=
  if h : r.val < 16384 then x0 (ix3 ⟨r.val / 4096, by omega⟩ ⟨r.val % 4096, by omega⟩ k)
  else x1 (ix3 ⟨(r.val - 16384) / 64, by omega⟩ ⟨(r.val - 16384) % 64, by omega⟩ k)

/-- A row times column `j` of the first layer's input weights. -/
def times (x : Fin 1024 → EReal) (w : FVec Ideal S2x1024x11280 .f32) (j : Fin 11280) : EReal := ∑ k, x k * w (ix3 0 k j)

/-- Where column `j` of the main projection lies among the input weights' columns: the gates stand first, then `z` and the
    convolution's channels, then the two branches of the recurrent unit. -/
def mainCol (j : Fin 8192) : Fin 11280 :=
  ⟨if j.val < 3072 then 8208 + j.val else if j.val < 6144 then j.val - 3072 else j.val + 16, by split_ifs <;> omega⟩

/-- The rows that keep their keys and values: the last 512 of each prompt, and all of the samples. -/
def keepRow (r : Fin 3072) : Fin 17408 :=
  ⟨if r.val < 2048 then r.val / 512 * 4096 + 3584 + r.val % 512 else r.val - 2048 + 16384, by split_ifs <;> omega⟩

/-- An index of two axes is its two coordinates. -/
theorem at_ix2 {a b : ℕ} (x : Shape.Idx (Shape.mk 2 ![a, b])) (r : Fin a) (k : Fin b) (hr : (x 0).val = r.val) (hk : (x 1).val = k.val) : x = ix2 r k := by
  funext i; fin_cases i
  · exact Fin.ext hr
  · exact Fin.ext hk

section references

variable (x0 : FVec Ideal S4x4096x1024 .f32) (x1 : FVec Ideal S16x64x1024 .f32) (x2 : FVec Ideal S2x1024x11280 .f32)

/-- The reference's tokens. -/
theorem tokens_apply (r : Fin 17408) (k : Fin 1024) : Cert.Reference3Ideal.Read.val_main_v2 (F := Ideal) x0 x1 (ix2 r k) = token x0 x1 r k := by
  pointwise [Cert.Reference3Ideal.Read.val_main_v2, Cert.Reference3Ideal.Read.val_main_v1, Cert.Reference3Ideal.Read.val_main_v0, token]

/-- The reference's whole projection. -/
theorem whole_apply (r : Fin 17408) (j : Fin 11280) :
    Cert.Reference3Ideal.Read.val_main_v5 (F := Ideal) x0 x1 x2 (ix2 r j) = times (token x0 x1 r) x2 j := by
  pointwise [Cert.Reference3Ideal.Read.val_main_v5, Cert.Reference3Ideal.Read.val_main_v4, Cert.Reference3Ideal.Read.val_main_v3, tokens_apply, times]

/-- The main projection. -/
theorem main_apply (r : Fin 17408) (j : Fin 8192) :
    Cert.Reference3Ideal.Read.val_main_v15 (F := Ideal) x0 x1 x2 (ix2 r j) = times (token x0 x1 r) x2 (mainCol j) := by
  rw [← whole_apply]
  pointwise [Cert.Reference3Ideal.Read.val_main_v15, Cert.Reference3Ideal.Read.val_main_v14, Cert.Reference3Ideal.Read.val_main_v13,
    Cert.Reference3Ideal.Read.val_main_v12, Cert.Reference3Ideal.Read.val_main_v7, Cert.Reference3Ideal.Read.val_main_v6]
  split_ifs
  all_goals refine congrArg (fun c => Cert.Reference3Ideal.Read.val_main_v5 (F := Ideal) x0 x1 x2 (ix2 r c)) (Fin.ext ?_)
  all_goals simp only [mainCol]
  all_goals split_ifs <;> omega

/-- The queries, scaled, then the keys and the values. -/
theorem qkv_apply (r : Fin 17408) (j : Fin 3072) :
    Cert.Reference4Ideal.Read.val_main_v18 (F := Ideal) x0 x1 x2 (ix2 r j)
      = if j.val < 1024 then times (token x0 x1 r) x2 ⟨3088 + j, by omega⟩ * Ideal.ofBits .f32 0x3E000000#32
        else times (token x0 x1 r) x2 ⟨3088 + j, by omega⟩ := by
  rw [← whole_apply]
  pointwise [Cert.Reference4Ideal.Read.val_main_v18, Cert.Reference4Ideal.Read.val_main_v17, Cert.Reference4Ideal.Read.val_main_v16, Cert.Reference4Ideal.Read.val_main_v15,
    Cert.Reference4Ideal.Read.val_main_cst, Cert.Reference4Ideal.Read.val_main_v11, Cert.Reference4Ideal.Read.val_main_v10, Cert.Reference4Ideal.Read.val_main_v9]
  rw [show Cert.Reference4Ideal.Read.val_main_v5 (F := Ideal) x0 x1 x2 = Cert.Reference3Ideal.Read.val_main_v5 (F := Ideal) x0 x1 x2 from rfl]
  split_ifs
  · rfl
  all_goals first | omega | exact congrArg (fun c => Cert.Reference3Ideal.Read.val_main_v5 (F := Ideal) x0 x1 x2 (ix2 r c)) (Fin.ext (by dsimp only; omega))

/-- The integer zero as a number. -/
theorem sitofp_zero (φ : FTy) : FloatOps.sitofp (F := Ideal) φ 0#32 = (0 : EReal) := by
  show ((((0#32 : BitVec 32).toInt : ℤ) : ℝ) : EReal) = 0
  simp

/-- The step sizes' projection, padded with zeros to 128 lanes. -/
theorem dt_apply (r : Fin 17408) (j : Fin 128) :
    Cert.Reference5Ideal.Read.val_main_v15 (F := Ideal) x0 x1 x2 (ix2 r j)
      = if j.val < 16 then times (token x0 x1 r) x2 ⟨3072 + j, by omega⟩ else 0 := by
  rw [← whole_apply]
  pointwise [Cert.Reference5Ideal.Read.val_main_v15, Cert.Reference5Ideal.Read.val_main_call0_v0, Cert.Reference5Ideal.Read.val_main_c, Cert.Reference5Ideal.Read.val_main_v8]
  rw [show Cert.Reference5Ideal.Read.val_main_v5 (F := Ideal) x0 x1 x2 = Cert.Reference3Ideal.Read.val_main_v5 (F := Ideal) x0 x1 x2 from rfl]
  split_ifs
  · rfl
  · exact sitofp_zero .f32

/-- A kept token of a prompt. -/
theorem kept_prompt (r : Fin 3072) (k : Fin 1024) (h : r.val < 2048) :
    token x0 x1 (keepRow r) k = x0 (ix3 ⟨r.val / 512, by omega⟩ ⟨3584 + r.val % 512, by omega⟩ k) := by
  have v : (keepRow r).val = r.val / 512 * 4096 + 3584 + r.val % 512 := if_pos h
  rw [token, dif_pos (by omega)]
  exact congrArg₂ (fun a b => x0 (ix3 a b k)) (Fin.ext (by dsimp only; omega)) (Fin.ext (by dsimp only; omega))

/-- A kept token of a sample. -/
theorem kept_sample (r : Fin 3072) (k : Fin 1024) (h : ¬ r.val < 2048) :
    token x0 x1 (keepRow r) k = x1 (ix3 ⟨(r.val - 2048) / 64, by omega⟩ ⟨(r.val - 2048) % 64, by omega⟩ k) := by
  have v : (keepRow r).val = r.val - 2048 + 16384 := if_neg h
  rw [token, dif_neg (by omega)]
  exact congrArg₂ (fun a b => x1 (ix3 a b k)) (Fin.ext (by dsimp only; omega)) (Fin.ext (by dsimp only; omega))

/-- The prompts' whole projection. -/
theorem prompt_apply (b : Fin 4) (t : Fin 4096) (j : Fin 11280) :
    Cert.Reference6Ideal.Read.val_main_v2 (F := Ideal) x0 x2 (ix3 b t j) = times (fun k => x0 (ix3 b t k)) x2 j := by
  pointwise [Cert.Reference6Ideal.Read.val_main_v2, Cert.Reference6Ideal.Read.val_main_v1, Cert.Reference6Ideal.Read.val_main_v0, times]

/-- The samples' whole projection. -/
theorem sample_apply (b : Fin 16) (t : Fin 64) (j : Fin 11280) :
    Cert.Reference6Ideal.Read.val_main_v18 (F := Ideal) x1 x2 (ix3 b t j) = times (fun k => x1 (ix3 b t k)) x2 j := by
  pointwise [Cert.Reference6Ideal.Read.val_main_v18, Cert.Reference6Ideal.Read.val_main_v17, Cert.Reference6Ideal.Read.val_main_v16, times]

/-- The keys that are kept. -/
theorem keys_apply (r : Fin 3072) (j : Fin 1024) :
    Cert.Reference6Ideal.Read.val_main_v30 (F := Ideal) x0 x1 x2 (ix2 r j) = times (token x0 x1 (keepRow r)) x2 ⟨4112 + j, by omega⟩ := by
  pointwise [Cert.Reference6Ideal.Read.val_main_v30, Cert.Reference6Ideal.Read.val_main_v28, Cert.Reference6Ideal.Read.val_main_v23, Cert.Reference6Ideal.Read.val_main_v13, Cert.Reference6Ideal.Read.val_main_v12, Cert.Reference6Ideal.Read.val_main_v7]
  split_ifs with h
  · rw [prompt_apply, funext fun k => kept_prompt x0 x1 r k h]
  · rw [sample_apply, funext fun k => kept_sample x0 x1 r k h]
  all_goals rename_i h0; exact absurd rfl h0

/-- The values that are kept. -/
theorem values_apply (r : Fin 3072) (j : Fin 1024) :
    Cert.Reference6Ideal.Read.val_main_v31 (F := Ideal) x0 x1 x2 (ix2 r j) = times (token x0 x1 (keepRow r)) x2 ⟨5136 + j, by omega⟩ := by
  pointwise [Cert.Reference6Ideal.Read.val_main_v31, Cert.Reference6Ideal.Read.val_main_v29, Cert.Reference6Ideal.Read.val_main_v24, Cert.Reference6Ideal.Read.val_main_v15, Cert.Reference6Ideal.Read.val_main_v14, Cert.Reference6Ideal.Read.val_main_v8]
  split_ifs with h
  · rw [prompt_apply, funext fun k => kept_prompt x0 x1 r k h]
  · rw [sample_apply, funext fun k => kept_sample x0 x1 r k h]
  all_goals rename_i h0; exact absurd rfl h0

/-- The keys and values that are kept. -/
theorem keep_apply (r : Fin 3072) (j : Fin 2048) :
    Cert.Reference6Ideal.Read.val_main_v32 (F := Ideal) x0 x1 x2 (ix2 r j) = times (token x0 x1 (keepRow r)) x2 ⟨4112 + j, by omega⟩ := by
  pointwise [Cert.Reference6Ideal.Read.val_main_v32]
  split_ifs
  · rw [keys_apply]
  all_goals first
    | omega
    | (rw [values_apply]
       exact congrArg (times (token x0 x1 (keepRow r)) x2) (Fin.ext (by dsimp only; omega)))

end references

section operands

variable (x0 : FVec Ideal S4x4096x1024 .f32) (x1 : FVec Ideal S16x64x1024 .f32) (x2 : FVec Ideal S2x1024x11280 .f32)

/-- The tokens as the kernels' host code rounds and joins them. -/
def tokens : FVec Ideal S17408x1024 .bf16 :=
  concatenate S17408x1024 0
    [⟨S16384x1024, truncf .bf16 (shapeCast S16384x1024 x0 shapeCasts_S4x4096x1024_S16384x1024) bitsLt_bf16_f32⟩,
     ⟨S1024x1024, truncf .bf16 (shapeCast S1024x1024 x1 shapeCasts_S16x64x1024_S1024x1024) bitsLt_bf16_f32⟩]
    concatenates_S16384x1024_S1024x1024_S17408x1024_d0

/-- The first layer's input weights, rounded. -/
def weights : FVec Ideal S1024x11280 .bf16 :=
  shapeCast S1024x11280 (extractStridedSlice S1x1024x11280 ![0, 0, 0] (truncf .bf16 x2 bitsLt_bf16_f32) slices_S2x1024x11280_S1x1024x11280_0_0_0)
    shapeCasts_S1x1024x11280_S1024x11280

/-- The main projection's weights. -/
def mainWeights : FVec Ideal S1024x8192 .bf16 :=
  concatenate S1024x8192 1
    [⟨S1024x3072, extractStridedSlice S1024x3072 ![0, 8208] (weights x2) slices_S1024x11280_S1024x3072_0_8208⟩,
     ⟨S1024x1024, extractStridedSlice S1024x1024 ![0, 0] (weights x2) slices_S1024x11280_S1024x1024_0_0⟩,
     ⟨S1024x2048, extractStridedSlice S1024x2048 ![0, 1024] (weights x2) slices_S1024x11280_S1024x2048_0_1024⟩,
     ⟨S1024x1024, extractStridedSlice S1024x1024 ![0, 6160] (weights x2) slices_S1024x11280_S1024x1024_0_6160⟩,
     ⟨S1024x1024, extractStridedSlice S1024x1024 ![0, 7184] (weights x2) slices_S1024x11280_S1024x1024_0_7184⟩]
    concatenates_S1024x3072_S1024x1024_S1024x2048_S1024x1024_S1024x1024_S1024x8192_d1

/-- The weights of the queries, scaled, and of the keys and the values. -/
def qkvWeights : FVec Ideal S1024x3072 .bf16 :=
  concatenate S1024x3072 1
    [⟨S1024x1024, mulf (extractStridedSlice S1024x1024 ![0, 3088] (weights x2) slices_S1024x11280_S1024x1024_0_3088)
      (broadcastInDim S1024x1024 ![] Cert.Kernel4Ideal.Gen.bcast_S_S1024x1024 (constant Cert.Kernel4Ideal.S_ .bf16 0x3E00#16))⟩,
     ⟨S1024x1024, extractStridedSlice S1024x1024 ![0, 4112] (weights x2) slices_S1024x11280_S1024x1024_0_4112⟩,
     ⟨S1024x1024, extractStridedSlice S1024x1024 ![0, 5136] (weights x2) slices_S1024x11280_S1024x1024_0_5136⟩]
    Cert.Kernel4Ideal.Gen.concatenates_S1024x1024_S1024x1024_S1024x1024_S1024x3072_d1

/-- The step sizes' weights, padded with zeros to 128 lanes. -/
def dtWeights : FVec Ideal Cert.Kernel5Ideal.S1024x128 .bf16 :=
  pad Cert.Kernel5Ideal.S1024x128 ![0, 0] ![0, 112] ![0, 0] (extractStridedSlice Cert.Kernel5Ideal.S1024x16 ![0, 3072] (weights x2) slices_S1024x11280_S1024x16_0_3072)
    (sitofp (F := Ideal) .bf16 (constantI Cert.Kernel5Ideal.S_ 32 0#32)) Cert.Kernel5Ideal.Gen.pads_S1024x16_S1024x128_000_01120 Cert.Kernel5Ideal.Gen.h_S_

/-- The weights of the keys and the values. -/
def kvWeights : FVec Ideal S1024x2048 .bf16 :=
  concatenate S1024x2048 1
    [⟨S1024x1024, extractStridedSlice S1024x1024 ![0, 4112] (weights x2) slices_S1024x11280_S1024x1024_0_4112⟩,
     ⟨S1024x1024, extractStridedSlice S1024x1024 ![0, 5136] (weights x2) slices_S1024x11280_S1024x1024_0_5136⟩]
    Cert.Kernel6Ideal.Gen.concatenates_S1024x1024_S1024x1024_S1024x2048_d1

/-- The tokens whose keys and values are kept. -/
def keptTokens : FVec Ideal Cert.Kernel6Ideal.S3072x1024 .bf16 :=
  concatenate Cert.Kernel6Ideal.S3072x1024 0
    [⟨Cert.Kernel6Ideal.S512x1024, extractStridedSlice Cert.Kernel6Ideal.S512x1024 ![3584, 0] (tokens x0 x1) Cert.Kernel6Ideal.Gen.slices_S17408x1024_S512x1024_3584_0⟩,
     ⟨Cert.Kernel6Ideal.S512x1024, extractStridedSlice Cert.Kernel6Ideal.S512x1024 ![7680, 0] (tokens x0 x1) Cert.Kernel6Ideal.Gen.slices_S17408x1024_S512x1024_7680_0⟩,
     ⟨Cert.Kernel6Ideal.S512x1024, extractStridedSlice Cert.Kernel6Ideal.S512x1024 ![11776, 0] (tokens x0 x1) Cert.Kernel6Ideal.Gen.slices_S17408x1024_S512x1024_11776_0⟩,
     ⟨Cert.Kernel6Ideal.S512x1024, extractStridedSlice Cert.Kernel6Ideal.S512x1024 ![15872, 0] (tokens x0 x1) Cert.Kernel6Ideal.Gen.slices_S17408x1024_S512x1024_15872_0⟩,
     ⟨S1024x1024, extractStridedSlice S1024x1024 ![16384, 0] (tokens x0 x1) Cert.Kernel6Ideal.Gen.slices_S17408x1024_S1024x1024_16384_0⟩]
    Cert.Kernel6Ideal.Gen.concatenates_S512x1024_S512x1024_S512x1024_S512x1024_S1024x1024_S3072x1024_d0

/-- A token's entry. -/
theorem tokens_at (r : Fin 17408) (k : Fin 1024) : tokens x0 x1 (ix2 r k) = token x0 x1 r k := by
  pointwise [tokens, token]

/-- A kept token's entry. -/
theorem keptTokens_at (r : Fin 3072) (k : Fin 1024) : keptTokens x0 x1 (ix2 r k) = token x0 x1 (keepRow r) k := by
  rw [← tokens_at]
  pointwise [keptTokens]
  split_ifs
  all_goals refine congrArg (fun c => tokens x0 x1 (ix2 c k)) (Fin.ext ?_)
  all_goals simp only [keepRow]
  all_goals split_ifs <;> omega

/-- An entry of the main projection's weights. -/
theorem mainWeights_at (k : Fin 1024) (j : Fin 8192) : mainWeights x2 (ix2 k j) = x2 (ix3 0 k (mainCol j)) := by
  pointwise [mainWeights, weights]
  split_ifs
  all_goals refine congrArg (fun c => x2 (ix3 0 k c)) (Fin.ext ?_)
  all_goals simp only [mainCol]
  all_goals split_ifs <;> omega

/-- An entry of the weights of queries, keys and values. -/
theorem qkvWeights_at (k : Fin 1024) (j : Fin 3072) :
    qkvWeights x2 (ix2 k j) = if j.val < 1024 then x2 (ix3 0 k ⟨3088 + j, by omega⟩) * Ideal.ofBits .bf16 0x3E00#16 else x2 (ix3 0 k ⟨3088 + j, by omega⟩) := by
  pointwise [qkvWeights, weights]
  split_ifs
  · rfl
  all_goals first | omega | exact congrArg (fun c => x2 (ix3 0 k c)) (Fin.ext (by dsimp only; omega))

/-- An entry of the step sizes' weights. -/
theorem dtWeights_at (k : Fin 1024) (j : Fin 128) :
    dtWeights x2 (ix2 k j) = if j.val < 16 then x2 (ix3 0 k ⟨3072 + j, by omega⟩) else 0 := by
  pointwise [dtWeights, weights]
  split_ifs
  · rfl
  · exact sitofp_zero .bf16

/-- An entry of the weights of keys and values. -/
theorem kvWeights_at (k : Fin 1024) (j : Fin 2048) : kvWeights x2 (ix2 k j) = x2 (ix3 0 k ⟨4112 + j, by omega⟩) := by
  pointwise [kvWeights, weights]
  split_ifs
  · rfl
  all_goals first | omega | exact congrArg (fun c => x2 (ix3 0 k c)) (Fin.ext (by dsimp only; omega))

end operands

end Cert.Proj

end
-- ==== Proof.ProjMain.lean ====
/- The main input projection: the kernel's result is the reference's. -/
module

public import proofs.«01_k».proof.Proof.ProjSpec
public import proofs.«01_k».proof.Proof.Gen.Kernel3Ideal.Value
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel3Ideal.ValueProj

open Cert.Kernel3Ideal Cert.Kernel3Ideal.Gen

variable (m : (ℓ : Loc nD τ sig) → Buf (Elt Ideal) ℓ)

/-- Which blocks a grid point works on: rows `t / 4`, columns `t % 4`. -/
theorem idx_val : ∀ t : Fin cfg0.N, win0_0.index t = ![t.val / 4, 0] ∧ win0_1.index t = ![0, t.val % 4] ∧ win0_2.index t = ![t.val / 4, t.val % 4] :=
  (by decide +kernel : ∀ t : Fin grid0.N, _)

/-- The tokens in the region's entry. -/
theorem entry0 (c : Dev nD) : V m c main_v17 = Cert.Proj.tokens (m ((c : Thread nD τ).loc main_arg0)) (m ((c : Thread nD τ).loc main_arg1)) := by
  entry_read
  rfl

/-- The weights in the region's entry. -/
theorem entry1 (c : Dev nD) : V m c main_v12 = Cert.Proj.mainWeights (m ((c : Thread nD τ).loc main_arg2)) := by
  unfold V
  after_reads_simp
  rfl

/-- The rows of a grid point. -/
theorem blk0 (c : Dev nD) (t : Fin cfg0.N) (ht : t.val < 68) (i : Fin 1024) (k : Fin 1024) :
    iblk m c 0 t (ix2 i k) = Cert.Proj.token (m ((c : Thread nD τ).loc main_arg0)) (m ((c : Thread nD τ).loc main_arg1)) ⟨t / 4 * 1024 + i, by omega⟩ k := by
  rw [← Cert.Proj.tokens_at]
  blk_simp [iblk, idx_val t]
  rw [entry0]
  blk_ext [idx_val t]

/-- The columns of a grid point. -/
theorem blk1 (c : Dev nD) (t : Fin cfg0.N) (k : Fin 1024) (j : Fin 2048) :
    iblk m c 1 t (ix2 k j) = m ((c : Thread nD τ).loc main_arg2) (ix3 0 k (Cert.Proj.mainCol ⟨t % 4 * 2048 + j, by omega⟩)) := by
  refine Eq.trans ?_ (Cert.Proj.mainWeights_at _ _ _)
  blk_simp [iblk, idx_val t]
  rw [entry1]
  blk_ext [idx_val t]

/-- A grid point's row times a grid point's column. -/
theorem point (c : Dev nD) (t : Fin cfg0.N) (ht : t.val < 68) (i : Fin 1024) (j : Fin 2048) :
    (∑ k : Fin 1024, (show EReal from iblk m c 0 t (ix2 i k)) * (show EReal from iblk m c 1 t (ix2 k j)))
      = Cert.Proj.times (Cert.Proj.token (m ((c : Thread nD τ).loc main_arg0)) (m ((c : Thread nD τ).loc main_arg1)) ⟨t / 4 * 1024 + i, by omega⟩)
          (m ((c : Thread nD τ).loc main_arg2)) (Cert.Proj.mainCol ⟨t % 4 * 2048 + j, by omega⟩) :=
  Finset.sum_congr rfl fun k _ => by rw [blk0 m c t ht, blk1]

/-- What a grid point stores, from the blocks it reads. -/
theorem stored (a : Vec Ideal S1024x1024 .bf16) (b : Vec Ideal S1024x2048 .bf16) (y : S1024x2048.Idx) :
    out0_2 a b y = ∑ k : Fin 1024, a (ix2 (y 0) k) * b (ix2 k (y 1)) := by
  frame_out
  pointwise [k0_pay1]

/-- The row and the column of the result that a block's are. -/
theorem emb2 (t : Fin cfg0.N) (y : S1024x2048.Idx) : ((win0_2.blk t).view.emb y 0).val = t.val / 4 * 1024 + (y 0).val ∧ ((win0_2.blk t).view.emb y 1).val = t.val % 4 * 2048 + (y 1).val :=
  ⟨by blk_simp [idx_val t], by blk_simp [idx_val t]⟩

/-- The kernel's result is the reference's, of the same arguments. -/
theorem final2 (c : Dev nD) : (dats m 0 c).arrAt 2 (cfgs 0).N
    = Cert.Reference3Ideal.Read.val_main_v15 (F := Ideal) (m ((c : Thread nD τ).loc main_arg0)) (m ((c : Thread nD τ).loc main_arg1)) (m ((c : Thread nD τ).loc main_arg2)) := by
  refine (dats m 0 c).arrAt_eq_of_covers 2 _ (by decide +kernel) fun t _ y => ?_
  have ht : t.val < 68 := lt_of_lt_of_eq t.isLt N_0
  have hy0 : (y 0).val < 1024 := (y 0).isLt
  have hy1 : (y 1).val < 2048 := (y 1).isLt
  blk_simp
  rw [after0_2, stored, Cert.Proj.at_ix2 ((win0_2.blk t).view.emb y) ⟨t.val / 4 * 1024 + (y 0).val, by omega⟩ ⟨t.val % 4 * 2048 + (y 1).val, by omega⟩ (emb2 t y).1 (emb2 t y).2,
    Cert.Proj.main_apply]
  exact point m c t ht _ _

end Cert.Kernel3Ideal.ValueProj

end
-- ==== Proof.ProjQkv.lean ====
/- The queries', keys' and values' projection: the kernel's result is the reference's. -/
module

public import proofs.«01_k».proof.Proof.ProjSpec
public import proofs.«01_k».proof.Proof.MoeSpec
public import proofs.«01_k».proof.Proof.Gen.Kernel4Ideal.Value
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel4Ideal.ValueProj

open Cert.Kernel4Ideal Cert.Kernel4Ideal.Gen

/-- The queries' scale is the real number 1/8. -/
theorem scale_real : Ideal.ofBits .f32 0x3E000000#32 = ((1 / 8 : ℝ) : EReal) := by
  simp [Ideal.ofBits, Ideal.ieee]
  rw [← EReal.coe_mul]
  exact congrArg _ (by norm_num)

/-- The queries' scale is the same number in both widths. -/
theorem scale_eq : Ideal.ofBits .bf16 0x3E00#16 = Ideal.ofBits .f32 0x3E000000#32 := by
  rw [scale_real]
  simp [Ideal.ofBits, Ideal.ieee]
  rw [← EReal.coe_mul]
  exact congrArg _ (by norm_num)

/-- Scaling a weight's column scales what it gives. -/
theorem times_scaled {n : ℕ} (a b : Fin n → EReal) :
    (∑ k, a k * (b k * Ideal.ofBits .f32 0x3E000000#32)) = (∑ k, a k * b k) * Ideal.ofBits .f32 0x3E000000#32 := by
  rw [mul_comm (∑ k, a k * b k), Cert.Moe.gate_sum _ (by rw [scale_real]; exact EReal.coe_nonneg.2 (by norm_num)) (by rw [scale_real]; exact EReal.coe_ne_top _)]
  exact Finset.sum_congr rfl fun k _ => by rw [mul_comm (b k), mul_assoc]

variable (m : (ℓ : Loc nD τ sig) → Buf (Elt Ideal) ℓ)

/-- Which blocks a grid point works on. -/
theorem idx_val : ∀ t : Fin cfg0.N, win0_0.index t = ![t.val, 0] ∧ win0_1.index t = ![0, 0] ∧ win0_2.index t = ![t.val, 0] :=
  (by decide +kernel : ∀ t : Fin grid0.N, _)

/-- The rows in the region's entry. -/
theorem entry0 (c : Dev nD) : V m c main_v19 = Cert.Proj.tokens (m ((c : Thread nD τ).loc main_arg0)) (m ((c : Thread nD τ).loc main_arg1)) := by
  unfold V
  after_reads_simp
  rfl

/-- The weights in the region's entry. -/
theorem entry1 (c : Dev nD) : V m c main_v14 = Cert.Proj.qkvWeights (m ((c : Thread nD τ).loc main_arg2)) := by
  unfold V
  after_reads_simp
  rfl

/-- The rows of a grid point. -/
theorem blk0 (c : Dev nD) (t : Fin cfg0.N) (ht : t.val < 17) (i : Fin 1024) (k : Fin 1024) :
    iblk m c 0 t (ix2 i k) = Cert.Proj.token (m ((c : Thread nD τ).loc main_arg0)) (m ((c : Thread nD τ).loc main_arg1)) ⟨t * 1024 + i, by omega⟩ k := by
  rw [← Cert.Proj.tokens_at]
  blk_simp [iblk, idx_val t]
  rw [entry0]
  blk_ext [idx_val t]

/-- The columns of a grid point. -/
theorem blk1 (c : Dev nD) (t : Fin cfg0.N) (k : Fin 1024) (j : Fin 3072) :
    iblk m c 1 t (ix2 k j) = if j.val < 1024 then (show EReal from (m ((c : Thread nD τ).loc main_arg2)) (ix3 0 k ⟨3088 + j, by omega⟩)) * Ideal.ofBits .bf16 0x3E00#16 else (m ((c : Thread nD τ).loc main_arg2)) (ix3 0 k ⟨3088 + j, by omega⟩) := by
  refine Eq.trans ?_ (Cert.Proj.qkvWeights_at _ _ j)
  blk_simp [iblk, idx_val t]
  rw [entry1]
  blk_ext [idx_val t]

/-- What a grid point stores, from the blocks it reads. -/
theorem stored (a : Vec Ideal S1024x1024 .bf16) (b : Vec Ideal S1024x3072 .bf16) (y : S1024x3072.Idx) :
    out0_2 a b y = ∑ k : Fin 1024, a (ix2 (y 0) k) * b (ix2 k (y 1)) := by
  frame_out
  pointwise [k0_pay1]

/-- The row and the column of the result that a block's are. -/
theorem emb2 (t : Fin cfg0.N) (y : S1024x3072.Idx) : ((win0_2.blk t).view.emb y 0).val = t.val * 1024 + (y 0).val ∧ ((win0_2.blk t).view.emb y 1).val = (y 1).val :=
  ⟨by blk_simp [idx_val t], by blk_simp [idx_val t]⟩

/-- A grid point's row times a grid point's column. -/
theorem point (c : Dev nD) (t : Fin cfg0.N) (ht : t.val < 17) (i : Fin 1024) (j : Fin 3072) :
    (∑ k : Fin 1024, (show EReal from iblk m c 0 t (ix2 i k)) * (show EReal from iblk m c 1 t (ix2 k j)))
      = if j.val < 1024 then Cert.Proj.times (Cert.Proj.token (m ((c : Thread nD τ).loc main_arg0)) (m ((c : Thread nD τ).loc main_arg1)) ⟨t * 1024 + i, by omega⟩) (m ((c : Thread nD τ).loc main_arg2)) ⟨3088 + j, by omega⟩ * Ideal.ofBits .f32 0x3E000000#32
        else Cert.Proj.times (Cert.Proj.token (m ((c : Thread nD τ).loc main_arg0)) (m ((c : Thread nD τ).loc main_arg1)) ⟨t * 1024 + i, by omega⟩) (m ((c : Thread nD τ).loc main_arg2)) ⟨3088 + j, by omega⟩ := by
  split_ifs with h
  · refine Eq.trans (Finset.sum_congr rfl fun k _ => ?_) (times_scaled _ _)
    rw [blk0 m c t ht, blk1, if_pos h, scale_eq]
  · exact Finset.sum_congr rfl fun k _ => by rw [blk0 m c t ht, blk1, if_neg h]

/-- The kernel's result is the reference's, of the same arguments. -/
theorem final2 (c : Dev nD) : (dats m 0 c).arrAt 2 (cfgs 0).N
    = Cert.Reference4Ideal.Read.val_main_v18 (F := Ideal) (m ((c : Thread nD τ).loc main_arg0)) (m ((c : Thread nD τ).loc main_arg1)) (m ((c : Thread nD τ).loc main_arg2)) := by
  refine (dats m 0 c).arrAt_eq_of_covers 2 _ (by decide +kernel) fun t _ y => ?_
  have ht : t.val < 17 := lt_of_lt_of_eq t.isLt N_0
  have hy0 : (y 0).val < 1024 := (y 0).isLt
  have hy1 : (y 1).val < 3072 := (y 1).isLt
  blk_simp
  rw [after0_2, stored, Cert.Proj.at_ix2 ((win0_2.blk t).view.emb y) ⟨t.val * 1024 + (y 0).val, by omega⟩ ⟨(y 1).val, hy1⟩ (emb2 t y).1 (emb2 t y).2,
    Cert.Proj.qkv_apply]
  exact point m c t ht _ _

end Cert.Kernel4Ideal.ValueProj

end
-- ==== Proof.ProjDt.lean ====
/- The time steps' projection: the kernel's result is the reference's. -/
module

public import proofs.«01_k».proof.Proof.ProjSpec
public import proofs.«01_k».proof.Proof.Gen.Kernel5Ideal.Value
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel5Ideal.ValueProj

open Cert.Kernel5Ideal Cert.Kernel5Ideal.Gen

variable (m : (ℓ : Loc nD τ sig) → Buf (Elt Ideal) ℓ)

/-- Which blocks a grid point works on. -/
theorem idx_val : ∀ t : Fin cfg0.N, win0_0.index t = ![t.val, 0] ∧ win0_1.index t = ![0, 0] ∧ win0_2.index t = ![t.val, 0] :=
  (by decide +kernel : ∀ t : Fin grid0.N, _)

/-- The rows in the region's entry. -/
theorem entry0 (c : Dev nD) : V m c main_v17 = Cert.Proj.tokens (m ((c : Thread nD τ).loc main_arg0)) (m ((c : Thread nD τ).loc main_arg1)) := by
  unfold V
  simp only [List.flatten_cons, List.flatten_nil, List.cons_append, List.nil_append, List.append_nil]
  after_reads_simp
  rfl

/-- The weights in the region's entry. -/
theorem entry1 (c : Dev nD) : V m c main_v12 = Cert.Proj.dtWeights (m ((c : Thread nD τ).loc main_arg2)) := by
  unfold V
  simp only [List.flatten_cons, List.flatten_nil, List.cons_append, List.nil_append, List.append_nil]
  after_reads_simp
  rfl

/-- The rows of a grid point. -/
theorem blk0 (c : Dev nD) (t : Fin cfg0.N) (ht : t.val < 17) (i : Fin 1024) (k : Fin 1024) :
    iblk m c 0 t (ix2 i k) = Cert.Proj.token (m ((c : Thread nD τ).loc main_arg0)) (m ((c : Thread nD τ).loc main_arg1)) ⟨t * 1024 + i, by omega⟩ k := by
  rw [← Cert.Proj.tokens_at]
  blk_simp [iblk, idx_val t]
  rw [entry0]
  blk_ext [idx_val t]

/-- The columns of a grid point. -/
theorem blk1 (c : Dev nD) (t : Fin cfg0.N) (k : Fin 1024) (j : Fin 128) :
    iblk m c 1 t (ix2 k j) = if j.val < 16 then (m ((c : Thread nD τ).loc main_arg2)) (ix3 0 k ⟨3072 + j, by omega⟩) else (0 : EReal) := by
  refine Eq.trans ?_ (Cert.Proj.dtWeights_at _ _ j)
  blk_simp [iblk, idx_val t]
  rw [entry1]
  blk_ext [idx_val t]

/-- What a grid point stores, from the blocks it reads. -/
theorem stored (a : Vec Ideal S1024x1024 .bf16) (b : Vec Ideal S1024x128 .bf16) (y : S1024x128.Idx) :
    out0_2 a b y = ∑ k : Fin 1024, a (ix2 (y 0) k) * b (ix2 k (y 1)) := by
  frame_out
  pointwise [k0_pay1]

/-- The row and the column of the result that a block's are. -/
theorem emb2 (t : Fin cfg0.N) (y : S1024x128.Idx) : ((win0_2.blk t).view.emb y 0).val = t.val * 1024 + (y 0).val ∧ ((win0_2.blk t).view.emb y 1).val = (y 1).val :=
  ⟨by blk_simp [idx_val t], by blk_simp [idx_val t]⟩

/-- A grid point's row times a grid point's column. -/
theorem point (c : Dev nD) (t : Fin cfg0.N) (ht : t.val < 17) (i : Fin 1024) (j : Fin 128) :
    (∑ k : Fin 1024, (show EReal from iblk m c 0 t (ix2 i k)) * (show EReal from iblk m c 1 t (ix2 k j)))
      = if j.val < 16 then Cert.Proj.times (Cert.Proj.token (m ((c : Thread nD τ).loc main_arg0)) (m ((c : Thread nD τ).loc main_arg1)) ⟨t * 1024 + i, by omega⟩) (m ((c : Thread nD τ).loc main_arg2)) ⟨3072 + j, by omega⟩ else 0 := by
  split_ifs with h
  · exact Finset.sum_congr rfl fun k _ => by rw [blk0 m c t ht, blk1, if_pos h]
  · exact Finset.sum_eq_zero fun k _ => by rw [blk1, if_neg h]; exact mul_zero (show EReal from _)

/-- The kernel's result is the reference's, of the same arguments. -/
theorem final2 (c : Dev nD) : (dats m 0 c).arrAt 2 (cfgs 0).N
    = Cert.Reference5Ideal.Read.val_main_v15 (F := Ideal) (m ((c : Thread nD τ).loc main_arg0)) (m ((c : Thread nD τ).loc main_arg1)) (m ((c : Thread nD τ).loc main_arg2)) := by
  refine (dats m 0 c).arrAt_eq_of_covers 2 _ (by decide +kernel) fun t _ y => ?_
  have ht : t.val < 17 := lt_of_lt_of_eq t.isLt N_0
  have hy0 : (y 0).val < 1024 := (y 0).isLt
  have hy1 : (y 1).val < 128 := (y 1).isLt
  blk_simp
  rw [after0_2, stored, Cert.Proj.at_ix2 ((win0_2.blk t).view.emb y) ⟨t.val * 1024 + (y 0).val, by omega⟩ ⟨(y 1).val, hy1⟩ (emb2 t y).1 (emb2 t y).2,
    Cert.Proj.dt_apply]
  exact point m c t ht _ _

end Cert.Kernel5Ideal.ValueProj

end
-- ==== Proof.ProjKeep.lean ====
/- The keys and values that are kept: the kernel's result is the reference's. -/
module

public import proofs.«01_k».proof.Proof.ProjSpec
public import proofs.«01_k».proof.Proof.Gen.Kernel6Ideal.Value
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel6Ideal.ValueProj

open Cert.Kernel6Ideal Cert.Kernel6Ideal.Gen

variable (m : (ℓ : Loc nD τ sig) → Buf (Elt Ideal) ℓ)

/-- Which blocks a grid point works on. -/
theorem idx_val : ∀ t : Fin cfg0.N, win0_0.index t = ![t.val / 2, 0] ∧ win0_1.index t = ![0, t.val % 2] ∧ win0_2.index t = ![t.val / 2, t.val % 2] :=
  (by decide +kernel : ∀ t : Fin grid0.N, _)

/-- The rows in the region's entry. -/
theorem entry0 (c : Dev nD) : V m c main_v23 = Cert.Proj.keptTokens (m ((c : Thread nD τ).loc main_arg0)) (m ((c : Thread nD τ).loc main_arg1)) := by
  unfold V
  after_reads_simp
  rfl

/-- The weights in the region's entry. -/
theorem entry1 (c : Dev nD) : V m c main_v12 = Cert.Proj.kvWeights (m ((c : Thread nD τ).loc main_arg2)) := by
  unfold V
  after_reads_simp
  rfl

/-- The rows of a grid point. -/
theorem blk0 (c : Dev nD) (t : Fin cfg0.N) (ht : t.val < 6) (i : Fin 1024) (k : Fin 1024) :
    iblk m c 0 t (ix2 i k) = Cert.Proj.token (m ((c : Thread nD τ).loc main_arg0)) (m ((c : Thread nD τ).loc main_arg1)) (Cert.Proj.keepRow ⟨t / 2 * 1024 + i, by omega⟩) k := by
  rw [← Cert.Proj.keptTokens_at]
  blk_simp [iblk, idx_val t]
  rw [entry0]
  blk_ext [idx_val t]

/-- The columns of a grid point. -/
theorem blk1 (c : Dev nD) (t : Fin cfg0.N) (k : Fin 1024) (j : Fin 1024) :
    iblk m c 1 t (ix2 k j) = (m ((c : Thread nD τ).loc main_arg2)) (ix3 0 k ⟨4112 + (t % 2 * 1024 + j), by omega⟩) := by
  refine Eq.trans ?_ (Cert.Proj.kvWeights_at _ _ ⟨t % 2 * 1024 + j, by omega⟩)
  blk_simp [iblk, idx_val t]
  rw [entry1]
  blk_ext [idx_val t]

/-- What a grid point stores, from the blocks it reads. -/
theorem stored (a : Vec Ideal S1024x1024 .bf16) (b : Vec Ideal S1024x1024 .bf16) (y : S1024x1024.Idx) :
    out0_2 a b y = ∑ k : Fin 1024, a (ix2 (y 0) k) * b (ix2 k (y 1)) := by
  frame_out
  pointwise [k0_pay1]

/-- The row and the column of the result that a block's are. -/
theorem emb2 (t : Fin cfg0.N) (y : S1024x1024.Idx) : ((win0_2.blk t).view.emb y 0).val = t.val / 2 * 1024 + (y 0).val ∧ ((win0_2.blk t).view.emb y 1).val = t.val % 2 * 1024 + (y 1).val :=
  ⟨by blk_simp [idx_val t], by blk_simp [idx_val t]⟩

/-- A grid point's row times a grid point's column. -/
theorem point (c : Dev nD) (t : Fin cfg0.N) (ht : t.val < 6) (i : Fin 1024) (j : Fin 1024) :
    (∑ k : Fin 1024, (show EReal from iblk m c 0 t (ix2 i k)) * (show EReal from iblk m c 1 t (ix2 k j)))
      = Cert.Proj.times (Cert.Proj.token (m ((c : Thread nD τ).loc main_arg0)) (m ((c : Thread nD τ).loc main_arg1)) (Cert.Proj.keepRow ⟨t / 2 * 1024 + i, by omega⟩)) (m ((c : Thread nD τ).loc main_arg2)) ⟨4112 + (t % 2 * 1024 + j), by omega⟩ := by
  exact Finset.sum_congr rfl fun k _ => by rw [blk0 m c t ht, blk1]

/-- The kernel's result is the reference's, of the same arguments. -/
theorem final2 (c : Dev nD) : (dats m 0 c).arrAt 2 (cfgs 0).N
    = Cert.Reference6Ideal.Read.val_main_v32 (F := Ideal) (m ((c : Thread nD τ).loc main_arg0)) (m ((c : Thread nD τ).loc main_arg1)) (m ((c : Thread nD τ).loc main_arg2)) := by
  refine (dats m 0 c).arrAt_eq_of_covers 2 _ (by decide +kernel) fun t _ y => ?_
  have ht : t.val < 6 := lt_of_lt_of_eq t.isLt N_0
  have hy0 : (y 0).val < 1024 := (y 0).isLt
  have hy1 : (y 1).val < 1024 := (y 1).isLt
  blk_simp
  rw [after0_2, stored, Cert.Proj.at_ix2 ((win0_2.blk t).view.emb y) ⟨t.val / 2 * 1024 + (y 0).val, by omega⟩ ⟨t.val % 2 * 1024 + (y 1).val, by omega⟩ (emb2 t y).1 (emb2 t y).2,
    Cert.Proj.keep_apply]
  exact point m c t ht _ _

end Cert.Kernel6Ideal.ValueProj

end
-- ==== Proof.MergeSpec.lean ====
/- The merge of the three branches: what the reference computes, entry by entry. -/
module

public import proofs.«01_k».proof.Proof.Gen.Reference7Ideal.Read
public import proofs.«01_k».proof.Proof.MoeSpec

@[expose] public section

set_option maxRecDepth 16384

noncomputable section

open Idealize.ShloMosaic Idealize.ShloMosaic.TcCoe Idealize.SL.Sem

namespace Cert.Merge

open Cert.Reference7Ideal Cert.Reference7Ideal.Read Cert.Reference7Ideal.Gen

/-- A branch's rows: the prompt's and, after them, the samples'. -/
def joined (p : FVec Ideal S16384x1024 .bf16) (s : FVec Ideal S1024x1024 .bf16) (r : Fin 17408) (k : Fin 1024) : EReal :=
  if h : r.val < 16384 then p (ix2 ⟨r.val, h⟩ k) else s (ix2 ⟨r.val - 16384, by omega⟩ k)

/-- A gate: the sigmoid of a column of the main projection and its bias. -/
def gate (z : FVec Ideal S17408x8192 .f32) (b : FVec Ideal S2x3072 .f32) (r : Fin 17408) (j : Fin 3072) : EReal :=
  Ideal.div 1 (1 + Ideal.exp (-(z (ix2 r ⟨j, by omega⟩) + b (ix2 0 j))))

/-- A branch's rows through its output projection. -/
def out (y : Fin 1024 → EReal) (w : FVec Ideal S2x1024x1024 .f32) (d : Fin 1024) : EReal := ∑ k, y k * w (ix3 0 k d)

section

variable (x0 : FVec Ideal S16384x1024 .bf16) (x1 : FVec Ideal S1024x1024 .bf16) (x2 : FVec Ideal S16384x1024 .bf16) (x3 : FVec Ideal S1024x1024 .bf16)
  (x4 : FVec Ideal S16384x1024 .bf16) (x5 : FVec Ideal S1024x1024 .bf16) (x6 : FVec Ideal S17408x8192 .f32) (x7 : FVec Ideal S17408x1024 .f32)
  (x8 x9 x10 x11 : FVec Ideal S2x1024x1024 .f32) (x12 : FVec Ideal S2x3072 .f32) (x13 x14 : FVec Ideal S2x1024 .f32)

/-- The gated sum of the three branches. -/
def merged (r : Fin 17408) (d : Fin 1024) : EReal :=
  gate x6 x12 r ⟨d, by omega⟩ * out (joined x0 x1 r) x8 d + gate x6 x12 r ⟨1024 + d, by omega⟩ * out (joined x2 x3 r) x9 d
    + gate x6 x12 r ⟨2048 + d, by omega⟩ * out (joined x4 x5 r) x10 d

/-- The rows before the norm: the merged rows through the last projection, and the scaled residual. -/
def resid (r : Fin 17408) (d : Fin 1024) : EReal :=
  Ideal.ofBits .f32 0x3FB504F3#32 * x7 (ix2 r d) + out (merged x0 x1 x2 x3 x4 x5 x6 x8 x9 x10 x12 r) x11 d

/-- The reference's gates. -/
theorem gate_apply (r : Fin 17408) (n : Fin 3) (d : Fin 1024) :
    val_main_v18 (F := Ideal) x6 x12 (ix3 r n d) = gate x6 x12 r ⟨n * 1024 + d, by omega⟩ := by
  pointwise [val_main_v18, val_main_v17, val_main_v16, val_main_v15, val_main_v14, val_main_v13, val_main_v12, val_main_v11, val_main_v10, val_main_v9,
    val_main_v8, val_main_v7, val_main_v6, val_main_cst, val_main_cst_0, gate]

/-- The reference's first branch, through its projection. -/
theorem first_apply (r : Fin 17408) (d : Fin 1024) : val_main_v23 (F := Ideal) x0 x1 x8 (ix2 r d) = out (joined x0 x1 r) x8 d := by
  pointwise [val_main_v23, val_main_v22, val_main_v21, val_main_v1, val_main_v0, out, joined]

/-- The reference's second branch, through its projection. -/
theorem second_apply (r : Fin 17408) (d : Fin 1024) : val_main_v29 (F := Ideal) x2 x3 x9 (ix2 r d) = out (joined x2 x3 r) x9 d := by
  pointwise [val_main_v29, val_main_v28, val_main_v27, val_main_v3, val_main_v2, out, joined]

/-- The reference's third branch, through its projection. -/
theorem third_apply (r : Fin 17408) (d : Fin 1024) : val_main_v36 (F := Ideal) x4 x5 x10 (ix2 r d) = out (joined x4 x5 r) x10 d := by
  pointwise [val_main_v36, val_main_v35, val_main_v34, val_main_v5, val_main_v4, out, joined]

/-- The reference's gated sum. -/
theorem merged_apply (r : Fin 17408) (d : Fin 1024) :
    val_main_v38 (F := Ideal) x0 x1 x2 x3 x4 x5 x6 x8 x9 x10 x12 (ix2 r d) = merged x0 x1 x2 x3 x4 x5 x6 x8 x9 x10 x12 r d := by
  pointwise [val_main_v38, val_main_v37, val_main_v33, val_main_v32, val_main_v31, val_main_v30, val_main_v26, val_main_v25, val_main_v24, val_main_v20,
    val_main_v19, gate_apply, first_apply, second_apply, third_apply, merged]

/-- The reference's rows before the norm. -/
theorem resid_apply (r : Fin 17408) (d : Fin 1024) :
    val_main_v44 (F := Ideal) x0 x1 x2 x3 x4 x5 x6 x7 x8 x9 x10 x11 x12 (ix2 r d) = resid x0 x1 x2 x3 x4 x5 x6 x7 x8 x9 x10 x11 x12 r d := by
  pointwise [val_main_v44, val_main_v43, val_main_v42, val_main_v41, val_main_v40, val_main_v39, val_main_cst_1, merged_apply, resid, out]

/-- The reference's result. -/
theorem result_apply (r : Fin 17408) (d : Fin 1024) :
    val_main_v72 (F := Ideal) x0 x1 x2 x3 x4 x5 x6 x7 x8 x9 x10 x11 x12 x13 x14 (ix2 r d)
      = Cert.Moe.norm (resid x0 x1 x2 x3 x4 x5 x6 x7 x8 x9 x10 x11 x12 r) (fun k => x13 (ix2 0 k)) (fun k => x14 (ix2 0 k)) d := by
  pointwise [val_main_v72, val_main_v71, val_main_v70, val_main_v69, val_main_v68, val_main_v67, val_main_v66, val_main_v65, val_main_v64, val_main_v63,
    val_main_v62, val_main_v61, val_main_v60, val_main_v59, val_main_v58, val_main_v57, val_main_v56, val_main_v55, val_main_v54, val_main_v53, val_main_v52,
    val_main_v51, val_main_v50, val_main_v49, val_main_v48, val_main_v47, val_main_v46, val_main_v45, val_main_cst_2, val_main_cst_3, val_main_cst_4,
    val_main_cst_5, val_main_cst_6, Cert.Moe.norm, Cert.Moe.mean, resid_apply]

/-- The reference's rounded result is the same. -/
theorem rounded_apply (r : Fin 17408) (d : Fin 1024) :
    val_main_v73 (F := Ideal) x0 x1 x2 x3 x4 x5 x6 x7 x8 x9 x10 x11 x12 x13 x14 (ix2 r d)
      = Cert.Moe.norm (resid x0 x1 x2 x3 x4 x5 x6 x7 x8 x9 x10 x11 x12 r) (fun k => x13 (ix2 0 k)) (fun k => x14 (ix2 0 k)) d := by
  rw [val_main_v73_apply, ← result_apply]
  rfl

end

end Cert.Merge

end
-- ==== Proof.MergeValue.lean ====
/- The merge of the three branches: the kernel's results are the reference's. -/
module

public import proofs.«01_k».proof.Proof.MergeSpec
public import proofs.«01_k».proof.Proof.MoeValue
public import proofs.«01_k».proof.Proof.ProjSpec
public import proofs.«01_k».proof.Proof.Gen.Kernel7Ideal.Value
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel7Ideal.ValueMerge

open Cert.Kernel7Ideal Cert.Kernel7Ideal.Gen

/-! ## One tile -/

/-- Half of one, in every cell. -/
def halves : FVec Ideal S512x3072 .f32 := broadcast S512x3072 (Scalar.ofBits .f32 0x3F000000#32)

/-- The three branches' gates, the sigmoid written with a hyperbolic tangent. -/
def gates (z : Vec Ideal S512x3072 .f32) (b : Vec Ideal S1x3072 .f32) : FVec Ideal S512x3072 .f32 :=
  addf (mulf halves (tanh (mulf halves (addf z (broadcastTo S512x3072 (shapeCast S1x3072 b shapeCasts_S1x3072_S1x3072) broadcasts_S1x3072_S512x3072))))) halves

/-- The rows of a grid point: the prompt's at its first 32 points, then the samples'. -/
def rows (i : grid0.Coords) (p s : Vec Ideal S512x1024 .bf16) : Vec Ideal S512x1024 .bf16 :=
  Scalar.select (Scalar.cmpi .slt (BitVec.ofNat 32 (i 0).val) 32#32) p s

/-- Rows through a square matrix. -/
def through (y : FVec Ideal S512x1024 .bf16) (w : Vec Ideal S1024x1024 .bf16) : FVec Ideal S512x1024 .f32 :=
  matmul (φ₂ := .bf16) dot_S512x1024_S1024x1024_S512x1024_1_0_0_1_n_n none y (shapeCast S1024x1024 w shapeCasts_S1024x1024_S1024x1024) (constant S512x1024 .f32 0x00000000#32)

/-- The gated sum of the three branches. -/
def merged (g : FVec Ideal S512x3072 .f32) (y0 y1 y2 : FVec Ideal S512x1024 .bf16) (w0 w1 w2 : Vec Ideal S1024x1024 .bf16) : FVec Ideal S512x1024 .f32 :=
  addf (addf (mulf (extractStridedSlice S512x1024 ![0, 0] g slices_S512x3072_o0_0_S512x1024) (through y0 w0))
      (mulf (extractStridedSlice S512x1024 ![0, 1024] g slices_S512x3072_o0_1024_S512x1024) (through y1 w1)))
    (mulf (extractStridedSlice S512x1024 ![0, 2048] g slices_S512x3072_o0_2048_S512x1024) (through y2 w2))

/-- The rows before the norm. -/
def resid (x : Vec Ideal S512x1024 .f32) (y : FVec Ideal S512x1024 .f32) (w : Vec Ideal S1024x1024 .bf16) : FVec Ideal S512x1024 .f32 :=
  addf (mulf (broadcast S512x1024 (Scalar.ofBits .f32 0x3FB504F3#32)) x) (through (truncf .bf16 y bitsLt_bf16_f32) w)

/-- The gates, entry by entry. -/
theorem gates_apply (z : Vec Ideal S512x3072 .f32) (b : Vec Ideal S1x3072 .f32) (r : Fin 512) (j : Fin 3072) :
    gates z b (ix2 r j) = Ideal.div 1 (1 + Ideal.exp (-((z (ix2 r j) : EReal) + b (ix2 0 j)))) := by
  pointwise [gates, halves]
  rw [Cert.Moe.sigmoid_tanh]

/-- The rows' product, entry by entry. -/
theorem through_apply (y : FVec Ideal S512x1024 .bf16) (w : Vec Ideal S1024x1024 .bf16) (r : Fin 512) (d : Fin 1024) :
    through y w (ix2 r d) = ∑ k : Fin 1024, (y (ix2 r k) : EReal) * w (ix2 k d) := by
  pointwise [through]

/-- The gated sum, entry by entry. -/
theorem merged_apply (g : FVec Ideal S512x3072 .f32) (y0 y1 y2 : FVec Ideal S512x1024 .bf16) (w0 w1 w2 : Vec Ideal S1024x1024 .bf16) (r : Fin 512) (d : Fin 1024) :
    merged g y0 y1 y2 w0 w1 w2 (ix2 r d) = (g (ix2 r ⟨d, by omega⟩) : EReal) * through y0 w0 (ix2 r d)
      + (g (ix2 r ⟨1024 + d, by omega⟩) : EReal) * through y1 w1 (ix2 r d) + (g (ix2 r ⟨2048 + d, by omega⟩) : EReal) * through y2 w2 (ix2 r d) := by
  pointwise [merged]

/-- The rows before the norm, entry by entry. -/
theorem resid_apply (x : Vec Ideal S512x1024 .f32) (y : FVec Ideal S512x1024 .f32) (w : Vec Ideal S1024x1024 .bf16) (r : Fin 512) (d : Fin 1024) :
    resid x y w (ix2 r d) = Ideal.ofBits .f32 0x3FB504F3#32 * (x (ix2 r d) : EReal) + ∑ k : Fin 1024, (y (ix2 r k) : EReal) * w (ix2 k d) := by
  pointwise [resid, through]

variable (m : (ℓ : Loc nD τ sig) → Buf (Elt Ideal) ℓ)

/-- A grid point's rows before the norm. -/
def pointRows (c : Dev nD) (t : Fin cfg0.N) : FVec Ideal S512x1024 .f32 :=
  resid (iblk m c 7 t) (merged (gates (X0_6 m c t) (iblk m c 12 t))
    (rows (grid0.coords t) (iblk m c 0 t) (iblk m c 1 t)) (rows (grid0.coords t) (iblk m c 2 t) (iblk m c 3 t)) (rows (grid0.coords t) (iblk m c 4 t) (iblk m c 5 t))
    (iblk m c 8 t) (iblk m c 9 t) (iblk m c 10 t)) (iblk m c 11 t)

/-- What a grid point stores in the first result. -/
theorem stored (c : Dev nD) (t : Fin cfg0.N) (y : S512x1024.Idx) :
    (outsAt0 m c t).1 y = Cert.Kernel2Ideal.ValueMoe.normed (pointRows m c t) (iblk m c 13 t) (iblk m c 14 t) y := by
  unfold outsAt0
  frame_out
  rfl

/-- The rounded result is the same rows. -/
theorem stored' (c : Dev nD) (t : Fin cfg0.N) (y : S512x1024.Idx) : (outsAt0 m c t).2 y = (outsAt0 m c t).1 y := by
  unfold outsAt0
  frame_out
  rfl

/-! ## The blocks -/

/-- Which blocks a grid point works on. -/
theorem idx_val : ∀ t : Fin cfg0.N, win0_0.index t = ![min t.val 31, 0] ∧ win0_1.index t = ![t.val - 32, 0]
    ∧ win0_2.index t = ![min t.val 31, 0] ∧ win0_3.index t = ![t.val - 32, 0] ∧ win0_4.index t = ![min t.val 31, 0] ∧ win0_5.index t = ![t.val - 32, 0]
    ∧ win0_6.index t = ![t.val, 0] ∧ win0_7.index t = ![t.val, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![t.val, 0] ∧ win0_16.index t = ![t.val, 0] :=
  (by decide +kernel : ∀ t : Fin grid0.N, _)

/-- Which of its two blocks of a branch a grid point takes. -/
theorem rows_apply : ∀ (t : Fin cfg0.N) (p s : Vec Ideal S512x1024 .bf16), rows (grid0.coords t) p s = if t.val < 32 then p else s := by
  have e : ∀ t : Fin grid0.N, Scalar.cmpi .slt (BitVec.ofNat 32 ((grid0.coords t) 0).val) 32#32 = if t.val < 32 then 1#1 else 0#1 := by decide +kernel
  intro t p s
  unfold rows
  rw [e t]
  split_ifs <;> rfl

/-- The first branch's rows at a grid point, the prompt's. -/
theorem blk0 (c : Dev nD) (t : Fin cfg0.N) (i : Fin 512) (k : Fin 1024) (ht : t.val < 32) :
    iblk m c 0 t (ix2 i k) = m ((c : Thread nD τ).loc main_arg0) (ix2 ⟨t * 512 + i, by omega⟩ k) := by
  have e : min t.val 31 = t.val := by omega
  blk_ext [iblk, V, idx_val t, e]

/-- The first branch's rows at a grid point, the samples'. -/
theorem blk1 (c : Dev nD) (t : Fin cfg0.N) (i : Fin 512) (k : Fin 1024) (ht : t.val < 34) (h : ¬t.val < 32) :
    iblk m c 1 t (ix2 i k) = m ((c : Thread nD τ).loc main_arg1) (ix2 ⟨t * 512 + i - 16384, by omega⟩ k) := by
  blk_ext [iblk, V, idx_val t]

/-- The second branch's rows at a grid point, the prompt's. -/
theorem blk2 (c : Dev nD) (t : Fin cfg0.N) (i : Fin 512) (k : Fin 1024) (ht : t.val < 32) :
    iblk m c 2 t (ix2 i k) = m ((c : Thread nD τ).loc main_arg2) (ix2 ⟨t * 512 + i, by omega⟩ k) := by
  have e : min t.val 31 = t.val := by omega
  blk_ext [iblk, V, idx_val t, e]

/-- The second branch's rows at a grid point, the samples'. -/
theorem blk3 (c : Dev nD) (t : Fin cfg0.N) (i : Fin 512) (k : Fin 1024) (ht : t.val < 34) (h : ¬t.val < 32) :
    iblk m c 3 t (ix2 i k) = m ((c : Thread nD τ).loc main_arg3) (ix2 ⟨t * 512 + i - 16384, by omega⟩ k) := by
  blk_ext [iblk, V, idx_val t]

/-- The third branch's rows at a grid point, the prompt's. -/
theorem blk4 (c : Dev nD) (t : Fin cfg0.N) (i : Fin 512) (k : Fin 1024) (ht : t.val < 32) :
    iblk m c 4 t (ix2 i k) = m ((c : Thread nD τ).loc main_arg4) (ix2 ⟨t * 512 + i, by omega⟩ k) := by
  have e : min t.val 31 = t.val := by omega
  blk_ext [iblk, V, idx_val t, e]

/-- The third branch's rows at a grid point, the samples'. -/
theorem blk5 (c : Dev nD) (t : Fin cfg0.N) (i : Fin 512) (k : Fin 1024) (ht : t.val < 34) (h : ¬t.val < 32) :
    iblk m c 5 t (ix2 i k) = m ((c : Thread nD τ).loc main_arg5) (ix2 ⟨t * 512 + i - 16384, by omega⟩ k) := by
  blk_ext [iblk, V, idx_val t]

/-- The main projection's columns at a grid point. -/
theorem blk6 (c : Dev nD) (t : Fin cfg0.N) (i : Fin 512) (j : Fin 3072) (ht : t.val < 34) :
    X0_6 m c t (ix2 i j) = m ((c : Thread nD τ).loc main_arg6) (ix2 ⟨t * 512 + i, by omega⟩ ⟨j, by omega⟩) := by
  unfold X0_6 Pipeline.Window.fill
  rw [dif_pos (moved0_6 t _)]
  blk_ext [iblk, V, idx_val t]

/-- The residual's rows at a grid point. -/
theorem blk7 (c : Dev nD) (t : Fin cfg0.N) (i : Fin 512) (k : Fin 1024) (ht : t.val < 34) :
    iblk m c 7 t (ix2 i k) = m ((c : Thread nD τ).loc main_arg7) (ix2 ⟨t * 512 + i, by omega⟩ k) := by
  blk_ext [iblk, V, idx_val t]

/-- The first branch's output projection. -/
theorem blk8 (c : Dev nD) (t : Fin cfg0.N) (k d : Fin 1024) :
    iblk m c 8 t (ix2 k d) = m ((c : Thread nD τ).loc main_arg8) (ix3 0 k d) := by
  blk_simp [iblk, idx_val t]
  entry_read
  pointwise
  blk_ext [idx_val t]

/-- The second branch's output projection. -/
theorem blk9 (c : Dev nD) (t : Fin cfg0.N) (k d : Fin 1024) :
    iblk m c 9 t (ix2 k d) = m ((c : Thread nD τ).loc main_arg9) (ix3 0 k d) := by
  blk_simp [iblk, idx_val t]
  entry_read
  pointwise
  blk_ext [idx_val t]

/-- The third branch's output projection. -/
theorem blk10 (c : Dev nD) (t : Fin cfg0.N) (k d : Fin 1024) :
    iblk m c 10 t (ix2 k d) = m ((c : Thread nD τ).loc main_arg10) (ix3 0 k d) := by
  blk_simp [iblk, idx_val t]
  entry_read
  pointwise
  blk_ext [idx_val t]

/-- The last projection. -/
theorem blk11 (c : Dev nD) (t : Fin cfg0.N) (k d : Fin 1024) :
    iblk m c 11 t (ix2 k d) = m ((c : Thread nD τ).loc main_arg11) (ix3 0 k d) := by
  blk_simp [iblk, idx_val t]
  entry_read
  pointwise
  blk_ext [idx_val t]

/-- The gates' bias. -/
theorem blk12 (c : Dev nD) (t : Fin cfg0.N) (k : Fin 3072) :
    iblk m c 12 t (ix2 0 k) = m ((c : Thread nD τ).loc main_arg12) (ix2 0 k) := by
  blk_simp [iblk, idx_val t]
  entry_read
  pointwise
  blk_ext [idx_val t]

/-- The norm's scale. -/
theorem blk13 (c : Dev nD) (t : Fin cfg0.N) (k : Fin 1024) :
    iblk m c 13 t (ix2 0 k) = m ((c : Thread nD τ).loc main_arg13) (ix2 0 k) := by
  blk_simp [iblk, idx_val t]
  entry_read
  pointwise
  blk_ext [idx_val t]

/-- The norm's shift. -/
theorem blk14 (c : Dev nD) (t : Fin cfg0.N) (k : Fin 1024) :
    iblk m c 14 t (ix2 0 k) = m ((c : Thread nD τ).loc main_arg14) (ix2 0 k) := by
  blk_simp [iblk, idx_val t]
  entry_read
  pointwise
  blk_ext [idx_val t]

/-! ## The rows of a grid point are the reference's -/

/-- A branch's rows at a grid point are the joined rows. -/
theorem rows_joined (t : Fin cfg0.N) (ht : t.val < 34) (p s : Vec Ideal S512x1024 .bf16) (a : FVec Ideal S16384x1024 .bf16) (b : FVec Ideal S1024x1024 .bf16)
    (i : Fin 512) (k : Fin 1024) (hp : ∀ h : t.val < 32, p (ix2 i k) = a (ix2 ⟨t * 512 + i, by omega⟩ k))
    (hs : ∀ h : ¬t.val < 32, s (ix2 i k) = b (ix2 ⟨t * 512 + i - 16384, by omega⟩ k)) :
    rows (grid0.coords t) p s (ix2 i k) = Cert.Merge.joined a b ⟨t * 512 + i, by omega⟩ k := by
  rw [rows_apply]
  unfold Cert.Merge.joined
  by_cases h : t.val < 32
  · rw [if_pos h, dif_pos (show t.val * 512 + i.val < 16384 by omega)]
    exact hp h
  · rw [if_neg h, dif_neg (show ¬t.val * 512 + i.val < 16384 by omega)]
    exact hs h

/-- The first branch through its projection. -/
theorem first_out (c : Dev nD) (t : Fin cfg0.N) (ht : t.val < 34) (i : Fin 512) (d : Fin 1024) :
    through (rows (grid0.coords t) (iblk m c 0 t) (iblk m c 1 t)) (iblk m c 8 t) (ix2 i d)
      = Cert.Merge.out (Cert.Merge.joined (m ((c : Thread nD τ).loc main_arg0)) (m ((c : Thread nD τ).loc main_arg1)) ⟨t * 512 + i, by omega⟩) (m ((c : Thread nD τ).loc main_arg8)) d := by
  rw [through_apply]
  exact Finset.sum_congr rfl fun k _ => congrArg₂ (fun a b : EReal => a * b)
    (rows_joined t ht _ _ _ _ i k (blk0 m c t i k) (blk1 m c t i k ht)) (blk8 m c t k d)

/-- The second branch through its projection. -/
theorem second_out (c : Dev nD) (t : Fin cfg0.N) (ht : t.val < 34) (i : Fin 512) (d : Fin 1024) :
    through (rows (grid0.coords t) (iblk m c 2 t) (iblk m c 3 t)) (iblk m c 9 t) (ix2 i d)
      = Cert.Merge.out (Cert.Merge.joined (m ((c : Thread nD τ).loc main_arg2)) (m ((c : Thread nD τ).loc main_arg3)) ⟨t * 512 + i, by omega⟩) (m ((c : Thread nD τ).loc main_arg9)) d := by
  rw [through_apply]
  exact Finset.sum_congr rfl fun k _ => congrArg₂ (fun a b : EReal => a * b)
    (rows_joined t ht _ _ _ _ i k (blk2 m c t i k) (blk3 m c t i k ht)) (blk9 m c t k d)

/-- The third branch through its projection. -/
theorem third_out (c : Dev nD) (t : Fin cfg0.N) (ht : t.val < 34) (i : Fin 512) (d : Fin 1024) :
    through (rows (grid0.coords t) (iblk m c 4 t) (iblk m c 5 t)) (iblk m c 10 t) (ix2 i d)
      = Cert.Merge.out (Cert.Merge.joined (m ((c : Thread nD τ).loc main_arg4)) (m ((c : Thread nD τ).loc main_arg5)) ⟨t * 512 + i, by omega⟩) (m ((c : Thread nD τ).loc main_arg10)) d := by
  rw [through_apply]
  exact Finset.sum_congr rfl fun k _ => congrArg₂ (fun a b : EReal => a * b)
    (rows_joined t ht _ _ _ _ i k (blk4 m c t i k) (blk5 m c t i k ht)) (blk10 m c t k d)

/-- The gates of a grid point. -/
theorem gates_eq (c : Dev nD) (t : Fin cfg0.N) (ht : t.val < 34) (i : Fin 512) (j : Fin 3072) :
    gates (X0_6 m c t) (iblk m c 12 t) (ix2 i j)
      = Cert.Merge.gate (m ((c : Thread nD τ).loc main_arg6)) (m ((c : Thread nD τ).loc main_arg12)) ⟨t * 512 + i, by omega⟩ j := by
  rw [gates_apply, blk6 m c t i j ht, blk12 m c t j]
  rfl

/-- The rows before the norm, of a core's arguments. -/
abbrev argRows (c : Dev nD) : Fin 17408 → Fin 1024 → EReal :=
  Cert.Merge.resid (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))
    (m ((c : Thread nD τ).loc main_arg12))

/-- The rows of a grid point before the norm. -/
theorem pointRows_eq (c : Dev nD) (t : Fin cfg0.N) (ht : t.val < 34) (i : Fin 512) (d : Fin 1024) :
    pointRows m c t (ix2 i d) = argRows m c ⟨t * 512 + i, by omega⟩ d := by
  unfold pointRows argRows Cert.Merge.resid Cert.Merge.out
  rw [resid_apply, blk7 m c t i d ht]
  refine congrArg (fun s : EReal => Ideal.ofBits .f32 0x3FB504F3#32 * m ((c : Thread nD τ).loc main_arg7) (ix2 ⟨t * 512 + i, by omega⟩ d) + s)
    (Finset.sum_congr rfl fun k _ => congrArg₂ (fun a b : EReal => a * b) ?_ (blk11 m c t k d))
  rw [merged_apply, first_out m c t ht, second_out m c t ht, third_out m c t ht, gates_eq m c t ht, gates_eq m c t ht, gates_eq m c t ht]
  rfl

/-- What a grid point stores, in the arguments' coordinates. -/
theorem point (c : Dev nD) (t : Fin cfg0.N) (ht : t.val < 34) (i : Fin 512) (d : Fin 1024) :
    (outsAt0 m c t).1 (ix2 i d) = Cert.Moe.norm (argRows m c ⟨t * 512 + i, by omega⟩)
      (fun k => m ((c : Thread nD τ).loc main_arg13) (ix2 0 k)) (fun k => m ((c : Thread nD τ).loc main_arg14) (ix2 0 k)) d := by
  rw [stored, Cert.Kernel2Ideal.ValueMoe.normed_apply]
  congr 1
  · exact funext fun k => pointRows_eq m c t ht i k
  · exact funext fun k => blk13 m c t k
  · exact funext fun k => blk14 m c t k

/-! ## The arrays -/

/-- Where the first result's block lies. -/
theorem emb15 (t : Fin cfg0.N) (y : S512x1024.Idx) : ((win0_15.blk t).view.emb y 0).val = t.val * 512 + (y 0).val ∧ ((win0_15.blk t).view.emb y 1).val = (y 1).val :=
  ⟨by blk_simp [idx_val t], by blk_simp [idx_val t]⟩

/-- Where the second result's block lies. -/
theorem emb16 (t : Fin cfg0.N) (y : S512x1024.Idx) : ((win0_16.blk t).view.emb y 0).val = t.val * 512 + (y 0).val ∧ ((win0_16.blk t).view.emb y 1).val = (y 1).val :=
  ⟨by blk_simp [idx_val t], by blk_simp [idx_val t]⟩

/-- The kernel's first result is the reference's, of the same arguments. -/
theorem final15 (c : Dev nD) : (dats m 0 c).arrAt 15 (cfgs 0).N
    = Cert.Reference7Ideal.Read.val_main_v72 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (m ((c : Thread nD τ).loc main_arg9))
        (m ((c : Thread nD τ).loc main_arg10)) (m ((c : Thread nD τ).loc main_arg11)) (m ((c : Thread nD τ).loc main_arg12)) (m ((c : Thread nD τ).loc main_arg13))
        (m ((c : Thread nD τ).loc main_arg14)) := by
  refine (dats m 0 c).arrAt_eq_of_covers 15 _ (by decide +kernel) fun t hf y => ?_
  have ht : t.val < 34 := lt_of_lt_of_eq t.isLt N_0
  have hy0 : (y 0).val < 512 := (y 0).isLt
  have hy1 : (y 1).val < 1024 := (y 1).isLt
  blk_simp
  rw [after0_15, Cert.Kernel2Ideal.ValueMoe.at_row ((win0_15.blk t).view.emb y) ⟨t.val * 512 + (y 0).val, by omega⟩ ⟨(y 1).val, hy1⟩ (emb15 t y).1 (emb15 t y).2, Cert.Merge.result_apply]
  exact (congrArg (outsAt0 m c t).1 (Cert.Kernel2Ideal.ValueMoe.at_ix2 y)).trans (point m c t ht _ _)

/-- The kernel's second result is the reference's, of the same arguments. -/
theorem final16 (c : Dev nD) : (dats m 0 c).arrAt 16 (cfgs 0).N
    = Cert.Reference7Ideal.Read.val_main_v73 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (m ((c : Thread nD τ).loc main_arg9))
        (m ((c : Thread nD τ).loc main_arg10)) (m ((c : Thread nD τ).loc main_arg11)) (m ((c : Thread nD τ).loc main_arg12)) (m ((c : Thread nD τ).loc main_arg13))
        (m ((c : Thread nD τ).loc main_arg14)) := by
  refine (dats m 0 c).arrAt_eq_of_covers 16 _ (by decide +kernel) fun t hf y => ?_
  have ht : t.val < 34 := lt_of_lt_of_eq t.isLt N_0
  have hy0 : (y 0).val < 512 := (y 0).isLt
  have hy1 : (y 1).val < 1024 := (y 1).isLt
  blk_simp
  rw [after0_16, Cert.Kernel2Ideal.ValueMoe.at_row ((win0_16.blk t).view.emb y) ⟨t.val * 512 + (y 0).val, by omega⟩ ⟨(y 1).val, hy1⟩ (emb16 t y).1 (emb16 t y).2, Cert.Merge.rounded_apply]
  exact ((congrArg (outsAt0 m c t).2 (Cert.Kernel2Ideal.ValueMoe.at_ix2 y)).trans (stored' m c t _)).trans (point m c t ht _ _)

end Cert.Kernel7Ideal.ValueMerge

end
-- ==== Proof.AttPromptTile.lean ====
/- The prompt attention, one tile: the sixteen stores of the kernel all compute the same function of what they load. -/
module

public import proofs.«01_k».proof.Proof.Softmax
public import proofs.«01_k».proof.Proof.Gen.Kernel8Ideal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel8Ideal.ValueAtt

open Cert.Kernel8Ideal Cert.Kernel8Ideal.Gen

variable {F : FTy → Type} [FloatOps F] [Named F]

/-- Lanes below 64: the first head of a pair. -/
def firstHead : IVec S256x128 1 :=
  broadcastTo S256x128 (shapeCast S1x128 (cmpi .slt (iota .tc S1x128 32 [1] iota_S1x128_d1_w32) (broadcast S1x128 64#32))
    shapeCasts_S1x128_S1x128) broadcasts_S1x128_S256x128

/-- The scores of 256 queries against 768 keys, with the bias, and the mask's constant at the keys that do not count. -/
def scores (dead : IVec S1x768 1) (q : FVec F S256x128 .bf16) (k : FVec F S768x128 .bf16) (b : Vec F S1x256x768 .f32) : FVec F S256x768 .f32 :=
  select (broadcastTo S256x768 (shapeCast S1x768 dead shapeCasts_S1x768_S1x768) broadcasts_S1x768_S256x768)
    (broadcast S256x768 (Named.named κ "mask" (φ := .f32) 0xF149F2CA#32))
    (addf (matmul dot_S256x128_S768x128_S256x768_1_1_0_0_n_n none q k (constant S256x768 .f32 0x00000000#32))
      (shapeCast S256x768 b shapeCasts_S1x256x768_S256x768))

/-- The exponentials of the scores' distances from each row's greatest. -/
def exps (s : FVec F S256x768 .f32) : FVec F S256x768 .f32 :=
  exp (subf s (broadcastTo S256x768
    (shapeCast S256x1 (multiReduction .maximumf [1] S256 s 0xFF800000#32 reduces_S256x768_S256 (.inl rfl) rfl) shapeCasts_S256_S256x1)
    broadcasts_S256x1_S256x768))

/-- The values' average by the exponentials `e`. -/
def average (e : FVec F S256x768 .f32) (v : FVec F S768x128 .bf16) : FVec F S256x128 .f32 :=
  divf (matmul dot_S256x768_S768x128_S256x128_1_0_0_1_n_n none (truncf .bf16 e bitsLt_bf16_f32) v (constant S256x128 .f32 0x00000000#32))
    (broadcastTo S256x128
      (shapeCast S256x1 (multiReduction .add [1] S256 e 0x00000000#32 reduces_S256x768_S256 (.inl rfl) rfl) shapeCasts_S256_S256x1)
      broadcasts_S256x1_S256x128)

/-- One head's attention. -/
def headAtt (dead : IVec S1x768 1) (q : FVec F S256x128 .bf16) (k v : FVec F S768x128 .bf16) (b : Vec F S1x256x768 .f32) : FVec F S256x128 .f32 :=
  average (exps (scores dead q k b)) v

/-- One pair of heads: the first head's attention in its lanes and the second's in the others. -/
def pairAtt (dead : IVec S1x768 1) (q : Vec F S256x128 .bf16) (k v : Vec F S768x128 .bf16) (ba bb : Vec F S1x256x768 .f32) : FVec F S256x128 .bf16 :=
  truncf .bf16 (select firstHead
    (headAtt dead (select firstHead q (broadcast S256x128 (Scalar.ofBits .bf16 0x0000#16))) k v ba)
    (headAtt dead (select firstHead (broadcast S256x128 (Scalar.ofBits .bf16 0x0000#16)) q) k v bb)) bitsLt_bf16_f32

end Cert.Kernel8Ideal.ValueAtt

end
-- ==== Proof.AttPromptSpec.lean ====
/- The prompt attention at one entry: what the reference computes there, in coordinates. -/
module

public import proofs.«01_k».proof.Proof.Softmax
public import proofs.«01_k».proof.Proof.Gen.Reference8Ideal.Read

@[expose] public section

set_option maxRecDepth 16384

noncomputable section

open Idealize.ShloMosaic Idealize.ShloMosaic.TcCoe Idealize.SL.Sem

namespace Cert.AttPrompt

open Cert.Reference8Ideal Cert.Reference8Ideal.Gen Cert.Reference8Ideal.Read

/-- Lane `x` of head `h` in the columns from `o` of row `r` of prompt `b`, counted from 512 rows before the prompt's first: zero in
    those 512 rows. -/
def padded (qkv : FVec Ideal S17408x3072 .bf16) (o : ℕ) (ho : o ≤ 2048) (b : Fin 4) (r : Fin 4608) (h : Fin 16) (x : Fin 64) : EReal :=
  if 512 ≤ r.val then qkv (ix2 ⟨b * 4096 + (r - 512), by omega⟩ ⟨o + (h * 64 + x), by omega⟩) else 0

/-- The score of query `i` of chunk `c` of prompt `b` at head `h` against key `j` of the chunk's 576: minus infinity for a key before
    the prompt's first row. -/
def score (qkv : FVec Ideal S17408x3072 .bf16) (bias : FVec Ideal S16x256x768 .f32)
    (b : Fin 4) (c : Fin 64) (h : Fin 16) (i : Fin 64) (j : Fin 576) : EReal :=
  if 512 ≤ c.val * 64 + j.val then
    (∑ x : Fin 64, qkv (ix2 ⟨b * 4096 + (c * 64 + i), by omega⟩ ⟨h * 64 + x, by omega⟩) *
      padded qkv 1024 (by omega) b ⟨c * 64 + j, by omega⟩ h x) + bias (ix3 h ⟨i, by omega⟩ ⟨j, by omega⟩)
  else ⊥

/-- Lane `x` of the value of key `j` of the chunk's 576. -/
def value (qkv : FVec Ideal S17408x3072 .bf16) (b : Fin 4) (c : Fin 64) (h : Fin 16) (x : Fin 64) (j : Fin 576) : EReal :=
  padded qkv 2048 (by omega) b ⟨c * 64 + j, by omega⟩ h x

/-- A maximum over the last axis is the fold of `max` along it. -/
theorem hostMax_apply (v : FVec Ideal S4x64x16x64x576 .f32) (c : FVec Ideal S_ .f32) (j : S4x64x16x64.Idx) :
    Host.reduce FloatOps.maximumf v c reducesTo_S4x64x16x64x576_S4x64x16x64_d4 h_S_ j
      = Finset.univ.fold max (c (Shape.Idx.first h_S_)) fun k : Fin 576 => v (ix5 (j 0) (j 1) (j 2) (j 3) k) := by
  simp only [pointwise]

/-- Padding with the converted integer zero is padding with zero. -/
theorem zero_word (b : BitVec 32) (hb : b = 0#32) : (FloatOps.sitofp (F := Ideal) FTy.f32 b : EReal) = 0 := by
  subst hb
  show ((((0#32 : BitVec 32).toInt : ℝ)) : EReal) = 0
  simp

/-- The padded keys. -/
theorem keys_apply (x0 : FVec Ideal S17408x3072 .bf16) (b : Fin 4) (r : Fin 4608) (h : Fin 16) (x : Fin 64) :
    val_main_v6 (F := Ideal) x0 (ix4 b r h x) = padded x0 1024 (by omega) b r h x := by
  pointwise [val_main_v6, val_main_v5, val_main_v4, val_main_v1, val_main_v0, val_main_call0_v0, padded]
  by_cases hr : 512 ≤ r.val
  · rw [dif_pos ⟨hr, by omega⟩, if_pos hr]
  · rw [dif_neg fun e => hr e.1, if_neg hr]
    exact zero_word _ rfl

/-- The padded values. -/
theorem values_apply (x0 : FVec Ideal S17408x3072 .bf16) (b : Fin 4) (r : Fin 4608) (h : Fin 16) (x : Fin 64) :
    val_main_v10 (F := Ideal) x0 (ix4 b r h x) = padded x0 2048 (by omega) b r h x := by
  pointwise [val_main_v10, val_main_v9, val_main_v8, val_main_v1, val_main_v0, val_main_call1_v0, padded]
  by_cases hr : 512 ≤ r.val
  · rw [dif_pos ⟨hr, by omega⟩, if_pos hr]
  · rw [dif_neg fun e => hr e.1, if_neg hr]
    exact zero_word _ rfl

/-- The chunk's keys. -/
theorem keysOf_apply (x0 : FVec Ideal S17408x3072 .bf16) (b : Fin 4) (c : Fin 64) (j : Fin 576) (h : Fin 16) (x : Fin 64) :
    val_main_v21 (F := Ideal) x0 (ix5 b c j h x) = padded x0 1024 (by omega) b ⟨c * 64 + j, by omega⟩ h x := by
  pointwise [val_main_v21, val_main_v20, val_main_v19, val_main_v18, val_main_v17, val_main_v16, val_main_v15, val_main_v14,
    val_main_v13, val_main_v12, val_main_v7]
  simp only [keys_apply]
  split_ifs <;> exact congrArg (fun r => padded x0 1024 _ b r h x) (Fin.ext (by dsimp only <;> omega))

/-- The chunk's values. -/
theorem valuesOf_apply (x0 : FVec Ideal S17408x3072 .bf16) (j : S4x64x576x16x64.Idx) :
    val_main_v31 (F := Ideal) x0 j = value x0 (j 0) (j 1) (j 3) (j 4) (j 2) := by
  idx_vars j
  pointwise [val_main_v31, val_main_v30, val_main_v29, val_main_v28, val_main_v27, val_main_v26, val_main_v25, val_main_v24,
    val_main_v23, val_main_v22, val_main_v11]
  simp only [values_apply, value]
  split_ifs <;> exact congrArg (fun r => padded x0 2048 _ _ r _ _) (Fin.ext (by dsimp only <;> omega))

/-- Which keys of a chunk lie in the prompt, as the words compare. -/
theorem valid_word : ∀ (c : Fin 64) (j : Fin 576),
    IntOp.cmpi CmpIPredicate.sge (BitVec.ofNat 32 j.val) (IntOp.subi 512#32 (IntOp.muli (BitVec.ofNat 32 c.val) 64#32))
      = if 512 ≤ c.val * 64 + j.val then 1#1 else 0#1 := by
  decide +kernel

/-- Which keys of a chunk lie in the prompt. -/
theorem valid_apply (j : S4x64x16x64x576.Idx) :
    val_main_call2_v1 (F := Ideal) j = if 512 ≤ (j 1).val * 64 + (j 4).val then 1#1 else 0#1 := by
  rw [← valid_word (j 1) (j 4)]
  pointwise [val_main_call2_v1, val_main_v48, val_main_v47, val_main_v46, val_main_v45, val_main_v44, val_main_v43, val_main_v42,
    val_main_v41, val_main_v40, val_main_v39, val_main_v38, val_main_v37]
  rfl

/-- The reference's scores. -/
theorem score_apply (x0 : FVec Ideal S17408x3072 .bf16) (x1 : FVec Ideal S16x256x768 .f32) (b : Fin 4) (c : Fin 64) (h : Fin 16)
    (i : Fin 64) (j : Fin 576) : val_main_v49 (F := Ideal) x0 x1 (ix5 b c h i j) = score x0 x1 b c h i j := by
  have e : val_main_call2_v1 (F := Ideal) (ix5 b c h i j) = if 512 ≤ c.val * 64 + j.val then 1#1 else 0#1 := valid_apply _
  rw [val_main_v49_apply, e]
  unfold score
  by_cases hj : 512 ≤ c.val * 64 + j.val
  · rw [if_pos hj, if_pos hj]
    simp only [← keysOf_apply]
    pointwise [val_main_v36, val_main_v35, val_main_v34, val_main_v33, val_main_v32, val_main_v3, val_main_v2, val_main_v1,
      val_main_v0]
    simp only [Nat.add_assoc]
  · rw [if_neg hj, if_neg hj, val_main_call2_v2_apply, val_main_call2_v0_apply, val_main_cst_apply, Ideal.ofBits_def,
      Softmax.ofBits_neg_inf]
    rfl

/-- The reference's greatest scores. -/
theorem top_apply (x0 : FVec Ideal S17408x3072 .bf16) (x1 : FVec Ideal S16x256x768 .f32) (j : S4x64x16x64.Idx) :
    val_main_v52 (F := Ideal) x0 x1 j = Softmax.top (score x0 x1 (j 0) (j 1) (j 2) (j 3)) := by
  rw [val_main_v52_apply, val_main_v51_apply, val_main_cst_4_apply, Ideal.maximumf_def, Ideal.ofBits_def, Softmax.ofBits_neg_inf,
    max_eq_right bot_le]
  unfold val_main_v50 Softmax.top
  rw [hostMax_apply, val_main_cst_3_apply, Ideal.ofBits_def, Softmax.ofBits_neg_inf]
  exact Finset.fold_congr fun k _ => score_apply x0 x1 _ _ _ _ _

/-- The reference's exponentials. -/
theorem weight_apply (x0 : FVec Ideal S17408x3072 .bf16) (x1 : FVec Ideal S16x256x768 .f32) (b : Fin 4) (c : Fin 64) (h : Fin 16)
    (i : Fin 64) (j : Fin 576) : val_main_v56 (F := Ideal) x0 x1 (ix5 b c h i j) = Softmax.weight (score x0 x1 b c h i) j := by
  rw [val_main_v56_apply, val_main_v55_apply, val_main_v54_apply, val_main_v53_apply, top_apply, score_apply]
  rfl

/-- The reference at row `r` and column `k`: the softmax average of its prompt, chunk and head. -/
theorem result_apply (x0 : FVec Ideal S17408x3072 .bf16) (x1 : FVec Ideal S16x256x768 .f32)
    (j : S16384x1024.Idx) (r : Fin 16384) (k : Fin 1024) (hr : j 0 = r) (hk : j 1 = k) :
    val_main_v64 (F := Ideal) x0 x1 j
      = Softmax.mean (score x0 x1 ⟨r / 4096, by omega⟩ ⟨r / 64 % 64, by omega⟩ ⟨k / 64, by omega⟩ ⟨r % 64, by omega⟩)
          (value x0 ⟨r / 4096, by omega⟩ ⟨r / 64 % 64, by omega⟩ ⟨k / 64, by omega⟩ ⟨k % 64, by omega⟩) := by
  subst hr hk
  pointwise [val_main_v64, val_main_v63, val_main_v62, val_main_v61, val_main_v60, val_main_v59, val_main_v58, val_main_v57]
  simp only [val_main_cst_5_apply, Ideal.ofBits_def, Ideal.ofBits_zero_f32, zero_add, weight_apply, valuesOf_apply]
  rfl

end Cert.AttPrompt

end
-- ==== Proof.AttPromptValue.lean ====
/- The prompt attention: what the kernel leaves in its result is the softmax average that the reference computes. -/
module

public import proofs.«01_k».proof.Proof.AttPromptTile
public import proofs.«01_k».proof.Proof.AttPromptSpec

@[expose] public section

set_option maxRecDepth 16384

noncomputable section

open Idealize.ShloMosaic Idealize.ShloMosaic.TcCoe Idealize.SL.Sem
open Idealize.ShloMosaic.Pipeline (Dat)

namespace Cert.Kernel8Ideal.ValueAtt

open Cert.Kernel8Ideal Cert.Kernel8Ideal.Gen Cert.AttPrompt

/-- Two pairs of coordinates of equal values are one index. -/
theorem ix2_congr {a b : ℕ} {i i' : Fin a} {j j' : Fin b} (hi : i.val = i'.val) (hj : j.val = j'.val) : ix2 i j = ix2 i' j' := by
  rw [Fin.ext hi, Fin.ext hj]

/-- Three pairs of coordinates of equal values are one index. -/
theorem ix3_congr {a b c : ℕ} {h h' : Fin a} {i i' : Fin b} {j j' : Fin c} (hh : h.val = h'.val) (hi : i.val = i'.val) (hj : j.val = j'.val) :
    ix3 h i j = ix3 h' i' j' := by
  rw [Fin.ext hh, Fin.ext hi, Fin.ext hj]

/-- One score of a tile: minus infinity at a key that does not count. -/
theorem scores_apply (dead : IVec S1x768 1) (q : FVec Ideal S256x128 .bf16) (k : FVec Ideal S768x128 .bf16) (b : Vec Ideal S1x256x768 .f32)
    (i : Fin 256) (j : Fin 768) :
    scores dead q k b (ix2 i j)
      = Scalar.select (dead (ix2 0 j)) (⊥ : EReal) ((∑ x : Fin 128, (q (ix2 i x) : EReal) * (k (ix2 j x) : EReal)) + (b (ix3 0 i j) : EReal)) := by
  pointwise [scores]
  rw [IdealRules.named_const.ideal_named_scalar κ "mask" _ ⊥ rfl]

/-- One head's tile at row `i` and lane `l`, in terms of its scores. -/
theorem headAtt_apply (dead : IVec S1x768 1) (q : FVec Ideal S256x128 .bf16) (k v : FVec Ideal S768x128 .bf16) (b : Vec Ideal S1x256x768 .f32)
    (i : Fin 256) (l : Fin 128) :
    headAtt dead q k v b (ix2 i l) =
      Ideal.div
        (∑ x, Ideal.exp (scores dead q k b (ix2 i x) - Softmax.top fun x => scores dead q k b (ix2 i x)) * v (ix2 x l))
        (∑ x, Ideal.exp (scores dead q k b (ix2 i x) - Softmax.top fun x => scores dead q k b (ix2 i x))) := by
  unfold headAtt
  generalize scores dead q k b = s
  pointwise [average, exps]
  simp only [Softmax.ofBits_neg_inf]
  rfl

/-- A product over a pair's 128 lanes whose first factor is zero off the first head's lanes. -/
theorem sum_first (f g : Fin 128 → EReal) : (∑ x : Fin 128, (if x.val < 64 then f x else 0) * g x)
    = ∑ x : Fin 64, f ⟨x, by omega⟩ * g ⟨x, by omega⟩ := by
  rw [Softmax.sum_append (a := 64) (b := 64) rfl]
  simp

/-- A product over a pair's 128 lanes whose first factor is zero on the first head's lanes. -/
theorem sum_second (f g : Fin 128 → EReal) : (∑ x : Fin 128, (if x.val < 64 then 0 else f x) * g x)
    = ∑ x : Fin 64, f ⟨64 + x, by omega⟩ * g ⟨64 + x, by omega⟩ := by
  rw [Softmax.sum_append (a := 64) (b := 64) rfl]
  simp

/-- The first head's lanes are those below 64. -/
theorem select_firstHead {φ : FTy} (a b : FVec Ideal S256x128 φ) (i : Fin 256) (l : Fin 128) :
    select firstHead a b (ix2 i l) = if l.val < 64 then a (ix2 i l) else b (ix2 i l) := by
  have e : select firstHead a b (ix2 i l)
      = Scalar.select (IntOp.cmpi .slt (BitVec.ofNat 32 l.val) 64#32) (a (ix2 i l)) (b (ix2 i l)) := by
    pointwise [firstHead]
  have key : ∀ l : Fin 128, IntOp.cmpi .slt (BitVec.ofNat 32 l.val) 64#32 = if l.val < 64 then 1#1 else 0#1 := by decide
  rw [e, key l]
  by_cases hl : l.val < 64
  · simp only [if_pos hl]; rfl
  · simp only [if_neg hl]; rfl

/-- The bias is banded: the rows of the first chunk, moved by 64 keys for each further chunk, and minus infinity elsewhere. -/
abbrev Banded (bias : FVec Ideal S16x256x768 .f32) : Prop :=
  ∀ (h : Fin 16) (i : Fin 256) (k : Fin 768), bias (ix3 h i k)
    = if hk : 64 * (i.val / 64) ≤ k.val ∧ k.val < 64 * (i.val / 64) + 576 then
        bias (ix3 h ⟨i.val % 64, by omega⟩ ⟨k.val - 64 * (i.val / 64), by omega⟩) else (⊥ : EReal)

/-- The scores do not reach infinity, and each query has a key whose score is finite. -/
abbrev Proper (qkv : FVec Ideal S17408x3072 .bf16) (bias : FVec Ideal S16x256x768 .f32) : Prop :=
  ∀ b c h i, (∀ j, score qkv bias b c h i j ≠ ⊤) ∧ ∃ j, score qkv bias b c h i j ≠ ⊥

/-- What a tile loads: the queries of 256 rows, the keys and values of the 768 rows that begin 512 rows before them, of one pair of
    heads, and which of those rows lie before the prompt. -/
structure Loaded (qkv : FVec Ideal S17408x3072 .bf16) (B : Fin 4) (T : Fin 8) (S : Fin 2) (P : Fin 8) (dead : IVec S1x768 1)
    (q : Vec Ideal S256x128 .bf16) (k v : Vec Ideal S768x128 .bf16) : Prop where
  dead_eq : ∀ j : Fin 768, dead (ix2 0 j) = if 512 ≤ T.val * 512 + S.val * 256 + j.val then 0#1 else 1#1
  q_eq : ∀ (i : Fin 256) (l : Fin 128),
    q (ix2 i l) = qkv (ix2 ⟨B * 4096 + (T * 512 + S * 256 + i), by omega⟩ ⟨P * 128 + l, by omega⟩)
  k_eq : ∀ (j : Fin 768) (l : Fin 128), 512 ≤ T.val * 512 + S.val * 256 + j.val →
    k (ix2 j l) = qkv (ix2 ⟨B * 4096 + (T * 512 + S * 256 + j - 512), by omega⟩ ⟨1024 + (P * 128 + l), by omega⟩)
  v_eq : ∀ (j : Fin 768) (l : Fin 128), 512 ≤ T.val * 512 + S.val * 256 + j.val →
    v (ix2 j l) = qkv (ix2 ⟨B * 4096 + (T * 512 + S * 256 + j - 512), by omega⟩ ⟨2048 + (P * 128 + l), by omega⟩)

/-- One half of a pair is the softmax average of its head. -/
theorem half_eq (qkv : FVec Ideal S17408x3072 .bf16) (bias : FVec Ideal S16x256x768 .f32) (hband : Banded bias) (hprop : Proper qkv bias)
    (B : Fin 4) (T : Fin 8) (S : Fin 2) (P : Fin 8) (dead : IVec S1x768 1)
    (q : Vec Ideal S256x128 .bf16) (k v : Vec Ideal S768x128 .bf16) (ld : Loaded qkv B T S P dead q k v)
    (h : Fin 16) (p : Fin 2) (hh : h.val = 2 * P + p) (i : Fin 256) (z : Fin 64) (l : Fin 128) (hl : l.val = 64 * p + z)
    (c : Fin 64) (hc : c.val = T * 8 + S * 4 + i / 64) (i' : Fin 64) (hi : i'.val = i % 64)
    (q' : FVec Ideal S256x128 .bf16) (b : Vec Ideal S1x256x768 .f32) (hb : ∀ (i : Fin 256) (j : Fin 768), b (ix3 0 i j) = bias (ix3 h i j))
    (hq' : ∀ g : Fin 128 → EReal, (∑ x, (q' (ix2 i x) : EReal) * g x)
      = ∑ x : Fin 64, (q (ix2 i ⟨64 * p + x, by omega⟩) : EReal) * g ⟨64 * p + x, by omega⟩) :
    headAtt dead q' k v b (ix2 i l) = Softmax.mean (score qkv bias B c h i') (value qkv B c h z) := by
  rw [headAtt_apply]
  refine Softmax.mean_run (n := 576) (64 * (i.val / 64)) (by omega) _ _ (hprop B c h i').1 (hprop B c h i').2
    (fun x => scores dead q' k b (ix2 i x)) (fun x => v (ix2 x l)) (fun j => ?_) (fun j hj => ?_) (fun j hj => ?_)
  · rw [scores_apply, ld.dead_eq]
    unfold score
    by_cases hv : 512 ≤ c.val * 64 + j.val
    · rw [if_pos hv, if_pos (by dsimp only; omega), hb, hq' fun x => k (ix2 _ x), hband, dif_pos (by dsimp only; omega)]
      refine congrArg₂ (fun a b : EReal => a + b) (Finset.sum_congr rfl fun x _ => ?_) (congrArg bias (ix3_congr rfl (by dsimp only; omega) (by dsimp only; omega)))
      rw [ld.q_eq, ld.k_eq _ _ (by dsimp only; omega), padded, if_pos (by dsimp only; omega)]
      exact congrArg₂ (fun a b : EReal => a * b) (congrArg qkv (ix2_congr (by dsimp only; omega) (by dsimp only; omega)))
        (congrArg qkv (ix2_congr (by dsimp only; omega) (by dsimp only; omega)))
    · rw [if_neg hv, if_neg (by dsimp only; omega)]
      rfl
  · rw [scores_apply, hb, hband, dif_neg hj, EReal.add_bot]
    exact ite_self _
  · have hv : 512 ≤ c.val * 64 + j.val := by
      by_contra hv
      exact hj (if_neg hv)
    rw [ld.v_eq _ _ (by dsimp only; omega), value, padded, if_pos hv]
    exact congrArg qkv (ix2_congr (by dsimp only; omega) (by dsimp only; omega))

/-- One tile is the softmax average of its pair of heads, from what its loads hold. -/
theorem pairAtt_eq (qkv : FVec Ideal S17408x3072 .bf16) (bias : FVec Ideal S16x256x768 .f32) (hband : Banded bias) (hprop : Proper qkv bias)
    (B : Fin 4) (T : Fin 8) (S : Fin 2) (P : Fin 8) (dead : IVec S1x768 1)
    (q : Vec Ideal S256x128 .bf16) (k v : Vec Ideal S768x128 .bf16) (ba bb : Vec Ideal S1x256x768 .f32) (ld : Loaded qkv B T S P dead q k v)
    (hba : ∀ (i : Fin 256) (j : Fin 768), ba (ix3 0 i j) = bias (ix3 ⟨2 * P, by omega⟩ i j))
    (hbb : ∀ (i : Fin 256) (j : Fin 768), bb (ix3 0 i j) = bias (ix3 ⟨2 * P + 1, by omega⟩ i j))
    (x : S256x128.Idx) (i : Fin 256) (l : Fin 128) (hxi : x 0 = i) (hxl : x 1 = l) (c : Fin 64) (hc : c.val = T * 8 + S * 4 + i / 64)
    (i' : Fin 64) (hi : i'.val = i % 64) (h : Fin 16) (z : Fin 64) (hh : h.val = 2 * P + l / 64) (hz : z.val = l % 64) :
    pairAtt dead q k v ba bb x = Softmax.mean (score qkv bias B c h i') (value qkv B c h z) := by
  obtain rfl : x = ix2 i l := by
    subst hxi hxl
    funext a; fin_cases a <;> rfl
  have e : pairAtt dead q k v ba bb (ix2 i l) = if l.val < 64
      then headAtt dead (select firstHead q (broadcast S256x128 (Scalar.ofBits .bf16 0x0000#16))) k v ba (ix2 i l)
      else headAtt dead (select firstHead (broadcast S256x128 (Scalar.ofBits .bf16 0x0000#16)) q) k v bb (ix2 i l) :=
    select_firstHead _ _ i l
  have zero : ∀ (i : Fin 256) (l : Fin 128), (broadcast S256x128 (Scalar.ofBits (F := Ideal) .bf16 0x0000#16) : FVec Ideal S256x128 .bf16) (ix2 i l) = 0 :=
    fun i l => Ideal.ofBits_zero_bf16
  rw [e]
  by_cases hl : l.val < 64
  · have eh : (⟨2 * P, by omega⟩ : Fin 16) = h := Fin.ext (by simp only; omega)
    rw [if_pos hl]
    rw [eh] at hba
    refine half_eq qkv bias hband hprop B T S P dead q k v ld h 0 (by simp only [Fin.val_zero]; omega) i z l (by simp only [Fin.val_zero]; omega)
      c hc i' hi _ ba hba (fun g => ?_)
    simp only [select_firstHead, zero]
    rw [sum_first (fun x => q (ix2 i x)) g]
    simp
  · have eh : (⟨2 * P + 1, by omega⟩ : Fin 16) = h := Fin.ext (by simp only; omega)
    rw [if_neg hl]
    rw [eh] at hbb
    refine half_eq qkv bias hband hprop B T S P dead q k v ld h 1 (by simp only [Fin.val_one]; omega) i z l (by simp only [Fin.val_one]; omega)
      c hc i' hi _ bb hbb (fun g => ?_)
    simp only [select_firstHead, zero]
    rw [sum_second (fun x => q (ix2 i x)) g]
    simp

variable (m : (ℓ : Loc nD τ sig) → Buf (Elt Ideal) ℓ)

/-- Which block of each operand a grid point works on. -/
theorem idx_val : ∀ t : Fin cfg0.N, win0_0.index t = ![t.val, 0] ∧ win0_1.index t = ![t.val / 8 * 8 + (t.val % 8 - 1), 1]
    ∧ win0_2.index t = ![t.val, 1] ∧ win0_3.index t = ![t.val / 8 * 8 + (t.val % 8 - 1), 2] ∧ win0_4.index t = ![t.val, 2]
    ∧ win0_5.index t = ![0, 0, 0] ∧ win0_6.index t = ![t.val, 0] :=
  (by decide +kernel : ∀ t : Fin grid0.N, _)

/-- The query block of a grid point. -/
theorem blk0 (c : Dev nD) (t : Fin cfg0.N) (ht : t.val < 32) (i : Fin 512) (l : Fin 1024) :
    iblk m c 0 t (ix2 i l) = m ((c : Thread nD τ).loc main_arg0) (ix2 ⟨t * 512 + i, by omega⟩ ⟨l, by omega⟩) := by
  blk_ext [iblk, V, idx_val t]

/-- The block of the keys before a grid point's rows (at a prompt's first point, of the point's own). -/
theorem blk1 (c : Dev nD) (t : Fin cfg0.N) (ht : t.val < 32) (i : Fin 512) (l : Fin 1024) :
    iblk m c 1 t (ix2 i l) = m ((c : Thread nD τ).loc main_arg0) (ix2 ⟨(t / 8 * 8 + (t % 8 - 1)) * 512 + i, by omega⟩ ⟨1024 + l, by omega⟩) := by
  blk_ext [iblk, V, idx_val t]

/-- The block of the keys of a grid point's rows. -/
theorem blk2 (c : Dev nD) (t : Fin cfg0.N) (ht : t.val < 32) (i : Fin 512) (l : Fin 1024) :
    iblk m c 2 t (ix2 i l) = m ((c : Thread nD τ).loc main_arg0) (ix2 ⟨t * 512 + i, by omega⟩ ⟨1024 + l, by omega⟩) := by
  blk_ext [iblk, V, idx_val t]

/-- The block of the values before a grid point's rows (at a prompt's first point, of the point's own). -/
theorem blk3 (c : Dev nD) (t : Fin cfg0.N) (ht : t.val < 32) (i : Fin 512) (l : Fin 1024) :
    iblk m c 3 t (ix2 i l) = m ((c : Thread nD τ).loc main_arg0) (ix2 ⟨(t / 8 * 8 + (t % 8 - 1)) * 512 + i, by omega⟩ ⟨2048 + l, by omega⟩) := by
  blk_ext [iblk, V, idx_val t]

/-- The block of the values of a grid point's rows. -/
theorem blk4 (c : Dev nD) (t : Fin cfg0.N) (ht : t.val < 32) (i : Fin 512) (l : Fin 1024) :
    iblk m c 4 t (ix2 i l) = m ((c : Thread nD τ).loc main_arg0) (ix2 ⟨t * 512 + i, by omega⟩ ⟨2048 + l, by omega⟩) := by
  blk_ext [iblk, V, idx_val t]

/-- The bias block of a grid point. -/
theorem blk5 (c : Dev nD) (t : Fin cfg0.N) (h : Fin 16) (i : Fin 256) (j : Fin 768) :
    iblk m c 5 t (ix3 h i j) = m ((c : Thread nD τ).loc main_arg1) (ix3 h i j) := by
  blk_ext [iblk, V, idx_val t]

/-- The second grid coordinate counts the points of one prompt. -/
theorem coord_val : ∀ t : Fin cfg0.N, ((grid0.coords t) 1).val = t.val % 8 :=
  (by decide +kernel : ∀ t : Fin grid0.N, _)

/-- The first 256 rows' keys before the prompt, as the words compare. -/
theorem dead_word0 : ∀ (T : Fin 8) (j : Fin 768),
    IntOp.andi (IntOp.cmpi .slt (IntOp.addi (BitVec.ofNat 32 j.val) 0#32) 512#32) (IntOp.cmpi .eq (BitVec.ofNat 32 T.val) 0#32)
      = if 512 ≤ T.val * 512 + 0 * 256 + j.val then 0#1 else 1#1 := by
  decide +kernel

/-- The last 256 rows' keys before the prompt, as the words compare. -/
theorem dead_word1 : ∀ (T : Fin 8) (j : Fin 768),
    IntOp.andi (IntOp.cmpi .slt (IntOp.addi (BitVec.ofNat 32 j.val) 256#32) 512#32) (IntOp.cmpi .eq (BitVec.ofNat 32 T.val) 0#32)
      = if 512 ≤ T.val * 512 + 1 * 256 + j.val then 0#1 else 1#1 := by
  decide +kernel

/-- The first 256 rows' keys before the prompt. -/
theorem dead0 (t : Fin cfg0.N) (j : Fin 768) (S : ℕ) (hS : S = 0) :
    k0_pay6 (grid0.coords t) (ix2 0 j) = if 512 ≤ t.val % 8 * 512 + S * 256 + j.val then 0#1 else 1#1 := by
  subst hS
  rw [← dead_word0 ⟨t.val % 8, by omega⟩ j]
  pointwise [k0_pay6]
  rw [coord_val t]
  rfl

/-- The last 256 rows' keys before the prompt. -/
theorem dead1 (t : Fin cfg0.N) (j : Fin 768) (S : ℕ) (hS : S = 1) :
    k0_pay54 (BitVec.ofNat 32 ((grid0.coords t) 1).val) k0_pay53 (ix2 0 j)
      = if 512 ≤ t.val % 8 * 512 + S * 256 + j.val then 0#1 else 1#1 := by
  subst hS
  rw [← dead_word1 ⟨t.val % 8, by omega⟩ j, coord_val t]
  pointwise [k0_pay54, k0_pay53]
  rfl

/-- The row of the scratch that a load's row is. -/
theorem load_row (o p : ℕ) (inb : ∀ a, (![o, p] : Fin 2 → ℕ) a + (![768, 128] : Fin 2 → ℕ) a ≤ S1024x1024.size a) (j : Fin 768) (l : Fin 128) :
    ((Rect.unit (s := S1024x1024) ![o, p] ![768, 128] inb).idx (ix2 j l) 0).val = o + j.val := by
  show o + 1 * j.val = _
  omega

/-- The column of the scratch that a load's column is. -/
theorem load_col (o p : ℕ) (inb : ∀ a, (![o, p] : Fin 2 → ℕ) a + (![768, 128] : Fin 2 → ℕ) a ≤ S1024x1024.size a) (j : Fin 768) (l : Fin 128) :
    ((Rect.unit (s := S1024x1024) ![o, p] ![768, 128] inb).idx (ix2 j l) 1).val = p + l.val := by
  show p + 1 * l.val = _
  omega

/-- An index of a block is its two coordinates. -/
theorem at_block (w : S512x1024.Idx) : w = ix2 (w 0) (w 1) := by
  funext a; fin_cases a <;> rfl

set_option maxHeartbeats 4000000 in
/-- What one grid point leaves in its output block: the softmax averages of its rows. -/
theorem point (c : Dev nD) (t : Fin cfg0.N) (ht : t.val < 32) (y : S512x1024.Idx) (hy0 : (y 0).val < 512) (hy1 : (y 1).val < 1024)
    (hband : Banded (m ((c : Thread nD τ).loc main_arg1))) (hprop : Proper (m ((c : Thread nD τ).loc main_arg0)) (m ((c : Thread nD τ).loc main_arg1)))
    (C : Fin 64) (hC : C.val = t.val % 8 * 8 + (y 0).val / 64) (I : Fin 64) (hI : I.val = (y 0).val % 64)
    (H : Fin 16) (hH : H.val = (y 1).val / 64) (Z : Fin 64) (hZ : Z.val = (y 1).val % 64) :
    outsAt0 m c t y
      = Softmax.mean (score (m ((c : Thread nD τ).loc main_arg0)) (m ((c : Thread nD τ).loc main_arg1)) ⟨t / 8, by omega⟩ C H I)
          (value (m ((c : Thread nD τ).loc main_arg0)) ⟨t / 8, by omega⟩ C H Z) := by
  unfold outsAt0
  frame_out
  simp only [View.readCov_eq_canon']
  have eC : C.val = t.val % 8 * 8 + (y 0).val / 256 * 4 + (y 0).val % 256 / 64 := by omega
  have eI : I.val = (y 0).val % 256 % 64 := by omega
  have eH : H.val = 2 * ((y 1).val / 128) + (y 1).val % 128 / 64 := by omega
  have eZ : Z.val = (y 1).val % 128 % 64 := by omega
  clear hC hI hH hZ
  canon_tiles x g
  all_goals
    refine pairAtt_eq _ _ hband hprop ⟨t / 8, by omega⟩ ⟨t % 8, by omega⟩ ⟨(y 0).val / 256, by omega⟩ ⟨(y 1).val / 128, by omega⟩ _ _ _ _ _ _
      ⟨fun j => ?_, fun i l => ?_, fun j l hv => ?_, fun j l hv => ?_⟩ (fun i j => ?_) (fun i j => ?_) x ⟨(y 0).val % 256, by omega⟩ ⟨(y 1).val % 128, by omega⟩
      (Fin.ext (show (x 0).val = (y 0).val % 256 by omega)) (Fin.ext (show (x 1).val = (y 1).val % 128 by omega)) C eC I eI H Z eH eZ
    · first
        | rw [dead0 t j ((y 0).val / 256) (by omega)]
        | rw [dead1 t j ((y 0).val / 256) (by omega)]
    · pointwise; rw [blk0 m c t ht]; exact congrArg (m _) (ix2_congr (by dsimp only; omega) (by dsimp only; omega))
    · change 512 ≤ t.val % 8 * 512 + (y 0).val / 256 * 256 + j.val at hv
      show View.canon _ _ = _
      canon_tiles w f
      all_goals rw [load_row] at f0; rw [load_col] at f1
      on_goal 1 => pointwise [k0_pay4]; refine (congrArg (iblk m c 2 t) (at_block w)).trans ((blk2 m c t ht (w 0) (w 1)).trans ?_)
      on_goal 2 => pointwise [k0_pay2]; refine (congrArg (iblk m c 1 t) (at_block w)).trans ((blk1 m c t ht (w 0) (w 1)).trans ?_)
      all_goals exact congrArg (m _) (ix2_congr (by dsimp only; omega) (by dsimp only; omega))
    · change 512 ≤ t.val % 8 * 512 + (y 0).val / 256 * 256 + j.val at hv
      show View.canon _ _ = _
      canon_tiles w f
      all_goals rw [load_row] at f0; rw [load_col] at f1
      on_goal 1 => pointwise [k0_pay5]; refine (congrArg (iblk m c 4 t) (at_block w)).trans ((blk4 m c t ht (w 0) (w 1)).trans ?_)
      on_goal 2 => pointwise [k0_pay3]; refine (congrArg (iblk m c 3 t) (at_block w)).trans ((blk3 m c t ht (w 0) (w 1)).trans ?_)
      all_goals exact congrArg (m _) (ix2_congr (by dsimp only; omega) (by dsimp only; omega))
    · pointwise; rw [blk5 m c t]; exact congrArg (m _) (ix3_congr (by dsimp only; omega) rfl rfl)
    · pointwise; rw [blk5 m c t]; exact congrArg (m _) (ix3_congr (by dsimp only; omega) rfl rfl)

/-- The row of the result that a block's row is. -/
theorem emb6_row (t : Fin cfg0.N) (y : S512x1024.Idx) : ((win0_6.blk t).view.emb y 0).val = t.val * 512 + (y 0).val := by
  blk_simp [idx_val t]

/-- The column of the result that a block's column is. -/
theorem emb6_col (t : Fin cfg0.N) (y : S512x1024.Idx) : ((win0_6.blk t).view.emb y 1).val = (y 1).val := by
  blk_simp [idx_val t]

/-- The kernel's result is the reference's, of the same arguments. -/
theorem final (c : Dev nD) (hband : Banded (m ((c : Thread nD τ).loc main_arg1)))
    (hprop : Proper (m ((c : Thread nD τ).loc main_arg0)) (m ((c : Thread nD τ).loc main_arg1))) : (dats m 0 c).arrAt 6 (cfgs 0).N
    = Cert.Reference8Ideal.Read.val_main_v64 (F := Ideal) (m ((c : Thread nD τ).loc main_arg0)) (m ((c : Thread nD τ).loc main_arg1)) := by
  refine (dats m 0 c).arrAt_eq_of_covers 6 _ (by decide +kernel) fun t _ y => ?_
  have ht : t.val < 32 := lt_of_lt_of_eq t.isLt N_0
  have hy0 : (y 0).val < 512 := (y 0).isLt
  have hy1 : (y 1).val < 1024 := (y 1).isLt
  blk_simp
  rw [after0_6, result_apply _ _ _ ⟨t * 512 + (y 0).val, by omega⟩ ⟨(y 1).val, hy1⟩ (Fin.ext (emb6_row t y)) (Fin.ext (emb6_col t y))]
  have eB : (⟨(t.val * 512 + (y 0).val) / 4096, by omega⟩ : Fin 4) = ⟨t.val / 8, by omega⟩ := Fin.ext (by dsimp only; omega)
  dsimp only
  rw [eB]
  exact point m c t ht y hy0 hy1 hband hprop _ (by dsimp only; omega) _ (by dsimp only; omega) _ rfl _ rfl

end Cert.Kernel8Ideal.ValueAtt

end
-- ==== Proof.BandSpec.lean ====
/- The bias table of the attention at one entry: what the reference computes there, in coordinates. -/
module

public import proofs.«01_k».proof.Proof.Softmax
public import proofs.«01_k».proof.Proof.Gen.Reference9Ideal.Read
public import Idealize.ShloMosaic.Lib.Pipeline.ValueKit
public import Idealize.ShloMosaic.Lib.Pointwise
public import Idealize.ShloMosaic.Lib.KernelVsHost

@[expose] public section

set_option maxRecDepth 16384

noncomputable section

open Idealize.ShloMosaic Idealize.ShloMosaic.TcCoe Idealize.SL.Sem

namespace Cert.Band

open Cert.Reference9Ideal Cert.Reference9Ideal.Gen Cert.Reference9Ideal.Read

/-- The bias of head `h` for query row `i` of 256 and key `k` of 768: within the band of 576 keys that the row's chunk of 64 sees, the
    layer-0 table's entry at the distance of the two, cut off at 128 both ways; minus infinity off the band. -/
def bias (table : FVec Ideal S2x16x257 .f32) (h : Fin 16) (i : Fin 256) (k : Fin 768) : EReal :=
  if 64 * (i.val / 64) ≤ k.val ∧ k.val < 64 * (i.val / 64) + 576 then
    table (ix3 0 h ⟨min (640 + i.val - k.val) 256, by omega⟩) else (⊥ : EReal)

/-- A row of the reference's lookup: entry `(h, i, j)` is head `h`'s entry at the index that `idx` holds at `(i, j)`. -/
theorem gather_at (x : FVec Ideal S16x257 .f32) (idx : IVec S64x576x1 32) (h : Fin 16) (i : Fin 64) (j : Fin 576) (n : Fin 257)
    (hn : idx (ix3 i j 0) = BitVec.ofNat 32 n.val) :
    Host.gather gather_S16x257_S64x576x1_S16x64x576_0_1_n_n_1_2_161 x idx (ix3 h i j) = x (ix2 h n) := by
  unfold Host.gather
  refine congrArg x (funext fun a => Fin.ext ?_)
  match a with
  | ⟨0, _⟩ =>
    show GatherDims.start _ _ idx 0 + GatherDims.batchCoord _ _ 0 + GatherDims.offCoord _ _ 0 = h.val
    rw [GatherDims.batchCoord_eq_zero _ _ _ List.not_mem_nil]
    unfold GatherDims.start
    rw [dif_neg (show (0 : Fin 2) ∉ GatherDims.startIndexMap gather_S16x257_S64x576x1_S16x64x576_0_1_n_n_1_2_161 by decide)]
    unfold GatherDims.offCoord
    rw [dif_pos ((GatherDims.mem_sKept _ _).mpr ⟨by decide, List.not_mem_nil⟩)]
    simp only [Nat.zero_add]
    rfl
  | ⟨1, _⟩ =>
    show GatherDims.start _ _ idx 1 + GatherDims.batchCoord _ _ 1 + GatherDims.offCoord _ _ 1 = n.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ GatherDims.startIndexMap gather_S16x257_S64x576x1_S16x64x576_0_1_n_n_1_2_161 from List.mem_singleton.mpr rfl)]
    have hsi : GatherDims.siIdx gather_S16x257_S64x576x1_S16x64x576_0_1_n_n_1_2_161 (ix3 h i j)
        ⟨List.idxOf (1 : Fin 2) (GatherDims.startIndexMap gather_S16x257_S64x576x1_S16x64x576_0_1_n_n_1_2_161),
          List.idxOf_lt_length_iff.2 (List.mem_singleton.mpr rfl)⟩ = ix3 i j 0 := by
      funext b; refine Fin.ext ?_
      match b with
      | ⟨0, _⟩ => rfl
      | ⟨1, _⟩ => rfl
      | ⟨2, _⟩ => rfl
    rw [hsi, hn]
    show min (BitVec.ofNat 32 n.val).toInt.toNat 256 = n.val
    have := n.isLt
    rw [BitVec.toInt_eq_toNat_of_lt (by rw [BitVec.toNat_ofNat]; omega), BitVec.toNat_ofNat, Int.toNat_natCast]
    omega

/-- The index of the lookup, as words, from the distance. -/
theorem index_word : ∀ n : Fin 639,
    Scalar.select (IntOp.cmpi .slt (IntOp.addi (IntOp.minsi 128#32 (IntOp.maxsi 4294967168#32 (BitVec.ofNat 32 n.val - 63#32))) 128#32) 0#32)
      (IntOp.addi (IntOp.addi (IntOp.minsi 128#32 (IntOp.maxsi 4294967168#32 (BitVec.ofNat 32 n.val - 63#32))) 128#32) 257#32)
      (IntOp.addi (IntOp.minsi 128#32 (IntOp.maxsi 4294967168#32 (BitVec.ofNat 32 n.val - 63#32))) 128#32)
      = BitVec.ofNat 32 (min (n.val + 65) 256) := by
  decide +kernel

/-- The index at which the reference looks up query row `i` and key `j` of a chunk's band. -/
theorem index_at (i : Fin 64) (j : Fin 576) : val_main_v19 (F := Ideal) (ix3 i j 0) = BitVec.ofNat 32 (min (640 + i.val - j.val) 256) := by
  have e : val_main_v8 (F := Ideal) (ix2 i j) = BitVec.ofNat 32 (575 + i.val - j.val) - 63#32 := by
    show BitVec.ofNat 32 i.val + 512#32 - BitVec.ofNat 32 j.val = _
    apply BitVec.eq_of_toNat_eq
    simp only [BitVec.toNat_sub, BitVec.toNat_add, BitVec.toNat_ofNat]
    omega
  have h := index_word ⟨575 + i.val - j.val, by omega⟩
  rw [← e] at h
  refine Eq.trans ?_ (h.trans (congrArg (fun n => BitVec.ofNat 32 (min n 256)) (show (575 + i.val - j.val) + 65 = 640 + i.val - j.val by omega)))
  rw [val_main_v19_apply]
  have e2 : idx_main_v19 (ix3 i j 0) = ix2 i j := by
    funext a; match a with | ⟨0, _⟩ => rfl | ⟨1, _⟩ => rfl
  rw [e2]
  rfl

/-- The reference's lookup at one entry. -/
theorem chunk_at (x0 : FVec Ideal S2x16x257 .f32) (h : Fin 16) (i : Fin 64) (j : Fin 576) :
    val_main_v20 (F := Ideal) x0 (ix3 h i j) = x0 (ix3 0 h ⟨min (640 + i.val - j.val) 256, by omega⟩) := by
  unfold val_main_v20
  rw [gather_at _ _ h i j ⟨min (640 + i.val - j.val) 256, by omega⟩ (index_at i j), val_main_v10_apply, val_main_v9_apply]
  refine congrArg x0 (funext fun a => Fin.ext ?_)
  match a with
  | ⟨0, _⟩ => rfl
  | ⟨1, _⟩ => show (h.val * 257 + min (640 + i.val - j.val) 256) / 257 % 16 = h.val; omega
  | ⟨2, _⟩ => show (h.val * 257 + min (640 + i.val - j.val) 256) % 257 = min (640 + i.val - j.val) 256; omega

/-- The word of minus infinity. -/
theorem infinity_word : FloatOps.ofBits (F := Ideal) .f32 0xFF800000#32 = (⊥ : EReal) := by
  exact Softmax.ofBits_neg_inf

/-- A chunk of the reference's table, padded with minus infinity before key `o` and after the band. -/
theorem padded_at (x0 : FVec Ideal S2x16x257 .f32) (o : ℕ) (hi : Fin 3 → ℕ) (hp : S16x64x576.Pads ![0, 0, o] hi ![0, 0, 0] S16x64x768)
    (v : FVec Ideal S_ .f32) (hv : ∀ i, v i = (⊥ : EReal)) (h : Fin 16) (i : Fin 64) (k : Fin 768) :
    pad S16x64x768 ![0, 0, o] hi ![0, 0, 0] (val_main_v20 (F := Ideal) x0) v hp h_S_ (ix3 h i k)
      = if o ≤ k.val ∧ k.val < o + 576 then x0 (ix3 0 h ⟨min (640 + i.val + o - k.val) 256, by omega⟩) else (⊥ : EReal) := by
  by_cases hk : o ≤ k.val ∧ k.val < o + 576
  · rw [if_pos hk, pad_apply_of_inside _ _ _ _ _ _ _ _ (ix3 h i ⟨k.val - o, by omega⟩) (fun a => ?_), chunk_at]
    · exact congrArg (fun n => x0 (ix3 0 h n)) (Fin.ext (by dsimp only; omega))
    · match a with
      | ⟨0, _⟩ => show h.val = 0 + h.val * 1; omega
      | ⟨1, _⟩ => show i.val = 0 + i.val * 1; omega
      | ⟨2, _⟩ => show k.val = o + (k.val - o) * 1; omega
  · rw [if_neg hk, pad_apply_of_not_inside _ _ _ _ _ _ _ _ 2 (fun hn => hk ?_)]
    · exact hv _
    · have h1 : o ≤ k.val := hn.1
      have h2 : (k.val - o) / 1 < 576 := hn.2.2
      rw [Nat.div_one] at h2
      omega

/-- The reference's table at one entry. -/
theorem table_at (x0 : FVec Ideal S2x16x257 .f32) (h : Fin 16) (i : Fin 256) (k : Fin 768) :
    val_main_v25 (F := Ideal) x0 (ix3 h i k) = bias x0 h i k := by
  unfold val_main_v25 bias
  have hc : i.val / 64 = 0 ∨ i.val / 64 = 1 ∨ i.val / 64 = 2 ∨ i.val / 64 = 3 := by omega
  rcases hc with hc | hc | hc | hc
  · rw [concatenate_apply_piece 1 _ _ (ix3 h i k) 0 (by simp) S16x64x768 (val_main_v21 (F := Ideal) x0) rfl rfl 0 rfl
      (ix3 h ⟨i.val - 0, by omega⟩ k) (fun b hb => match b, hb with
        | ⟨0, _⟩, _ => rfl
        | ⟨1, _⟩, hb => absurd rfl hb
        | ⟨2, _⟩, _ => rfl) (by show 0 + (i.val - 0) = i.val; omega)]
    unfold val_main_v21
    refine (padded_at x0 0 _ _ _ (fun i => infinity_word) h _ k).trans ?_
    rw [hc]
    split_ifs
    · exact congrArg (fun n => x0 (ix3 0 h n)) (Fin.ext (by dsimp only; omega))
    · rfl
  · rw [concatenate_apply_piece 1 _ _ (ix3 h i k) 1 (by simp) S16x64x768 (val_main_v22 (F := Ideal) x0) rfl rfl 64 rfl
      (ix3 h ⟨i.val - 64, by omega⟩ k) (fun b hb => match b, hb with
        | ⟨0, _⟩, _ => rfl
        | ⟨1, _⟩, hb => absurd rfl hb
        | ⟨2, _⟩, _ => rfl) (by show 64 + (i.val - 64) = i.val; omega)]
    unfold val_main_v22
    refine (padded_at x0 64 _ _ _ (fun i => infinity_word) h _ k).trans ?_
    rw [hc]
    split_ifs
    · exact congrArg (fun n => x0 (ix3 0 h n)) (Fin.ext (by dsimp only; omega))
    · rfl
  · rw [concatenate_apply_piece 1 _ _ (ix3 h i k) 2 (by simp) S16x64x768 (val_main_v23 (F := Ideal) x0) rfl rfl 128 rfl
      (ix3 h ⟨i.val - 128, by omega⟩ k) (fun b hb => match b, hb with
        | ⟨0, _⟩, _ => rfl
        | ⟨1, _⟩, hb => absurd rfl hb
        | ⟨2, _⟩, _ => rfl) (by show 128 + (i.val - 128) = i.val; omega)]
    unfold val_main_v23
    refine (padded_at x0 128 _ _ _ (fun i => infinity_word) h _ k).trans ?_
    rw [hc]
    split_ifs
    · exact congrArg (fun n => x0 (ix3 0 h n)) (Fin.ext (by dsimp only; omega))
    · rfl
  · rw [concatenate_apply_piece 1 _ _ (ix3 h i k) 3 (by simp) S16x64x768 (val_main_v24 (F := Ideal) x0) rfl rfl 192 rfl
      (ix3 h ⟨i.val - 192, by omega⟩ k) (fun b hb => match b, hb with
        | ⟨0, _⟩, _ => rfl
        | ⟨1, _⟩, hb => absurd rfl hb
        | ⟨2, _⟩, _ => rfl) (by show 192 + (i.val - 192) = i.val; omega)]
    unfold val_main_v24
    refine (padded_at x0 192 _ _ _ (fun i => infinity_word) h _ k).trans ?_
    rw [hc]
    split_ifs
    · exact congrArg (fun n => x0 (ix3 0 h n)) (Fin.ext (by dsimp only; omega))
    · rfl

end Cert.Band

end
-- ==== Proof.BandValue.lean ====
/- The bias table of the attention: the kernel's table is the reference's. -/
module

public import proofs.«01_k».proof.Proof.BandSpec
public import proofs.«01_k».proof.Proof.Gen.Kernel9Ideal.Value
public import Idealize.ShloMosaic.Lib.Claim
public import Idealize.ShloMosaic.Lib.Routing.Ops
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel9Ideal.ValueBand

open Cert.Kernel9Ideal Cert.Kernel9Ideal.Gen

variable (m : (ℓ : Loc nD τ sig) → Buf (Elt Ideal) ℓ)

/-- Which blocks a grid point works on. -/
theorem idx_val : ∀ t : Fin cfg0.N, win0_0.index t = ![t.val, 0, 0] ∧ win0_1.index t = ![t.val, 0, 0] :=
  (by decide +kernel : ∀ t : Fin grid0.N, _)

/-- The list of the distances' indices, as its formula. -/
theorem list_at : ∀ k : Fin 1024, lit0 k = BitVec.ofNat 32 (min (895 - k.val) 256) := by decide +kernel

/-- A row of the kernel's lookup: entry `(h, k)` is head `h`'s entry at the index that `idx` holds at `k`. -/
theorem gather_at (x : FVec Ideal S16x257 .f32) (idx : IVec S1024x1 32) (h : Fin 16) (k : Fin 1024) (n : Fin 257)
    (hn : idx (ix2 k 0) = BitVec.ofNat 32 n.val) :
    Host.gather gather_S16x257_S1024x1_S16x1024_0_1_n_n_1_1_161 x idx (ix2 h k) = x (ix2 h n) := by
  unfold Host.gather
  refine congrArg x (funext fun a => Fin.ext ?_)
  match a with
  | ⟨0, _⟩ =>
    show GatherDims.start _ _ idx 0 + GatherDims.batchCoord _ _ 0 + GatherDims.offCoord _ _ 0 = h.val
    rw [GatherDims.batchCoord_eq_zero _ _ _ List.not_mem_nil]
    unfold GatherDims.start
    rw [dif_neg (show (0 : Fin 2) ∉ GatherDims.startIndexMap gather_S16x257_S1024x1_S16x1024_0_1_n_n_1_1_161 by decide)]
    unfold GatherDims.offCoord
    rw [dif_pos ((GatherDims.mem_sKept _ _).mpr ⟨by decide, List.not_mem_nil⟩)]
    simp only [Nat.zero_add]
    rfl
  | ⟨1, _⟩ =>
    show GatherDims.start _ _ idx 1 + GatherDims.batchCoord _ _ 1 + GatherDims.offCoord _ _ 1 = n.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ GatherDims.startIndexMap gather_S16x257_S1024x1_S16x1024_0_1_n_n_1_1_161 from List.mem_singleton.mpr rfl)]
    have hsi : GatherDims.siIdx gather_S16x257_S1024x1_S16x1024_0_1_n_n_1_1_161 (ix2 h k)
        ⟨List.idxOf (1 : Fin 2) (GatherDims.startIndexMap gather_S16x257_S1024x1_S16x1024_0_1_n_n_1_1_161),
          List.idxOf_lt_length_iff.2 (List.mem_singleton.mpr rfl)⟩ = ix2 k 0 := by
      funext b; refine Fin.ext ?_
      match b with
      | ⟨0, _⟩ => rfl
      | ⟨1, _⟩ => rfl
    rw [hsi, hn]
    show min (BitVec.ofNat 32 n.val).toInt.toNat 256 = n.val
    have := n.isLt
    rw [BitVec.toInt_eq_toNat_of_lt (by rw [BitVec.toNat_ofNat]; omega), BitVec.toNat_ofNat, Int.toNat_natCast]
    omega

/-- The indices that the kernel looks up, a column. -/
def indices : IVec S1024x1 32 :=
  broadcastInDim S1024x1 ![0] bcast_S1024_S1024x1_0
    (select (constantI S1024 1 0#1)
      (addi (fun i => lit0 (S1024.rowMajor i)) (broadcastInDim S1024 ![] bcast_S_S1024 (constantI S_ 32 257#32)))
      (fun i => lit0 (S1024.rowMajor i)))

/-- One index of the column. -/
theorem indices_at (k : Fin 1024) : indices (ix2 k 0) = BitVec.ofNat 32 (min (895 - k.val) 256) := by
  rw [← list_at k]
  unfold indices
  have e : S1024.rowMajor (ix1 k) = k := (Equiv.apply_eq_iff_eq_symm_apply S1024.rowMajor).mpr (Routing.symm1 (N := 1024) k).symm
  generalize (lit0 : Fin 1024 → BitVec 32) = l
  pointwise
  exact congrArg l e

/-- The vectors that the call is handed, one for each head. -/
def vectors (table : FVec Ideal S2x16x257 .f32) : FVec Ideal S16x1x1024 .f32 :=
  shapeCast S16x1x1024 (Host.gather gather_S16x257_S1024x1_S16x1024_0_1_n_n_1_1_161
    (shapeCast S16x257 (extractStridedSlice S1x16x257 ![0, 0, 0] table slices_S2x16x257_S1x16x257_0_0_0) shapeCasts_S1x16x257_S16x257)
    indices) shapeCasts_S16x1024_S16x1x1024

/-- One entry of the vectors. -/
theorem vectors_at (table : FVec Ideal S2x16x257 .f32) (h : Fin 16) (k : Fin 1024) :
    vectors table (ix3 h 0 k) = table (ix3 0 h ⟨min (895 - k.val) 256, by omega⟩) := by
  have e : ∀ x : FVec Ideal S16x1024 .f32, shapeCast S16x1x1024 x shapeCasts_S16x1024_S16x1x1024 (ix3 h 0 k) = x (ix2 h k) := fun x => by
    pointwise
  unfold vectors
  rw [e, gather_at _ _ h k ⟨min (895 - k.val) 256, by omega⟩ (indices_at k)]
  pointwise

/-- The vectors in the region's entry. -/
theorem entry0 (c : Dev nD) : V m c main_v7 = vectors (m ((c : Thread nD τ).loc main_arg0)) := by
  unfold V
  after_reads_simp
  rfl

/-- The vector of a grid point. -/
theorem blk0 (c : Dev nD) (t : Fin cfg0.N) (ht : t.val < 16) (k : Fin 1024) :
    iblk m c 0 t (ix3 0 0 k) = (m ((c : Thread nD τ).loc main_arg0)) (ix3 0 ⟨t.val, ht⟩ ⟨min (895 - k.val) 256, by omega⟩) := by
  rw [← vectors_at (m ((c : Thread nD τ).loc main_arg0)) ⟨t.val, ht⟩ k]
  blk_simp [iblk, idx_val t]
  rw [entry0]
  blk_ext [idx_val t]

/-- The band, as the words compare. -/
theorem band_word (i : Fin 256) (k : Fin 768) :
    IntOp.andi (IntOp.cmpi .sge (IntOp.subi (BitVec.ofNat 32 k.val) (IntOp.subi (BitVec.ofNat 32 i.val) (IntOp.andi (BitVec.ofNat 32 i.val) 63#32))) 0#32)
      (IntOp.cmpi .slt (IntOp.subi (BitVec.ofNat 32 k.val) (IntOp.subi (BitVec.ofNat 32 i.val) (IntOp.andi (BitVec.ofNat 32 i.val) 63#32))) 576#32)
      = BitVec.ofBool (decide (64 * (i.val / 64) ≤ k.val ∧ k.val < 64 * (i.val / 64) + 576)) := by
  have e : ∀ i : Fin 256, IntOp.subi (BitVec.ofNat 32 i.val) (IntOp.andi (BitVec.ofNat 32 i.val) 63#32) = BitVec.ofNat 32 (64 * (i.val / 64)) := by
    decide +kernel
  have e2 : ∀ (a : Fin 4) (k : Fin 768), IntOp.andi (IntOp.cmpi .sge (IntOp.subi (BitVec.ofNat 32 k.val) (BitVec.ofNat 32 (64 * a.val))) 0#32)
      (IntOp.cmpi .slt (IntOp.subi (BitVec.ofNat 32 k.val) (BitVec.ofNat 32 (64 * a.val))) 576#32)
      = BitVec.ofBool (decide (64 * a.val ≤ k.val ∧ k.val < 64 * a.val + 576)) := by
    decide +kernel
  rw [e]
  exact e2 ⟨i.val / 64, by omega⟩ k

/-- What a grid point stores, from the vector it reads. -/
theorem stored (a : Vec Ideal S1x1x1024 .f32) (i : Fin 256) (k : Fin 768) :
    out0_1 a (ix3 0 i k) = if 64 * (i.val / 64) ≤ k.val ∧ k.val < 64 * (i.val / 64) + 576 then
      a (ix3 0 0 ⟨k.val + 255 - i.val, by omega⟩) else (⊥ : EReal) := by
  frame_out
  pointwise [k0_pay1]
  rw [band_word, IdealRules.named_const.ideal_named_scalar κ "mask" _ ⊥ rfl]
  have hi := i.isLt
  have hk := k.isLt
  by_cases h : 64 * (i.val / 64) ≤ k.val ∧ k.val < 64 * (i.val / 64) + 576
  · have e : (k.val + 1024 - (769 + i.val) % 1024) % 1024 = k.val + 255 - i.val := by omega
    rw [if_pos h, decide_eq_true h]
    exact congrArg (fun n => a (ix3 0 0 n)) (Fin.ext e)
  · rw [if_neg h, decide_eq_false h]
    rfl

/-- An index of a block is its last two coordinates. -/
theorem block_index (y : S1x256x768.Idx) : y = ix3 0 (y 1) (y 2) := by
  funext a
  match a with
  | ⟨0, _⟩ => exact Fin.ext (Nat.lt_one_iff.mp (y 0).isLt)
  | ⟨1, _⟩ => rfl
  | ⟨2, _⟩ => rfl

/-- The place in the table of an index of a grid point's block: the point is the head. -/
theorem emb1 (t : Fin cfg0.N) (ht : t.val < 16) (y : S1x256x768.Idx) : (win0_1.blk t).view.emb y = ix3 ⟨t.val, ht⟩ (y 1) (y 2) := by
  funext a
  match a with
  | ⟨0, _⟩ => exact Fin.ext (by blk_simp [idx_val t])
  | ⟨1, _⟩ => exact Fin.ext (by blk_simp [idx_val t]; rfl)
  | ⟨2, _⟩ => exact Fin.ext (by blk_simp [idx_val t]; rfl)

/-- A grid point's tile is its head's part of the table. -/
theorem point (c : Dev nD) (t : Fin cfg0.N) (ht : t.val < 16) (i : Fin 256) (k : Fin 768) :
    out0_1 (iblk m c 0 t) (ix3 0 i k) = Cert.Band.bias (m ((c : Thread nD τ).loc main_arg0)) ⟨t.val, ht⟩ i k := by
  have hi := i.isLt
  have hk := k.isLt
  rw [stored]
  unfold Cert.Band.bias
  split_ifs with h
  · rw [blk0 m c t ht]
    have e : 895 - (k.val + 255 - i.val) = 640 + i.val - k.val := by omega
    exact congrArg (fun n => (m ((c : Thread nD τ).loc main_arg0)) (ix3 0 ⟨t.val, ht⟩ n)) (Fin.ext (congrArg (min · 256) e))
  · rfl

/-- The kernel's table is the reference's, of the same argument. -/
theorem final1 (c : Dev nD) : (dats m 0 c).arrAt 1 (cfgs 0).N
    = Cert.Reference9Ideal.Read.val_main_v25 (F := Ideal) (m ((c : Thread nD τ).loc main_arg0)) := by
  refine (dats m 0 c).arrAt_eq_of_covers 1 _ (by decide +kernel) fun t _ y => ?_
  have ht : t.val < 16 := lt_of_lt_of_eq t.isLt N_0
  blk_simp
  rw [after0_1, emb1 t ht y]
  exact ((congrArg (out0_1 (iblk m c 0 t)) (block_index y)).trans (point m c t ht (y 1) (y 2))).trans
    (Cert.Band.table_at (m ((c : Thread nD τ).loc main_arg0)) ⟨t.val, ht⟩ (y 1) (y 2)).symm

end Cert.Kernel9Ideal.ValueBand

end
-- ==== Proof.BandLink.lean ====
/- The bias table that the spreading call leaves is a band, as the prompt's attention asks of its bias. -/
module

public import proofs.«01_k».proof.Proof.BandSpec
public import proofs.«01_k».proof.Proof.AttPromptValue

@[expose] public section

noncomputable section

open Idealize.ShloMosaic

namespace Cert.Band

/-- The spread table repeats its first 64 rows, moved along by 64 keys each, and is minus infinity off the band. -/
theorem banded_of_table (table : FVec Ideal Cert.Reference9Ideal.S2x16x257 .f32) :
    Cert.Kernel8Ideal.ValueAtt.Banded (Cert.Reference9Ideal.Read.val_main_v25 (F := Ideal) table) := by
  intro h i k
  have hi := i.isLt
  have hk := k.isLt
  refine (table_at table h i k).trans ?_
  unfold bias
  split_ifs with hb
  · refine Eq.trans ?_ (table_at table h ⟨i.val % 64, by omega⟩ ⟨k.val - 64 * (i.val / 64), by omega⟩).symm
    unfold bias
    have e : 640 + i.val - k.val = 640 + i.val % 64 - (k.val - 64 * (i.val / 64)) := by omega
    rw [if_pos (by constructor <;> (dsimp only; omega))]
    exact congrArg (fun n => table (ix3 0 h n)) (Fin.ext (congrArg (min · 256) e))
  · rfl

/-- Of a finite table, the spread table is finite within the band. -/
theorem finite_of_table (table : FVec Ideal Cert.Reference9Ideal.S2x16x257 .f32)
    (hf : ∀ (h : Fin 16) (n : Fin 257), (table (ix3 0 h n) : EReal) ≠ ⊥ ∧ (table (ix3 0 h n) : EReal) ≠ ⊤)
    (h : Fin 16) (i : Fin 256) (k : Fin 768) (hb : 64 * (i.val / 64) ≤ k.val ∧ k.val < 64 * (i.val / 64) + 576) :
    (Cert.Reference9Ideal.Read.val_main_v25 (F := Ideal) table (ix3 h i k) : EReal) ≠ ⊥
      ∧ (Cert.Reference9Ideal.Read.val_main_v25 (F := Ideal) table (ix3 h i k) : EReal) ≠ ⊤ := by
  rw [table_at]
  unfold bias
  rw [if_pos hb]
  exact hf h _

end Cert.Band

end
-- ==== Proof.AttPromptBanded.lean ====
/- The precondition of the prompt attention read back: the queries and keys are finite and the bias is banded. -/
module

public import proofs.«01_k».proof.Proof.AttPromptValue
public import proofs.«01_k».proof.Proof.Gen.Pre_banded
public import Idealize.ShloMosaic.Lib.ReduceAll

@[expose] public section

set_option maxRecDepth 16384

noncomputable section

open Idealize.ShloMosaic Idealize.SL.Sem

namespace Cert.AttPrompt

open Cert.Kernel8Ideal Cert.Kernel8Ideal.Gen Cert.Kernel8Ideal.ValueAtt

/-- A number whose absolute value compares below infinity is finite. -/
theorem finite_of_cmpf {φ : FTy} {x b : Ideal φ} (hb : b = (⊤ : EReal))
    (h : FloatOps.cmpf .olt (FloatOps.hostAbsf x) b = 1#1) : x ≠ (⊤ : EReal) ∧ x ≠ (⊥ : EReal) := by
  subst hb
  exact Softmax.finite_of_abs_lt (by by_contra hn; have e : FloatOps.cmpf .olt (FloatOps.hostAbsf x) (⊤ : Ideal φ) = BitVec.ofBool (decide (max x (-x) < (⊤ : EReal))) := rfl; rw [e, decide_eq_false hn] at h; exact absurd h (by decide))

/-- Numbers that compare equal are equal. -/
theorem eq_of_cmpf {φ : FTy} {x y : Ideal φ} (h : FloatOps.cmpf .oeq x y = 1#1) : x = y := by
  by_contra hn
  have e : FloatOps.cmpf .oeq x y = BitVec.ofBool (decide ((x : EReal) = y)) := rfl
  rw [e, decide_eq_false hn] at h
  exact absurd h (by decide)

/-- A row's chunk, as the words divide. -/
theorem floor_word : ∀ i : Fin 256,
    Scalar.select
      (IntOp.andi
        (IntOp.cmpi CmpIPredicate.ne
          (if BitVec.ofNat 32 i.val = 0 then 0 else if (BitVec.ofNat 32 i.val).msb = true then -1 else 1)
          (if (64#32 : BitVec 32) = 0 then 0 else if (64#32 : BitVec 32).msb = true then -1 else (1 : BitVec 32)))
        (IntOp.cmpi CmpIPredicate.ne (IntOp.remsi ArithUnit.host (BitVec.ofNat 32 i.val) 64#32) 0#32))
      (IntOp.subi (IntOp.divsi ArithUnit.host (BitVec.ofNat 32 i.val) 64#32) 1#32)
      (IntOp.divsi ArithUnit.host (BitVec.ofNat 32 i.val) 64#32) = BitVec.ofNat 32 (i.val / 64) := by
  decide +kernel

/-- Which keys lie in the band of a chunk, as the words compare. -/
theorem band_word : ∀ (a : Fin 4) (k : Fin 768),
    IntOp.andi (IntOp.cmpi CmpIPredicate.sge (IntOp.subi (BitVec.ofNat 32 k.val) (IntOp.muli (BitVec.ofNat 32 a.val) 64#32)) 0#32)
      (IntOp.cmpi CmpIPredicate.slt (IntOp.subi (BitVec.ofNat 32 k.val) (IntOp.muli (BitVec.ofNat 32 a.val) 64#32)) 576#32)
      = if 64 * a.val ≤ k.val ∧ k.val < 64 * a.val + 576 then 1#1 else 0#1 := by
  decide +kernel

/-- What the precondition says, entry by entry. -/
theorem entries (x0 : FVec Ideal S17408x3072 .bf16) (x1 : FVec Ideal S16x256x768 .f32)
    (hpre : Cert.Pre_banded.fn (F := Ideal) x0 x1 = fun _ => 1#1) :
    (∀ (a : Fin 16384) (l : Fin 2048), x0 (ix2 ⟨a, by omega⟩ ⟨l, by omega⟩) ≠ (⊤ : EReal) ∧ x0 (ix2 ⟨a, by omega⟩ ⟨l, by omega⟩) ≠ (⊥ : EReal))
    ∧ (∀ (h : Fin 16) (i : Fin 256) (k : Fin 768), if 64 * (i.val / 64) ≤ k.val ∧ k.val < 64 * (i.val / 64) + 576
        then x1 (ix3 h i k) ≠ (⊤ : EReal) ∧ x1 (ix3 h i k) ≠ (⊥ : EReal) else x1 (ix3 h i k) = (⊥ : EReal))
    ∧ (∀ (h : Fin 16) (a : Fin 4) (i : Fin 64) (j : Fin 576),
        x1 (ix3 h ⟨64 * a + i, by omega⟩ ⟨64 * a + j, by omega⟩) = x1 (ix3 h ⟨i, by omega⟩ ⟨j, by omega⟩)) := by
  have e := congrFun hpre (Shape.Idx.first Cert.Pre_banded.Gen.h_S_)
  dsimp only [Cert.Pre_banded.fn, Cert.Pre_banded.fn_part1, Cert.Pre_banded.fn_part2] at e
  obtain ⟨e, e3⟩ := IntOp.andi_eq_one.1 e
  obtain ⟨e, e2⟩ := IntOp.andi_eq_one.1 e
  obtain ⟨e, e1⟩ := IntOp.andi_eq_one.1 e
  obtain ⟨e, eb⟩ := IntOp.andi_eq_one.1 e
  clear hpre
  have : Subsingleton (Shape.Idx Cert.Pre_banded.S_) := ⟨fun a b => funext fun k => k.elim0⟩
  refine ⟨fun a l => ?_, fun h i k => ?_, fun h a i j => ?_⟩
  · have q := finite_of_cmpf (by simp [Ideal.ofBits, Ideal.ieee] : Ideal.ofBits .bf16 0x7F80#16 = ⊤) (Host.reduce_andi_all _ _ _ _ _ e (ix2 a l))
    revert q
    pointwise
    exact id
  · have q := Host.reduce_andi_all _ _ _ _ _ eb (ix3 h i k)
    revert q
    pointwise [Cert.Pre_banded.fn_where_0, Cert.Pre_banded.fn_floor_divide, Cert.Pre_banded.fn_where]
    change Scalar.select (IntOp.andi (IntOp.cmpi CmpIPredicate.sge (IntOp.subi (BitVec.ofNat 32 k.val) (IntOp.muli (Scalar.select
      (IntOp.andi
        (IntOp.cmpi CmpIPredicate.ne
          (if BitVec.ofNat 32 i.val = 0 then 0 else if (BitVec.ofNat 32 i.val).msb = true then -1 else 1)
          (if (64#32 : BitVec 32) = 0 then 0 else if (64#32 : BitVec 32).msb = true then -1 else (1 : BitVec 32)))
        (IntOp.cmpi CmpIPredicate.ne (IntOp.remsi ArithUnit.host (BitVec.ofNat 32 i.val) 64#32) 0#32))
      (IntOp.subi (IntOp.divsi ArithUnit.host (BitVec.ofNat 32 i.val) 64#32) 1#32)
      (IntOp.divsi ArithUnit.host (BitVec.ofNat 32 i.val) 64#32)) 64#32)) 0#32)
      (IntOp.cmpi CmpIPredicate.slt (IntOp.subi (BitVec.ofNat 32 k.val) (IntOp.muli (Scalar.select
      (IntOp.andi
        (IntOp.cmpi CmpIPredicate.ne
          (if BitVec.ofNat 32 i.val = 0 then 0 else if (BitVec.ofNat 32 i.val).msb = true then -1 else 1)
          (if (64#32 : BitVec 32) = 0 then 0 else if (64#32 : BitVec 32).msb = true then -1 else (1 : BitVec 32)))
        (IntOp.cmpi CmpIPredicate.ne (IntOp.remsi ArithUnit.host (BitVec.ofNat 32 i.val) 64#32) 0#32))
      (IntOp.subi (IntOp.divsi ArithUnit.host (BitVec.ofNat 32 i.val) 64#32) 1#32)
      (IntOp.divsi ArithUnit.host (BitVec.ofNat 32 i.val) 64#32)) 64#32)) 576#32)) _ _ = 1#1 → _
    rw [floor_word i, band_word ⟨i.val / 64, by omega⟩ k]
    dsimp only
    split_ifs with hk
    · intro q
      have q : BitVec.ofBool (decide (max (x1 (ix3 h i k) : EReal) (-(x1 (ix3 h i k) : EReal)) < Ideal.ofBits FTy.f32 0x7F800000#32)) = 1#1 := q
      rw [(by simp [Ideal.ofBits, Ideal.ieee] : Ideal.ofBits .f32 0x7F800000#32 = ⊤)] at q
      exact Softmax.finite_of_abs_lt (by by_contra hn; rw [decide_eq_false hn] at q; exact absurd q (by decide))
    · intro q
      have q : BitVec.ofBool (decide ((x1 (ix3 h i k) : EReal) = Ideal.ofBits FTy.f32 0xFF800000#32)) = 1#1 := q
      rw [Softmax.ofBits_neg_inf] at q
      by_contra hn
      rw [decide_eq_false hn] at q
      exact absurd q (by decide)
  · have q1 := eq_of_cmpf (Host.reduce_andi_all _ _ _ _ _ e1 (ix3 h i j))
    have q2 := eq_of_cmpf (Host.reduce_andi_all _ _ _ _ _ e2 (ix3 h i j))
    have q3 := eq_of_cmpf (Host.reduce_andi_all _ _ _ _ _ e3 (ix3 h i j))
    revert q1 q2 q3
    pointwise
    intro q1 q2 q3
    fin_cases a
    · exact congrArg x1 (ix3_congr rfl (by dsimp only; omega) (by dsimp only; omega))
    · exact q1
    · exact q2
    · exact q3

/-- The bias is banded. -/
theorem banded (x0 : FVec Ideal S17408x3072 .bf16) (x1 : FVec Ideal S16x256x768 .f32)
    (hpre : Cert.Pre_banded.fn (F := Ideal) x0 x1 = fun _ => 1#1) : Banded x1 := fun h i k => by
  obtain ⟨-, eb, ec⟩ := entries x0 x1 hpre
  have e := eb h i k
  split_ifs at e ⊢ with hk
  · rw [← ec h ⟨i.val / 64, by omega⟩ ⟨i.val % 64, by omega⟩ ⟨k.val - 64 * (i.val / 64), by omega⟩]
    exact congrArg x1 (ix3_congr rfl (by dsimp only; omega) (by dsimp only; omega))
  · exact e

/-- The scores do not reach infinity, and each query's own chunk has finite scores. -/
theorem proper (x0 : FVec Ideal S17408x3072 .bf16) (x1 : FVec Ideal S16x256x768 .f32)
    (hpre : Cert.Pre_banded.fn (F := Ideal) x0 x1 = fun _ => 1#1) : Proper x0 x1 := fun b c h i => by
  obtain ⟨ex, eb, -⟩ := entries x0 x1 hpre
  have fin : ∀ j : Fin 576, 512 ≤ c.val * 64 + j.val → score x0 x1 b c h i j ≠ ⊤ ∧ score x0 x1 b c h i j ≠ ⊥ := fun j hj => by
    have e := eb h ⟨i, by omega⟩ ⟨j, by omega⟩
    rw [if_pos (by dsimp only; omega)] at e
    unfold score
    rw [if_pos hj]
    refine Softmax.add_finite (Softmax.sum_finite _ _ fun x _ => Softmax.mul_finite ?_ ?_) e
    · exact ex ⟨b * 4096 + (c * 64 + i), by omega⟩ ⟨h * 64 + x, by omega⟩
    · unfold padded
      rw [if_pos hj]
      exact ex ⟨b * 4096 + (c * 64 + j - 512), by omega⟩ ⟨1024 + (h * 64 + x), by omega⟩
  refine ⟨fun j => ?_, ⟨575, by omega⟩, (fin _ (by dsimp only; omega)).2⟩
  by_cases hj : 512 ≤ c.val * 64 + j.val
  · exact (fin j hj).1
  · unfold score
    rw [if_neg hj]
    exact bot_ne_top

end Cert.AttPrompt

end
-- ==== Proof.RouterTop.lean ====
/- The greatest entries of a column, in order: by sorting, and by taking the first greatest entry again and again. -/
module

public import proofs.«01_k».proof.Proof.Softmax
public import Idealize.ShloMosaic.Lib.SortFacts
public import Idealize.ShloMosaic.Lib.SortNet.Extract

@[expose] public section

noncomputable section

open Idealize.ShloMosaic

namespace Cert.Router

variable {n : ℕ}

/-- Place `a`'s entry is greater than place `b`'s: what the sort asks. -/
def greater (f : Fin n → EReal) (a b : Fin n) : Bool := Ideal.cmpTotal .gt (f a) (f b) == 1#1

/-- The place of the `k`th greatest entry; of equal entries the first comes first. -/
def place (f : Fin n → EReal) (k : Fin n) : Fin n := sortedFrom (greater f) k

/-- The comparison that sorts says that the first value is the greater one. -/
theorem greater_iff (f : Fin n → EReal) (a b : Fin n) : greater f a b = true ↔ f b < f a := by
  unfold greater
  show ((BitVec.ofBool (decide (f b < f a))) == 1#1) = true ↔ _
  by_cases h : f b < f a <;> simp [h]

/-- Where the comparison says no, the first value is at most the second. -/
theorem greater_false (f : Fin n → EReal) (a b : Fin n) : greater f a b = false ↔ f a ≤ f b := by
  rw [← not_lt, ← greater_iff, Bool.not_eq_true]

/-- No two ranks have the same place. -/
theorem place_injective (f : Fin n → EReal) : Function.Injective (place f) := sortedFrom_injective _

/-- Each place has a rank. -/
theorem place_surjective (f : Fin n → EReal) : Function.Surjective (place f) := sortedFrom_surjective _

/-- The entries fall with the rank. -/
theorem place_le (f : Fin n → EReal) (i j : Fin n) (h : i ≤ j) : f (place f j) ≤ f (place f i) := by
  rcases h.lt_or_eq with h | h
  · refine (greater_false f _ _).mp (sortedFrom_noInversion (greater f) (greater f) ?_ (fun _ _ => id) ?_ i j h)
    · intro a b hab
      exact (greater_false f _ _).mpr ((greater_iff f _ _).mp hab).le
    · intro a b c hab hbc
      exact (greater_false f _ _).mpr (((greater_false f _ _).mp hab).trans ((greater_false f _ _).mp hbc))
  · rw [h]

/-- Place `a`'s entry is greater than place `b`'s, or as great and sooner. -/
def Sooner (f : Fin n → EReal) (a b : Fin n) : Prop := f b < f a ∨ (f a = f b ∧ a < b)

/-- Inserting an earlier position into a list in order leaves it in order. -/
theorem sooner_insert (f : Fin n → EReal) (a : Fin n) (l : List (Fin n)) (hl : l.Pairwise (Sooner f)) (ha : ∀ b ∈ l, a < b) :
    (insertBefore (greater f) a l).Pairwise (Sooner f) := by
  induction l with
  | nil => exact List.pairwise_singleton _ _
  | cons b l ih =>
    rw [List.pairwise_cons] at hl
    unfold insertBefore
    split
    · rename_i h
      refine List.pairwise_cons.mpr ⟨fun c hc => ?_, ih hl.2 fun c hc => ha c (List.mem_cons_of_mem _ hc)⟩
      rcases List.mem_cons.mp ((perm_insertBefore (greater f) a l).mem_iff.mp hc) with rfl | hc'
      · exact Or.inl ((greater_iff f _ _).mp h)
      · exact hl.1 c hc'
    · rename_i h
      have hba : f b ≤ f a := (greater_false f _ _).mp (Bool.not_eq_true _ ▸ h)
      have le : ∀ c, f c ≤ f a → a < c → Sooner f a c := fun c h1 h2 => h1.lt_or_eq.imp id fun e => ⟨e.symm, h2⟩
      refine List.pairwise_cons.mpr ⟨fun c hc => ?_, List.pairwise_cons.mpr hl⟩
      rcases List.mem_cons.mp hc with rfl | hc'
      · exact le _ hba (ha _ List.mem_cons_self)
      · exact le _ (((hl.1 c hc').elim (fun h => h.le) fun h => h.1.symm.le).trans hba) (ha c hc)

/-- Sorting a list of rising positions puts it in order. -/
theorem sooner_sort (f : Fin n → EReal) (l : List (Fin n)) (hl : l.Pairwise (· < ·)) : (stableSort (greater f) l).Pairwise (Sooner f) := by
  induction l with
  | nil => exact List.Pairwise.nil
  | cons a l ih =>
    rw [List.pairwise_cons] at hl
    unfold stableSort
    exact sooner_insert f a _ (ih hl.2) fun b hb => hl.1 b ((perm_stableSort (greater f) l).mem_iff.mp hb)

/-- A sort that prefers the greater entry and keeps equal ones in order puts the sooner of two equal entries first. -/
theorem place_first (f : Fin n → EReal) (i j : Fin n) (h : i < j) (he : f (place f i) = f (place f j)) : place f i < place f j := by
  have hp : ∀ a b : Fin (sortPositions n (greater f)).length, a < b →
      Sooner f ((sortPositions n (greater f)).get a) ((sortPositions n (greater f)).get b) :=
    List.pairwise_iff_get.mp (sooner_sort f _ (List.pairwise_lt_finRange n))
  have hs : Sooner f (place f i) (place f j) := hp _ _ (by simp only [Fin.lt_def, Fin.val_cast]; exact h)
  exact hs.elim (fun hl => absurd he hl.ne') fun hl => hl.2

/-- The entries that are left when the `k` greatest are struck out. -/
def left (f : Fin n → EReal) (k : ℕ) (p : Fin n) : EReal := if ∃ j : Fin n, j.val < k ∧ place f j = p then ⊥ else f p

/-- Before the first strike everything is left. -/
theorem left_zero (f : Fin n → EReal) : left f 0 = f := by
  funext p
  simp [left]

/-- After `k` strikes the first `k` places are minus infinity and the others are left. -/
theorem left_place (f : Fin n → EReal) (k : ℕ) (j : Fin n) : left f k (place f j) = if j.val < k then ⊥ else f (place f j) := by
  unfold left
  by_cases h : j.val < k
  · rw [if_pos h, if_pos ⟨j, h, rfl⟩]
  · rw [if_neg h, if_neg]
    rintro ⟨i, hi, he⟩
    exact h (place_injective f he ▸ hi)

/-- Striking out the next. -/
theorem left_succ (f : Fin n → EReal) (k : Fin n) (p : Fin n) : left f (k.val + 1) p = if p = place f k then ⊥ else left f k.val p := by
  obtain ⟨j, rfl⟩ := place_surjective f p
  rw [left_place, left_place]
  by_cases h : j = k
  · subst h
    rw [if_pos (Nat.lt_succ_self _), if_pos rfl]
  · have hv : j.val ≠ k.val := fun e => h (Fin.ext e)
    rw [if_neg (fun e => h (place_injective f e))]
    by_cases h2 : j.val < k.val
    · rw [if_pos h2, if_pos (Nat.lt_succ_of_lt h2)]
    · rw [if_neg h2, if_neg (by omega)]

/-- `p` is the first place of the greatest entry. -/
def FirstTop (s : Fin n → EReal) (p : Fin n) : Prop := (∀ q, s q ≤ s p) ∧ ∀ q, s q = s p → p ≤ q

/-- The next place is the first of the greatest entry that is left, where that is not minus infinity. -/
theorem first_left (f : Fin n → EReal) (k : Fin n) (hk : f (place f k) ≠ ⊥) : FirstTop (left f k.val) (place f k) := by
  have e : left f k.val (place f k) = f (place f k) := by rw [left_place, if_neg (lt_irrefl _)]
  constructor
  · intro q
    obtain ⟨j, rfl⟩ := place_surjective f q
    rw [e, left_place]
    split_ifs with h
    · exact bot_le
    · exact place_le f k j (Fin.not_lt.mp h)
  · intro q hq
    obtain ⟨j, rfl⟩ := place_surjective f q
    rw [e, left_place] at hq
    split_ifs at hq with h
    · exact absurd hq.symm hk
    · rcases (Fin.not_lt.mp h : k ≤ j).lt_or_eq with h2 | h2
      · exact (place_first f k j h2 hq.symm).le
      · rw [h2]

/-- The greatest entry that is left. -/
theorem top_left (f : Fin n → EReal) (k : Fin n) (hk : f (place f k) ≠ ⊥) : Softmax.top (left f k.val) = f (place f k) := by
  have h := first_left f k hk
  have e : left f k.val (place f k) = f (place f k) := by rw [left_place, if_neg (lt_irrefl _)]
  rw [Softmax.top_eq_sup, ← e]
  exact le_antisymm (Finset.sup_le fun q _ => h.1 q) (Finset.le_sup (Finset.mem_univ _))

/-- The `k`th greatest entry is not minus infinity where more than `k` entries are not. -/
theorem place_ne_bot (f : Fin n → EReal) (k : Fin n) (A : Finset (Fin n)) (hA : k.val < A.card) (hf : ∀ p ∈ A, f p ≠ ⊥) : f (place f k) ≠ ⊥ := by
  intro hb
  have hsub : A ⊆ (Finset.univ.filter (fun j : Fin n => j < k)).image (place f) := by
    intro p hp
    obtain ⟨j, rfl⟩ := place_surjective f p
    refine Finset.mem_image.mpr ⟨j, Finset.mem_filter.mpr ⟨Finset.mem_univ _, ?_⟩, rfl⟩
    by_contra hj
    exact hf _ hp (le_bot_iff.mp ((place_le f k j (not_lt.mp hj)).trans hb.le))
  have h1 := Finset.card_le_card hsub
  have h2 : ((Finset.univ.filter (fun j : Fin n => j < k)).image (place f)).card ≤ k.val := by
    refine Finset.card_image_le.trans ?_
    rw [Finset.filter_gt_eq_Iio]
    exact (Fin.card_Iio k).le
  omega

/-- The least of the places at which the greatest entry stands, as the words count them. -/
theorem least_word (hn : n ≤ 64) (s : Fin n → EReal) (p : Fin n) (hp : FirstTop s p) :
    Finset.univ.fold IntOp.minsi (2147483647#32) (fun x : Fin n => if s x = Softmax.top s then BitVec.ofNat 32 x.val else BitVec.ofNat 32 n)
      = BitVec.ofNat 32 p.val := by
  have ht : Softmax.top s = s p := by
    rw [Softmax.top_eq_sup]
    exact le_antisymm (Finset.sup_le fun q _ => hp.1 q) (Finset.le_sup (Finset.mem_univ _))
  have hw : ∀ k : ℕ, k ≤ 64 → (BitVec.ofNat 32 k).toInt = k := fun k hk => by
    rw [BitVec.toInt_eq_toNat_of_lt (by rw [BitVec.toNat_ofNat]; omega), BitVec.toNat_ofNat, Nat.mod_eq_of_lt (by omega)]
  refine BitVec.eq_of_toInt_eq ?_
  rw [← Finset.fold_hom (op := IntOp.minsi) (op' := min) (m := BitVec.toInt) (fun a b => SortNet.toInt_minsi a b)]
  have hpp := p.isLt
  refine le_antisymm ?_ ?_
  · refine (Finset.fold_min_le _).mpr (Or.inr ⟨p, Finset.mem_univ _, ?_⟩)
    rw [if_pos ht.symm]
  · refine (Finset.le_fold_min _).mpr ⟨?_, fun x _ => ?_⟩
    · rw [hw p.val (by omega)]
      have : (2147483647#32).toInt = 2147483647 := by decide
      omega
    · rw [hw p.val (by omega)]
      split_ifs with h
      · rw [hw x.val (by have := x.isLt; omega)]
        exact_mod_cast hp.2 x (h.trans ht)
      · rw [hw n hn]
        omega

/-- One at the places of the `k` greatest entries, zero elsewhere. -/
def mark (f : Fin n → EReal) (k : ℕ) (p : Fin n) : EReal := if ∃ j : Fin n, j.val < k ∧ place f j = p then 1 else 0

/-- Before the first mark nothing is marked. -/
theorem mark_zero (f : Fin n → EReal) (p : Fin n) : mark f 0 p = 0 := by
  simp [mark]

/-- After `k` marks just the first `k` places are marked. -/
theorem mark_place (f : Fin n → EReal) (k : ℕ) (j : Fin n) : mark f k (place f j) = if j.val < k then 1 else 0 := by
  unfold mark
  by_cases h : j.val < k
  · rw [if_pos h, if_pos ⟨j, h, rfl⟩]
  · rw [if_neg h, if_neg]
    rintro ⟨i, hi, he⟩
    exact h (place_injective f he ▸ hi)

/-- Marking the next. -/
theorem mark_succ (f : Fin n → EReal) (k : Fin n) (p : Fin n) : mark f (k.val + 1) p = if p = place f k then 1 else mark f k.val p := by
  obtain ⟨j, rfl⟩ := place_surjective f p
  rw [mark_place, mark_place]
  by_cases h : j = k
  · subst h
    rw [if_pos (Nat.lt_succ_self _), if_pos rfl]
  · have hv : j.val ≠ k.val := fun e => h (Fin.ext e)
    rw [if_neg (fun e => h (place_injective f e))]
    by_cases h2 : j.val < k.val
    · rw [if_pos h2, if_pos (Nat.lt_succ_of_lt h2)]
    · rw [if_neg h2, if_neg (by omega)]

/-- The sum of the two greatest of eight. -/
def pair (f : Fin 8 → EReal) : EReal := f (place f 0) + f (place f 1)

/-- The entries of a group of eight. -/
def part (f : Fin 64 → EReal) (g : Fin 8) (p : Fin 8) : EReal := f ⟨8 * g.val + p.val, by omega⟩

/-- The marked positions are the first `k` places. -/
theorem mark_pos (f : Fin n → EReal) (k : ℕ) (p : Fin n) : 0 < mark f k p ↔ ∃ j : Fin n, j.val < k ∧ place f j = p := by
  unfold mark
  split_ifs with h
  · exact iff_of_true zero_lt_one h
  · exact iff_of_false (lt_irrefl _) h

/-- The groups' scores. -/
def groups (v : Fin 64 → EReal) (g : Fin 8) : EReal := pair (part v g)

/-- The scores of the four best groups; minus infinity at the others. -/
def within (v : Fin 64 → EReal) (p : Fin 64) : EReal := if 0 < mark (groups v) 4 ⟨p.val / 8, by omega⟩ then v p else ⊥

/-- A group's sum is not minus infinity where no value is. -/
theorem groups_ne_bot (v : Fin 64 → EReal) (hv : ∀ p, v p ≠ ⊥) (g : Fin 8) : groups v g ≠ ⊥ := by
  intro h
  rcases EReal.add_eq_bot_iff.mp h with h | h
  · exact hv _ h
  · exact hv _ h

/-- At least eight entries are left after the choice of the groups. -/
theorem within_place (v : Fin 64 → EReal) (hv : ∀ p, v p ≠ ⊥) (r : Fin 64) (hr : r.val < 8) :
    within v (place (within v) r) ≠ ⊥ := by
  refine place_ne_bot (within v) r (Finset.univ.image fun q : Fin 8 => (⟨8 * (place (groups v) 0).val + q.val, by omega⟩ : Fin 64)) ?_ ?_
  · rw [Finset.card_image_of_injective _ (fun a b h => by
      have h := congrArg Fin.val h
      dsimp only at h
      exact Fin.ext (by omega))]
    simpa using hr
  · intro p hp
    obtain ⟨q, -, rfl⟩ := Finset.mem_image.mp hp
    unfold within
    rw [if_pos]
    · exact hv _
    · rw [mark_pos]
      exact ⟨0, by decide, Fin.ext (by show _ = (8 * (place (groups v) 0).val + q.val) / 8; omega)⟩

/-- The gate of an expert: its score if it is among the eight chosen, over the sum of the chosen scores, times 2.5. -/
def gate (s v : Fin 64 → EReal) (p : Fin 64) : EReal :=
  Ideal.div (mark (within v) 8 p * s p) (∑ e, mark (within v) 8 e * s e) * Ideal.ofBits .f32 0x40200000#32

/-- A sum over the `k` greatest that picks out one of them. -/
theorem sum_hit (f : Fin n → EReal) (k : ℕ) (hk : k ≤ n) (w : Fin k → EReal) (r : Fin k) :
    ∑ j : Fin k, (if place f ⟨j.val, j.isLt.trans_le hk⟩ = place f ⟨r.val, r.isLt.trans_le hk⟩ then (1 : EReal) else 0) * w j = w r := by
  rw [Finset.sum_eq_single r (fun j _ hj => ?_) (fun h => absurd (Finset.mem_univ _) h), if_pos rfl, one_mul]
  rw [if_neg (fun h => hj (by have e := place_injective f h; rw [Fin.ext_iff] at e ⊢; exact e)), zero_mul]

/-- A sum over the `k` greatest that picks out another place is zero. -/
theorem sum_miss (f : Fin n → EReal) (k : ℕ) (hk : k ≤ n) (w : Fin k → EReal) (p : Fin n) (hp : ¬ ∃ j : Fin n, j.val < k ∧ place f j = p) :
    ∑ j : Fin k, (if place f ⟨j.val, j.isLt.trans_le hk⟩ = p then (1 : EReal) else 0) * w j = 0 :=
  Finset.sum_eq_zero fun j _ => by rw [if_neg (fun h => hp ⟨_, j.isLt, h⟩), zero_mul]

/-- The sum of what picks out a place is its mark. -/
theorem sum_mark (f : Fin n → EReal) (k : ℕ) (hk : k ≤ n) (p : Fin n) :
    ∑ j : Fin k, (if place f ⟨j.val, j.isLt.trans_le hk⟩ = p then (1 : EReal) else 0) = mark f k p := by
  have h1 : ∀ q, ∑ j : Fin k, (if place f ⟨j.val, j.isLt.trans_le hk⟩ = q then (1 : EReal) else 0)
      = ∑ j : Fin k, (if place f ⟨j.val, j.isLt.trans_le hk⟩ = q then (1 : EReal) else 0) * 1 := fun q =>
    Finset.sum_congr rfl fun j _ => (mul_one _).symm
  rw [h1]
  unfold mark
  by_cases h : ∃ j : Fin n, j.val < k ∧ place f j = p
  · rw [if_pos h]
    obtain ⟨j, hj, rfl⟩ := h
    exact sum_hit f k hk (fun _ => 1) ⟨j.val, hj⟩
  · rw [if_neg h]
    exact sum_miss f k hk _ p h

/-- The marked entries' sum is the sum over the ranks. -/
theorem sum_marked (f s : Fin n → EReal) (k : ℕ) (hk : k ≤ n) :
    ∑ e, mark f k e * s e = ∑ j : Fin k, s (place f ⟨j.val, j.isLt.trans_le hk⟩) := by
  have h : ∀ e, mark f k e * s e = ∑ j : Fin k, (if place f ⟨j.val, j.isLt.trans_le hk⟩ = e then s e else 0) := fun e => by
    by_cases h : ∃ j : Fin n, j.val < k ∧ place f j = e
    · obtain ⟨j, hj, rfl⟩ := h
      rw [mark_place, if_pos hj, one_mul, Finset.sum_eq_single ⟨j.val, hj⟩ (fun i _ hi => ?_) (fun h => absurd (Finset.mem_univ _) h), if_pos rfl]
      rw [if_neg (fun h => hi (by have e := place_injective f h; rw [Fin.ext_iff] at e ⊢; exact e))]
    · rw [mark, if_neg h, zero_mul]
      exact (Finset.sum_eq_zero fun j _ => if_neg (fun q => h ⟨_, j.isLt, q⟩)).symm
  rw [Finset.sum_congr rfl fun e _ => h e, Finset.sum_comm]
  exact Finset.sum_congr rfl fun j _ => by rw [Finset.sum_ite_eq, if_pos (Finset.mem_univ _)]

/-- The gate of an expert from the shares of the eight chosen. -/
theorem gate_eq (s v : Fin 64 → EReal) (hs : ∀ e, 0 < s e) (p : Fin 64) :
    gate s v p = ∑ j : Fin 8, (if place (within v) ⟨j.val, j.isLt.trans_le (by norm_num)⟩ = p then (1 : EReal) else 0) *
      (Ideal.div (s (place (within v) ⟨j.val, j.isLt.trans_le (by norm_num)⟩))
        (∑ i : Fin 8, s (place (within v) ⟨i.val, i.isLt.trans_le (by norm_num)⟩)) * Ideal.ofBits .f32 0x40200000#32) := by
  unfold gate
  rw [sum_marked (within v) s 8 (by norm_num)]
  by_cases h : ∃ j : Fin 64, j.val < 8 ∧ place (within v) j = p
  · obtain ⟨j, hj, rfl⟩ := h
    rw [mark_place, if_pos hj, one_mul]
    exact (sum_hit (within v) 8 (by norm_num) (fun j : Fin 8 => Ideal.div (s (place (within v) ⟨j.val, j.isLt.trans_le (by norm_num)⟩))
        (∑ i : Fin 8, s (place (within v) ⟨i.val, i.isLt.trans_le (by norm_num)⟩)) * Ideal.ofBits .f32 0x40200000#32) ⟨j.val, hj⟩).symm
  · have hS : (∑ i : Fin 8, s (place (within v) ⟨i.val, i.isLt.trans_le (by norm_num)⟩)) ≠ 0 := by
      refine ne_of_gt (lt_of_lt_of_le (hs (place (within v) ⟨(0 : Fin 8).val, (0 : Fin 8).isLt.trans_le (by norm_num)⟩)) ?_)
      exact Finset.single_le_sum (f := fun i : Fin 8 => s (place (within v) ⟨i.val, i.isLt.trans_le (by norm_num)⟩)) (fun i _ => (hs _).le) (Finset.mem_univ 0)
    rw [sum_miss (within v) 8 (by norm_num) _ p h, mark, if_neg h, zero_mul, Ideal.div, if_neg hS, zero_mul, zero_mul]

end Cert.Router

end
-- ==== Proof.RouterSpec.lean ====
/- The router at one gate: what the reference computes there, in coordinates. -/
module

public import proofs.«01_k».proof.Proof.RouterTop
public import proofs.«01_k».proof.Proof.MoeSpec
public import proofs.«01_k».proof.Proof.Gen.Reference10Ideal.Read
public import Idealize.ShloMosaic.Lib.Pipeline.ValueKit
public import Idealize.ShloMosaic.Lib.Pointwise
public import Idealize.ShloMosaic.Lib.KernelVsHost

@[expose] public section

set_option maxRecDepth 16384

noncomputable section

open Idealize.ShloMosaic Idealize.ShloMosaic.TcCoe Idealize.SL.Sem

namespace Cert.Router

open Cert.Reference10Ideal Cert.Reference10Ideal.Gen Cert.Reference10Ideal.Read

/-- The word 0x3F800000 is the number one. -/
theorem ofBits_one : Ideal.ofBits .f32 0x3F800000#32 = 1 := by
  simp [Ideal.ofBits, Ideal.ieee]
  norm_cast
  norm_num

/-- The zero word is the number zero. -/
theorem ofBits_zero : Ideal.ofBits .f32 0x00000000#32 = 0 := by
  simp [Ideal.ofBits, Ideal.ieee]

/-- The `k` greatest of the last axis: their values. -/
theorem topK_values {s t : Shape} (hr : t.rank = s.rank) (d : ℕ) (hd : d < s.rank) (n : ℕ) (hn : s.size ⟨d, hd⟩ = n) (x : FVec Ideal s .f32) (h : s.Slices (fun _ => 0) t)
    (j : t.Idx) (i : s.Idx) (hi : ∀ a : Fin s.rank, (i a).val = (j (a.cast hr.symm)).val) (l : Fin n → EReal) (line : Fin n → s.Idx)
    (hline : ∀ k : Fin n, line k = i.along ⟨d, hd⟩ (k.cast hn.symm)) (hl : ∀ k, x (line k) = l k) :
    (Host.topK t d (FloatOps.cmpfTotal .gt) x h).1 j = l (place l ((i ⟨d, hd⟩).cast hn))
      ∧ (Host.topK t d (FloatOps.cmpfTotal .gt) x h).2 j = BitVec.ofNat 32 (place l ((i ⟨d, hd⟩).cast hn)).val := by
  subst hn
  have hl' : l = fun k => x (i.along ⟨d, hd⟩ k) := funext fun k => (hl k).symm.trans (congrArg x (hline k))
  subst hl'
  have e : ∀ {α : Type} (y : s.Idx → α), extractStridedSlice t (fun _ => 0) y h j = y i := fun y =>
    extractStridedSlice_apply (fun _ => 0) y h j i (fun a => by rw [hi a, Nat.zero_add])
  unfold Host.topK Host.sort2
  dsimp only
  rw [dif_pos hd]
  refine ⟨(e _).trans rfl, (e _).trans ?_⟩
  dsimp only
  rw [dif_pos hd]
  show BitVec.ofNat 32 ((i.along ⟨d, hd⟩ _) ⟨d, hd⟩).val = _
  unfold Shape.Idx.along
  rw [Function.update_self]
  rfl

variable (x0 : FVec Ideal S17408x1024 .f32) (x1 : FVec Ideal S2x1024x64 .f32) (x2 : FVec Ideal S2x64 .f32)

/-- A token's score for an expert: the sigmoid of its product with the expert's weights. -/
def score (p : Fin 17408) (e : Fin 64) : EReal := Ideal.div 1 (1 + Ideal.exp (-(∑ k : Fin 1024, x0 (ix2 p k) * x1 (ix3 0 k e))))

/-- The score with the expert's bias: what the choice goes by. -/
def voted (p : Fin 17408) (e : Fin 64) : EReal := score x0 x1 p e + x2 (ix2 0 e)

/-- The reference's score of a token and an expert is `score`. -/
theorem score_at (p : Fin 17408) (e : Fin 64) : val_main_v8 (F := Ideal) x0 x1 (ix2 p e) = score x0 x1 p e := by
  have hk : ∀ k : Fin 1024, val_main_v1 (F := Ideal) x1 (ridx_main_v2 (ix2 p e) k) = x1 (ix3 0 k e) := fun k => by
    rw [val_main_v1_apply, val_main_v0_apply]
    refine congrArg x1 (funext fun a => Fin.ext ?_)
    match a with
    | ⟨0, _⟩ => rfl
    | ⟨1, _⟩ => show (k.val * 64 + e.val) / 64 % 1024 = k.val; omega
    | ⟨2, _⟩ => show (k.val * 64 + e.val) % 64 = e.val; omega
  have hl : ∀ k : Fin 1024, lidx_main_v2 (ix2 p e) k = ix2 p k := fun k => funext fun a => Fin.ext (by
    match a with
    | ⟨0, _⟩ => rfl
    | ⟨1, _⟩ => rfl)
  rw [val_main_v8_apply, val_main_v7_apply, val_main_cst_0_apply, val_main_v6_apply, val_main_v5_apply, val_main_cst_apply,
    val_main_v4_apply, val_main_v3_apply, val_main_v2_apply]
  simp only [hk, hl]
  show Ideal.div (Ideal.ofBits .f32 0x3F800000#32) (Ideal.ofBits .f32 0x3F800000#32 + Ideal.exp (-_)) = _
  rw [ofBits_one]
  rfl

/-- The reference's score with the bias added is `voted`. -/
theorem voted_at (p : Fin 17408) (e : Fin 64) : val_main_v13 (F := Ideal) x0 x1 x2 (ix2 p e) = voted x0 x1 x2 p e := by
  rw [val_main_v13_apply, score_at, val_main_v12_apply, val_main_v11_apply, val_main_v10_apply, val_main_v9_apply]
  refine congrArg (fun y : EReal => score x0 x1 p e + y) (congrArg x2 (funext fun a => Fin.ext ?_))
  match a with
  | ⟨0, _⟩ => rfl
  | ⟨1, _⟩ => show e.val % 64 = e.val; omega

/-- The votes by groups of eight. -/
theorem part_at (p : Fin 17408) (g q : Fin 8) : val_main_v14 (F := Ideal) x0 x1 x2 (ix3 p g q) = part (voted x0 x1 x2 p) g q := by
  rw [val_main_v14_apply]
  unfold part
  rw [← voted_at]
  refine congrArg (val_main_v13 (F := Ideal) x0 x1 x2) (funext fun a => Fin.ext ?_)
  match a with
  | ⟨0, _⟩ => show ((p.val * 8 + g.val) * 8 + q.val) / 64 = p.val; omega
  | ⟨1, _⟩ => show ((p.val * 8 + g.val) * 8 + q.val) % 64 = 8 * g.val + q.val; omega

/-- The two greatest of a group. -/
theorem two_at (p : Fin 17408) (g : Fin 8) (r : Fin 2) :
    val_main_values (F := Ideal) x0 x1 x2 (ix3 p g r) = part (voted x0 x1 x2 p) g (place (part (voted x0 x1 x2 p) g) ⟨r.val, by omega⟩) := by
  unfold val_main_values
  exact (topK_values (s := S17408x8x8) (t := S17408x8x2) rfl 2 (by decide) 8 rfl _ _ (ix3 p g r) (ix3 p g ⟨r.val, by omega⟩) (fun a => by
      match a with
      | ⟨0, _⟩ => rfl
      | ⟨1, _⟩ => rfl
      | ⟨2, _⟩ => rfl) (part (voted x0 x1 x2 p) g) (fun k => ix3 p g k) (fun k => by
      unfold Shape.Idx.along
      funext a
      match a with
      | ⟨0, _⟩ => rfl
      | ⟨1, _⟩ => rfl
      | ⟨2, _⟩ => rfl) (fun k => part_at x0 x1 x2 p g k)).1

/-- A group's score: the sum of its two greatest. -/
theorem groups_at (p : Fin 17408) (g : Fin 8) : val_main_v15 (F := Ideal) x0 x1 x2 (ix2 p g) = groups (voted x0 x1 x2 p) g := by
  rw [val_main_v15_apply, val_main_cst_1_apply]
  have h : ∀ r : Fin 2, idx_main_v15 (ix2 p g) r = ix3 p g r := fun r => funext fun a => Fin.ext (by
    match a with
    | ⟨0, _⟩ => rfl
    | ⟨1, _⟩ => rfl
    | ⟨2, _⟩ => rfl)
  simp only [h, two_at, Fin.sum_univ_two]
  show Ideal.ofBits .f32 0x00000000#32 + _ = _
  rw [ofBits_zero, zero_add]
  rfl

/-- The four best groups. -/
theorem four_at (p : Fin 17408) (r : Fin 4) :
    val_main_indices_3 (F := Ideal) x0 x1 x2 (ix2 p r) = BitVec.ofNat 32 (place (groups (voted x0 x1 x2 p)) ⟨r.val, by omega⟩).val := by
  unfold val_main_indices_3
  exact (topK_values (s := S17408x8) (t := S17408x4) rfl 1 (by decide) 8 rfl _ _ (ix2 p r) (ix2 p ⟨r.val, by omega⟩) (fun a => by
      match a with
      | ⟨0, _⟩ => rfl
      | ⟨1, _⟩ => rfl) (groups (voted x0 x1 x2 p)) (fun k => ix2 p k) (fun k => by
      unfold Shape.Idx.along
      funext a
      match a with
      | ⟨0, _⟩ => rfl
      | ⟨1, _⟩ => rfl) (fun k => groups_at x0 x1 x2 p k)).2

/-- A comparison of two small numbers' words, as a number. -/
theorem hit_word (a b : Fin 64) : (FloatOps.uitofp .f32 (IntOp.cmpi .eq (BitVec.ofNat 32 a.val) (BitVec.ofNat 32 b.val)) : Ideal .f32)
    = if a = b then (1 : EReal) else 0 := by
  have h : ∀ a b : Fin 64, IntOp.cmpi .eq (BitVec.ofNat 32 a.val) (BitVec.ofNat 32 b.val) = if a = b then 1#1 else 0#1 := by decide +kernel
  rw [h]
  split_ifs
  · show (((1#1 : BitVec 1).toNat : ℝ) : EReal) = 1
    norm_num
  · show (((0#1 : BitVec 1).toNat : ℝ) : EReal) = 0
    norm_num

/-- Whether a group is among the four best, as a number. -/
theorem mark_at (p : Fin 17408) (g : Fin 8) : val_main_v17 (F := Ideal) x0 x1 x2 (ix2 p g) = mark (groups (voted x0 x1 x2 p)) 4 g := by
  rw [val_main_v17_apply, val_main_cst_4_apply]
  have h : ∀ r : Fin 4, val_main_v16 (F := Ideal) x0 x1 x2 (idx_main_v17 (ix2 p g) r)
      = if place (groups (voted x0 x1 x2 p)) ⟨r.val, by omega⟩ = g then (1 : EReal) else 0 := fun r => by
    rw [val_main_v16_apply, val_main_call0_v4_apply, val_main_call0_v2_apply, val_main_call0_v0_apply, val_main_call0_v3_apply, val_main_call0_v1_apply]
    have hx : idx_main_call0_v0 (idx_main_call0_v2 (idx_main_v17 (ix2 p g) r)) = ix2 p r := funext fun a => Fin.ext (by
      match a with
      | ⟨0, _⟩ => rfl
      | ⟨1, _⟩ => rfl)
    rw [hx, four_at]
    refine (hit_word ⟨(place (groups (voted x0 x1 x2 p)) ⟨r.val, by omega⟩).val, by omega⟩ ⟨g.val, by omega⟩).trans ?_
    simp only [Fin.mk.injEq, Fin.ext_iff]
  simp only [h]
  show Ideal.ofBits .f32 0x00000000#32 + _ = _
  rw [ofBits_zero, zero_add]
  exact sum_mark (groups (voted x0 x1 x2 p)) 4 (by norm_num) g

/-- The votes within the four best groups. -/
theorem within_at (p : Fin 17408) (e : Fin 64) : val_main_v22 (F := Ideal) x0 x1 x2 (ix2 p e) = within (voted x0 x1 x2 p) e := by
  rw [val_main_v22_apply, voted_at, val_main_v21_apply, val_main_v20_apply, val_main_v19_apply, val_main_v18_apply, val_main_cst_5_apply,
    val_main_call1_v1_apply, val_main_call1_v0_apply, val_main_cst_6_apply]
  have hx : idx_main_v20 (idx_main_v21 (ix2 p e)) = ix2 p ⟨e.val / 8, by omega⟩ := funext fun a => Fin.ext (by
    match a with
    | ⟨0, _⟩ => show (p.val * 64 + e.val) / 64 = p.val; omega
    | ⟨1, _⟩ => show (p.val * 64 + e.val) / 8 % 8 = e.val / 8; omega)
  rw [hx, mark_at]
  show Scalar.select (Ideal.cmp .ogt (mark (groups (voted x0 x1 x2 p)) 4 ⟨e.val / 8, by omega⟩) (Ideal.ofBits .f32 0x00000000#32))
      (voted x0 x1 x2 p e) (Ideal.ofBits .f32 0xFF800000#32) = _
  rw [ofBits_zero, Softmax.ofBits_neg_inf]
  unfold Scalar.select Ideal.cmp within
  by_cases h : 0 < mark (groups (voted x0 x1 x2 p)) 4 ⟨e.val / 8, by omega⟩
  · simp [h]
  · simp [h]

/-- The expert of rank `r`. -/
def expert (p : Fin 17408) (r : Fin 8) : Fin 64 := place (within (voted x0 x1 x2 p)) ⟨r.val, by omega⟩

/-- The eight best experts. -/
theorem eight_at (p : Fin 17408) (r : Fin 8) : val_main_indices_8 (F := Ideal) x0 x1 x2 (ix2 p r) = BitVec.ofNat 32 (expert x0 x1 x2 p r).val := by
  unfold val_main_indices_8
  exact (topK_values (s := S17408x64) (t := S17408x8) rfl 1 (by decide) 64 rfl _ _ (ix2 p r) (ix2 p ⟨r.val, by omega⟩) (fun a => by
      match a with
      | ⟨0, _⟩ => rfl
      | ⟨1, _⟩ => rfl) (within (voted x0 x1 x2 p)) (fun k => ix2 p k) (fun k => by
      unfold Shape.Idx.along
      funext a
      match a with
      | ⟨0, _⟩ => rfl
      | ⟨1, _⟩ => rfl) (fun k => within_at x0 x1 x2 p k)).2

/-- The index that the reference looks up is in range as it stands. -/
theorem index_at (p : Fin 17408) (r : Fin 8) (z : Fin 1) :
    val_main_call2_v5 (F := Ideal) x0 x1 x2 (ix3 p r z) = BitVec.ofNat 32 (expert x0 x1 x2 p r).val := by
  have hx : idx_main_call2_v5 (ix3 p r z) = ix2 p r := funext fun a => Fin.ext (by
    match a with
    | ⟨0, _⟩ => show ((p.val * 8 + r.val) * 1 + z.val) / 8 = p.val; omega
    | ⟨1, _⟩ => show ((p.val * 8 + r.val) * 1 + z.val) % 8 = r.val; omega)
  rw [val_main_call2_v5_apply, hx, val_main_call2_v4_apply, val_main_call2_v1_apply, val_main_call2_v3_apply, eight_at,
    val_main_call2_v0_apply, val_main_call2_c_apply]
  have h : ∀ a : Fin 64, IntOp.cmpi .slt (BitVec.ofNat 32 a.val) 0#32 = 0#1 := by decide +kernel
  rw [h]
  rfl

/-- A conjunction over a list of bits that are all one is one. -/
theorem fold_ones {α : Type} (l : List α) (x : α → BitVec 1) (h : ∀ a, x a = 1#1) : l.foldl (fun r a => IntOp.andi r (x a)) 1#1 = 1#1 := by
  induction l with
  | nil => rfl
  | cons a l ih =>
    rw [List.foldl_cons, h a]
    exact ih

/-- No lookup is out of range. -/
theorem inside_at (i : S17408x8.Idx) : val_main_call2_v12 (F := Ideal) x0 x1 x2 i = 1#1 := by
  have h : ∀ j : S17408x8x1.Idx, val_main_call2_v11 (F := Ideal) x0 x1 x2 j = 1#1 := fun j => by
    have hj : val_main_call2_v5 (F := Ideal) x0 x1 x2 j = BitVec.ofNat 32 (expert x0 x1 x2 (j 0) (j 1)).val :=
      (congrArg (val_main_call2_v5 (F := Ideal) x0 x1 x2) (funext fun a => by
        match a with
        | ⟨0, _⟩ => rfl
        | ⟨1, _⟩ => rfl
        | ⟨2, _⟩ => rfl)).trans (index_at x0 x1 x2 (j 0) (j 1) (j 2))
    rw [val_main_call2_v11_apply, val_main_call2_v7_apply, val_main_call2_v10_apply, val_main_call2_v6_apply, val_main_call2_c_2_apply,
      val_main_call2_v9_apply, val_main_call2_v8_apply, val_main_call2_c_1_apply, hj]
    have h : ∀ a : Fin 64, IntOp.andi (IntOp.cmpi .sge (BitVec.ofNat 32 a.val) 0#32) (IntOp.cmpi .sle (BitVec.ofNat 32 a.val) 63#32) = 1#1 := by decide +kernel
    exact h _
  unfold val_main_call2_v12 Host.reduce
  exact fold_ones _ _ fun n => h _

/-- The reference's lookup of a score. -/
theorem lookup_at (x : FVec Ideal S17408x64 .f32) (idx : IVec S17408x8x1 32) (p : Fin 17408) (r : Fin 8) (n : Fin 64)
    (hn : idx (ix3 p r 0) = BitVec.ofNat 32 n.val) :
    Host.gather gather_S17408x64_S17408x8x1_S17408x8_n_1_0_0_1_2_11 x idx (ix2 p r) = x (ix2 p n) := by
  unfold Host.gather
  refine congrArg x (funext fun a => Fin.ext ?_)
  match a with
  | ⟨0, _⟩ =>
    show GatherDims.start _ _ idx 0 + GatherDims.batchCoord _ _ 0 + GatherDims.offCoord _ _ 0 = p.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ GatherDims.operandBatchingDims gather_S17408x64_S17408x8x1_S17408x8_n_1_0_0_1_2_11 from List.mem_singleton.mpr rfl)]
    rfl
  | ⟨1, _⟩ =>
    show GatherDims.start _ _ idx 1 + GatherDims.batchCoord _ _ 1 + GatherDims.offCoord _ _ 1 = n.val
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ GatherDims.startIndexMap gather_S17408x64_S17408x8x1_S17408x8_n_1_0_0_1_2_11 from List.mem_singleton.mpr rfl)]
    have hsi : GatherDims.siIdx gather_S17408x64_S17408x8x1_S17408x8_n_1_0_0_1_2_11 (ix2 p r)
        ⟨List.idxOf (1 : Fin 2) (GatherDims.startIndexMap gather_S17408x64_S17408x8x1_S17408x8_n_1_0_0_1_2_11),
          List.idxOf_lt_length_iff.2 (List.mem_singleton.mpr rfl)⟩ = ix3 p r 0 := by
      funext b; refine Fin.ext ?_
      match b with
      | ⟨0, _⟩ => rfl
      | ⟨1, _⟩ => rfl
      | ⟨2, _⟩ => rfl
    rw [hsi, hn]
    have h : ∀ n : Fin 64, min (BitVec.ofNat 32 n.val).toInt.toNat (64 - 1) = n.val := by decide +kernel
    exact h n

/-- The score of the expert of rank `r`. -/
theorem chosen_at (p : Fin 17408) (r : Fin 8) : val_main_v23 (F := Ideal) x0 x1 x2 (ix2 p r) = score x0 x1 p (expert x0 x1 x2 p r) := by
  rw [val_main_v23_apply, inside_at]
  unfold val_main_call2_v13
  rw [lookup_at _ _ p r _ (index_at x0 x1 x2 p r 0), score_at]
  rfl

/-- The gate of the expert of rank `r`. -/
theorem share_at (p : Fin 17408) (r : Fin 8) : val_main_v29 (F := Ideal) x0 x1 x2 (ix2 p r)
    = Ideal.div (score x0 x1 p (expert x0 x1 x2 p r)) (∑ i : Fin 8, score x0 x1 p (expert x0 x1 x2 p i)) * Ideal.ofBits .f32 0x40200000#32 := by
  have hx : ∀ i : Fin 8, idx_main_v24 (idx_main_v25 (idx_main_v26 (ix2 p r))) i = ix2 p i := fun i => funext fun a => Fin.ext (by
    match a with
    | ⟨0, _⟩ => rfl
    | ⟨1, _⟩ => rfl)
  rw [val_main_v29_apply, val_main_v27_apply, chosen_at, val_main_v26_apply, val_main_v25_apply, val_main_v24_apply, val_main_v28_apply,
    val_main_cst_9_apply, val_main_cst_10_apply]
  simp only [hx, chosen_at]
  show Ideal.div _ (Ideal.ofBits .f32 0x00000000#32 + _) * _ = _
  rw [ofBits_zero, zero_add]
  rfl

/-- The reference's gate of an expert for a token. -/
theorem reference_at (e : Fin 64) (p : Fin 17408) (hs : ∀ e, 0 < score x0 x1 p e) :
    val_main_v35 (F := Ideal) x0 x1 x2 (ix2 e p) = gate (score x0 x1 p) (voted x0 x1 x2 p) e := by
  have h35 : idx_main_v35 (ix2 e p) = ix2 p e := funext fun a => Fin.ext (by
    match a with
    | ⟨0, _⟩ => rfl
    | ⟨1, _⟩ => rfl)
  rw [val_main_v35_apply, h35, val_main_v34_apply, val_main_cst_11_apply]
  have h : ∀ r : Fin 8, val_main_v33 (F := Ideal) x0 x1 x2 (idx_main_v34 (ix2 p e) r)
      = (if expert x0 x1 x2 p r = e then (1 : EReal) else 0) * (Ideal.div (score x0 x1 p (expert x0 x1 x2 p r))
        (∑ i : Fin 8, score x0 x1 p (expert x0 x1 x2 p i)) * Ideal.ofBits .f32 0x40200000#32) := fun r => by
    rw [val_main_v33_apply, val_main_v30_apply, val_main_call3_v4_apply, val_main_call3_v2_apply, val_main_call3_v0_apply,
      val_main_call3_v3_apply, val_main_call3_v1_apply, val_main_v32_apply, val_main_v31_apply]
    have hx : idx_main_call3_v0 (idx_main_call3_v2 (idx_main_v34 (ix2 p e) r)) = ix2 p r := funext fun a => Fin.ext (by
      match a with
      | ⟨0, _⟩ => rfl
      | ⟨1, _⟩ => rfl)
    have hy : idx_main_v31 (idx_main_v32 (idx_main_v34 (ix2 p e) r)) = ix2 p r := funext fun a => Fin.ext (by
      match a with
      | ⟨0, _⟩ => rfl
      | ⟨1, _⟩ => rfl)
    rw [hx, hy, eight_at, share_at]
    exact congrArg (fun y : EReal => y * _) (hit_word (expert x0 x1 x2 p r) e)
  simp only [h]
  show Ideal.ofBits .f32 0x00000000#32 + _ = _
  rw [ofBits_zero, zero_add, gate_eq _ _ hs]
  rfl

end Cert.Router

end
-- ==== Proof.RouterTile.lean ====
/- The router's tile: one grid point's gates as rounds of taking the first greatest entry. -/
module

public import proofs.«01_k».proof.Proof.RouterTop
public import proofs.«01_k».proof.Proof.MoeSpec
public import proofs.«01_k».proof.Proof.Gen.Kernel10Ideal.Value
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

namespace Cert.Kernel10Ideal.ValueRouter

open Cert.Kernel10Ideal Cert.Kernel10Ideal.Gen

/-- The greatest entry of each column of eight. -/
def colMax8 (v : FVec Ideal S8x512 .f32) : FVec Ideal S1x512 .f32 :=
  shapeCast S1x512 (multiReduction .maximumf [0] S512 v 0xFF800000#32 reduces_S8x512_S512 (.inl rfl) rfl) shapeCasts_S512_S1x512

/-- Where in each column of eight the first entry equal to `m` stands. -/
def hit8 (v : FVec Ideal S8x512 .f32) (m : FVec Ideal S1x512 .f32) : IVec S8x512 1 :=
  cmpi .eq (iota .tc S8x512 32 [0] iota_S8x512_d0_w32) (broadcastTo S8x512 (shapeCast S1x512
    (multiReductionI .minsi [0] S512 (select (cmpf .oeq v (broadcastTo S8x512 m broadcasts_S1x512_S8x512))
      (iota .tc S8x512 32 [0] iota_S8x512_d0_w32) (broadcast S8x512 8#32)) 2147483647#32 reduces_S8x512_S512 rfl)
    shapeCasts_S512_S1x512) broadcasts_S1x512_S8x512)

/-- The columns with their first greatest entry struck out. -/
def strike8 (v : FVec Ideal S8x512 .f32) : FVec Ideal S8x512 .f32 :=
  select (hit8 v (colMax8 v)) (broadcast S8x512 (Scalar.ofBits .f32 0xFF800000#32)) v

/-- The marks `c`, and a mark at each column's first greatest entry. -/
def mark8 (v c : FVec Ideal S8x512 .f32) : FVec Ideal S8x512 .f32 :=
  select (hit8 v (colMax8 v)) (broadcast S8x512 (Scalar.ofBits .f32 0x3F800000#32)) c

/-- The greatest entry of each column of 64. -/
def colMax64 (v : FVec Ideal S64x512 .f32) : FVec Ideal S1x512 .f32 :=
  shapeCast S1x512 (multiReduction .maximumf [0] S512 v 0xFF800000#32 reduces_S64x512_S512 (.inl rfl) rfl) shapeCasts_S512_S1x512

/-- Where in each column of 64 the first entry equal to `m` stands. -/
def hit64 (v : FVec Ideal S64x512 .f32) (m : FVec Ideal S1x512 .f32) : IVec S64x512 1 :=
  cmpi .eq (iota .tc S64x512 32 [0] iota_S64x512_d0_w32) (broadcastTo S64x512 (shapeCast S1x512
    (multiReductionI .minsi [0] S512 (select (cmpf .oeq v (broadcastTo S64x512 m broadcasts_S1x512_S64x512))
      (iota .tc S64x512 32 [0] iota_S64x512_d0_w32) (broadcast S64x512 64#32)) 2147483647#32 reduces_S64x512_S512 rfl)
    shapeCasts_S512_S1x512) broadcasts_S1x512_S64x512)

/-- The columns of 64 with their first greatest entry struck out. -/
def strike64 (v : FVec Ideal S64x512 .f32) : FVec Ideal S64x512 .f32 :=
  select (hit64 v (colMax64 v)) (broadcast S64x512 (Scalar.ofBits .f32 0xFF800000#32)) v

/-- The marks `c`, and a mark at each column's first greatest entry, of 64. -/
def mark64 (v c : FVec Ideal S64x512 .f32) : FVec Ideal S64x512 .f32 :=
  select (hit64 v (colMax64 v)) (broadcast S64x512 (Scalar.ofBits .f32 0x3F800000#32)) c

/-- Eight rows from row `o`. -/
def group (o : ℕ) (h : S64x512.Slices ![o, 0] S8x512) (v : FVec Ideal S64x512 .f32) : FVec Ideal S8x512 .f32 :=
  extractStridedSlice S8x512 ![o, 0] v h

/-- The scores `acc` of the groups, and group `w`'s: its two greatest entries' sum. -/
def put (w : BitVec 32) (x acc : FVec Ideal S8x512 .f32) : FVec Ideal S8x512 .f32 :=
  select (cmpi .eq (iota .tc S8x512 32 [0] iota_S8x512_d0_w32) (broadcast S8x512 w))
    (broadcastTo S8x512 (shapeCast S1x512 (addf (colMax8 x) (colMax8 (strike8 x))) shapeCasts_S1x512_S1x512) broadcasts_S1x512_S8x512) acc

/-- The groups' scores. -/
def groupScores (v : FVec Ideal S64x512 .f32) : FVec Ideal S8x512 .f32 :=
  put 7#32 (group 56 slices_S64x512_o56_0_S8x512 v) <| put 6#32 (group 48 slices_S64x512_o48_0_S8x512 v) <|
  put 5#32 (group 40 slices_S64x512_o40_0_S8x512 v) <| put 4#32 (group 32 slices_S64x512_o32_0_S8x512 v) <|
  put 3#32 (group 24 slices_S64x512_o24_0_S8x512 v) <| put 2#32 (group 16 slices_S64x512_o16_0_S8x512 v) <|
  put 1#32 (group 8 slices_S64x512_o8_0_S8x512 v) <| put 0#32 (group 0 slices_S64x512_o0_0_S8x512 v) <|
  broadcast S8x512 (Scalar.ofBits .f32 0x00000000#32)

/-- The columns after `k` rounds. -/
def rounds8 (v : FVec Ideal S8x512 .f32) : ℕ → FVec Ideal S8x512 .f32
  | 0 => v
  | k + 1 => strike8 (rounds8 v k)

/-- The marks after `k` rounds. -/
def marks8 (v : FVec Ideal S8x512 .f32) : ℕ → FVec Ideal S8x512 .f32
  | 0 => broadcast S8x512 (Scalar.ofBits .f32 0x00000000#32)
  | k + 1 => mark8 (rounds8 v k) (marks8 v k)

/-- The columns of 64 after `k` rounds. -/
def rounds64 (v : FVec Ideal S64x512 .f32) : ℕ → FVec Ideal S64x512 .f32
  | 0 => v
  | k + 1 => strike64 (rounds64 v k)

/-- The marks after `k` rounds, of 64. -/
def marks64 (v : FVec Ideal S64x512 .f32) : ℕ → FVec Ideal S64x512 .f32
  | 0 => broadcast S64x512 (Scalar.ofBits .f32 0x00000000#32)
  | k + 1 => mark64 (rounds64 v k) (marks64 v k)

/-- A group's rows where the group is marked, and minus infinity where it is not. -/
def keep (g : ℕ) (hg : S8x512.Slices ![g, 0] S1x512) (x c : FVec Ideal S8x512 .f32) : FVec Ideal S8x512 .f32 :=
  select (broadcastTo S8x512 (shapeCast S1x512 (cmpf .ogt (extractStridedSlice S1x512 ![g, 0] c hg)
    (broadcast S1x512 (Scalar.ofBits .f32 0x00000000#32))) shapeCasts_S1x512_S1x512) broadcasts_S1x512_S8x512) x
    (broadcast S8x512 (Scalar.ofBits .f32 0xFF800000#32))

/-- The rows of the marked groups. -/
def masked (v : FVec Ideal S64x512 .f32) (c : FVec Ideal S8x512 .f32) : FVec Ideal S64x512 .f32 :=
  concatenate S64x512 0 [⟨S8x512, keep 0 slices_S8x512_o0_0_S1x512 (group 0 slices_S64x512_o0_0_S8x512 v) c⟩,
    ⟨S8x512, keep 1 slices_S8x512_o1_0_S1x512 (group 8 slices_S64x512_o8_0_S8x512 v) c⟩,
    ⟨S8x512, keep 2 slices_S8x512_o2_0_S1x512 (group 16 slices_S64x512_o16_0_S8x512 v) c⟩,
    ⟨S8x512, keep 3 slices_S8x512_o3_0_S1x512 (group 24 slices_S64x512_o24_0_S8x512 v) c⟩,
    ⟨S8x512, keep 4 slices_S8x512_o4_0_S1x512 (group 32 slices_S64x512_o32_0_S8x512 v) c⟩,
    ⟨S8x512, keep 5 slices_S8x512_o5_0_S1x512 (group 40 slices_S64x512_o40_0_S8x512 v) c⟩,
    ⟨S8x512, keep 6 slices_S8x512_o6_0_S1x512 (group 48 slices_S64x512_o48_0_S8x512 v) c⟩,
    ⟨S8x512, keep 7 slices_S8x512_o7_0_S1x512 (group 56 slices_S64x512_o56_0_S8x512 v) c⟩]
    concatenates_S8x512_S8x512_S8x512_S8x512_S8x512_S8x512_S8x512_S8x512_S64x512_d0

/-- The marked scores, divided by their sum and scaled. -/
def share (s c : FVec Ideal S64x512 .f32) : FVec Ideal S64x512 .f32 :=
  mulf (divf (mulf c s) (broadcastTo S64x512 (shapeCast S1x512
    (multiReduction .add [0] S512 (mulf c s) 0x00000000#32 reduces_S64x512_S512 (.inl rfl) rfl) shapeCasts_S512_S1x512) broadcasts_S1x512_S64x512))
    (broadcast S64x512 (Scalar.ofBits .f32 0x40200000#32))

/-- The gates, from the scores and the scores with their biases. -/
def gates (s v : FVec Ideal S64x512 .f32) : FVec Ideal S64x512 .f32 :=
  share s (marks64 (masked v (marks8 (groupScores v) 4)) 8)

section stages

variable (x0 : Vec Ideal S512x1024 .f32) (x1 : Vec Ideal S64x1024 .f32) (x2 : Vec Ideal S64x1 .f32)

/-- The first load reads the whole window of the weights. -/
theorem ld0 : View.ld x1 r0_0 = x1 := by frame_out
/-- The second load reads the whole window of the tokens. -/
theorem ld1 : View.ld x0 r0_1 = x0 := by frame_out
/-- The third load reads the whole window of the biases. -/
theorem ld2 : View.ld x2 r0_2 = x2 := by frame_out

/-- The scores that the gates read are the ones the votes were made of. -/
theorem stage54 : k0_pay54 x0 x1 x2 = k0_pay3 x1 x0 x2 := by
  unfold k0_pay54
  rw [ld0, ld1, ld2]

/-- The scores of all groups but the last. -/
theorem stage55 : k0_pay55 x0 x1 x2 = (fun v =>
    put 6#32 (group 48 slices_S64x512_o48_0_S8x512 v) <|
    put 5#32 (group 40 slices_S64x512_o40_0_S8x512 v) <| put 4#32 (group 32 slices_S64x512_o32_0_S8x512 v) <|
    put 3#32 (group 24 slices_S64x512_o24_0_S8x512 v) <| put 2#32 (group 16 slices_S64x512_o16_0_S8x512 v) <|
    put 1#32 (group 8 slices_S64x512_o8_0_S8x512 v) <| put 0#32 (group 0 slices_S64x512_o0_0_S8x512 v) <|
    broadcast S8x512 (Scalar.ofBits .f32 0x00000000#32)) (k0_pay3 x1 x0 x2) := by
  unfold k0_pay55
  rw [ld0, ld1, ld2, stage54]
  rfl

/-- The marks of the groups. -/
theorem stage63 : k0_pay63 x0 x1 x2 = marks8 (groupScores (k0_pay3 x1 x0 x2)) 4 := by
  unfold k0_pay63 k0_pay59 k0_pay60 k0_pay61 k0_pay62 k0_pay56 k0_pay57
  rw [stage54, stage55]
  generalize k0_pay3 x1 x0 x2 = v
  rfl

/-- The rows of the marked groups. -/
theorem stage69 : k0_pay69 x0 x1 x2 = masked (k0_pay3 x1 x0 x2) (marks8 (groupScores (k0_pay3 x1 x0 x2)) 4) := by
  rw [← stage63]
  unfold k0_pay69 k0_pay64 k0_pay65 k0_pay66 k0_pay67
  rw [stage54]
  rfl

end stages

/-- What a grid point stores is the gates of its scores. -/
theorem stored (x0 : Vec Ideal S512x1024 .f32) (x1 : Vec Ideal S64x1024 .f32) (x2 : Vec Ideal S64x1 .f32) (y : S64x512.Idx) :
    out0_3 x0 x1 x2 y = gates (k0_pay2 x1 x0) (k0_pay3 x1 x0 x2) y := by
  frame_out
  unfold gates
  rw [← stage69]
  unfold k0_pay71
  rfl

/-- A column of eight. -/
def col8 (v : FVec Ideal S8x512 .f32) (j : Fin 512) (p : Fin 8) : EReal := v (ix2 p j)

/-- A column of 64. -/
def col64 (v : FVec Ideal S64x512 .f32) (j : Fin 512) (p : Fin 64) : EReal := v (ix2 p j)

/-- The word 0x3F800000 is the number one. -/
theorem ofBits_one : Ideal.ofBits .f32 0x3F800000#32 = 1 := by
  simp [Ideal.ofBits, Ideal.ieee]
  norm_cast
  norm_num

/-- The zero word is the number zero. -/
theorem ofBits_zero : Ideal.ofBits .f32 0x00000000#32 = 0 := by
  simp [Ideal.ofBits, Ideal.ieee]

/-- Below eight, two positions written as words are equal just when they are the same. -/
theorem eq_word8 : ∀ p q : Fin 8, IntOp.cmpi .eq (BitVec.ofNat 32 p.val) (BitVec.ofNat 32 q.val) = if p = q then 1#1 else 0#1 := by decide +kernel

/-- Below sixty-four, two positions written as words are equal just when they are the same. -/
theorem eq_word64 : ∀ p q : Fin 64, IntOp.cmpi .eq (BitVec.ofNat 32 p.val) (BitVec.ofNat 32 q.val) = if p = q then 1#1 else 0#1 := by decide +kernel

/-- The greatest entry of a column. -/
theorem colMax8_at (v : FVec Ideal S8x512 .f32) (j : Fin 512) : colMax8 v (ix2 0 j) = Softmax.top (col8 v j) := by
  pointwise [colMax8]
  rw [Softmax.ofBits_neg_inf]
  rfl

/-- Where the first greatest entry of a column stands. -/
theorem hit8_at (v : FVec Ideal S8x512 .f32) (j : Fin 512) (q : Fin 8) (hq : Router.FirstTop (col8 v j) q) (p : Fin 8) :
    hit8 v (colMax8 v) (ix2 p j) = if p = q then 1#1 else 0#1 := by
  have hw := Router.least_word (by norm_num) (col8 v j) q hq
  rw [← colMax8_at] at hw
  generalize colMax8 v = m at hw
  have e : hit8 v m (ix2 p j) = IntOp.cmpi .eq (BitVec.ofNat 32 p.val) (Finset.univ.fold IntOp.minsi (2147483647#32)
      (fun x : Fin 8 => if col8 v j x = m (ix2 0 j) then BitVec.ofNat 32 x.val else BitVec.ofNat 32 8)) := by
    pointwise [hit8]
    rfl
  rw [e, hw]
  exact eq_word8 p q

/-- Striking the first greatest of the eight groups, in one column. -/
theorem strike8_at (v : FVec Ideal S8x512 .f32) (j : Fin 512) (q : Fin 8) (hq : Router.FirstTop (col8 v j) q) (p : Fin 8) :
    strike8 v (ix2 p j) = if p = q then (⊥ : EReal) else v (ix2 p j) := by
  have e : strike8 v (ix2 p j) = Scalar.select (hit8 v (colMax8 v) (ix2 p j)) (Ideal.ofBits .f32 0xFF800000#32) (v (ix2 p j)) := rfl
  rw [e, hit8_at v j q hq, Softmax.ofBits_neg_inf]
  split_ifs <;> rfl

/-- Marking the first greatest of the eight groups, in one column. -/
theorem mark8_at (v c : FVec Ideal S8x512 .f32) (j : Fin 512) (q : Fin 8) (hq : Router.FirstTop (col8 v j) q) (p : Fin 8) :
    mark8 v c (ix2 p j) = if p = q then (1 : EReal) else c (ix2 p j) := by
  have e : mark8 v c (ix2 p j) = Scalar.select (hit8 v (colMax8 v) (ix2 p j)) (Ideal.ofBits .f32 0x3F800000#32) (c (ix2 p j)) := rfl
  rw [e, hit8_at v j q hq, ofBits_one]
  split_ifs <;> rfl

/-- After `k` rounds the `k` greatest entries of a column are struck out. -/
theorem rounds8_at (v : FVec Ideal S8x512 .f32) (j : Fin 512) (k : ℕ)
    (hf : ∀ r : Fin 8, r.val < k → col8 v j (Router.place (col8 v j) r) ≠ ⊥) (hk : k ≤ 8) :
    col8 (rounds8 v k) j = Router.left (col8 v j) k := by
  induction k with
  | zero => exact (Router.left_zero _).symm
  | succ k ih =>
    have ih := ih (fun r hr => hf r (Nat.lt_succ_of_lt hr)) (by omega)
    have ht := Router.first_left (col8 v j) ⟨k, by omega⟩ (hf ⟨k, by omega⟩ (Nat.lt_succ_self k))
    rw [← ih] at ht
    funext p
    refine (strike8_at (rounds8 v k) j _ ht p).trans ?_
    rw [Router.left_succ (col8 v j) ⟨k, by omega⟩ p, ← ih]
    rfl

/-- After `k` rounds the `k` greatest entries of a column are marked. -/
theorem marks8_at (v : FVec Ideal S8x512 .f32) (j : Fin 512) (k : ℕ)
    (hf : ∀ r : Fin 8, r.val < k → col8 v j (Router.place (col8 v j) r) ≠ ⊥) (hk : k ≤ 8) (p : Fin 8) :
    marks8 v k (ix2 p j) = Router.mark (col8 v j) k p := by
  induction k with
  | zero =>
    rw [Router.mark_zero]
    exact ofBits_zero
  | succ k ih =>
    have hr := rounds8_at v j k (fun r hr => hf r (Nat.lt_succ_of_lt hr)) (by omega)
    have ih := ih (fun r hr => hf r (Nat.lt_succ_of_lt hr)) (by omega)
    have ht := Router.first_left (col8 v j) ⟨k, by omega⟩ (hf ⟨k, by omega⟩ (Nat.lt_succ_self k))
    rw [← hr] at ht
    refine (mark8_at (rounds8 v k) (marks8 v k) j _ ht p).trans ?_
    rw [ih, Router.mark_succ (col8 v j) ⟨k, by omega⟩ p]

/-- The greatest entry of a column. -/
theorem colMax64_at (v : FVec Ideal S64x512 .f32) (j : Fin 512) : colMax64 v (ix2 0 j) = Softmax.top (col64 v j) := by
  pointwise [colMax64]
  rw [Softmax.ofBits_neg_inf]
  rfl

/-- Where the first greatest entry of a column stands. -/
theorem hit64_at (v : FVec Ideal S64x512 .f32) (j : Fin 512) (q : Fin 64) (hq : Router.FirstTop (col64 v j) q) (p : Fin 64) :
    hit64 v (colMax64 v) (ix2 p j) = if p = q then 1#1 else 0#1 := by
  have hw := Router.least_word (by norm_num) (col64 v j) q hq
  rw [← colMax64_at] at hw
  generalize colMax64 v = m at hw
  have e : hit64 v m (ix2 p j) = IntOp.cmpi .eq (BitVec.ofNat 32 p.val) (Finset.univ.fold IntOp.minsi (2147483647#32)
      (fun x : Fin 64 => if col64 v j x = m (ix2 0 j) then BitVec.ofNat 32 x.val else BitVec.ofNat 32 64)) := by
    pointwise [hit64]
    rfl
  rw [e, hw]
  exact eq_word64 p q

/-- Striking the first greatest of the sixty-four experts, in one column. -/
theorem strike64_at (v : FVec Ideal S64x512 .f32) (j : Fin 512) (q : Fin 64) (hq : Router.FirstTop (col64 v j) q) (p : Fin 64) :
    strike64 v (ix2 p j) = if p = q then (⊥ : EReal) else v (ix2 p j) := by
  have e : strike64 v (ix2 p j) = Scalar.select (hit64 v (colMax64 v) (ix2 p j)) (Ideal.ofBits .f32 0xFF800000#32) (v (ix2 p j)) := rfl
  rw [e, hit64_at v j q hq, Softmax.ofBits_neg_inf]
  split_ifs <;> rfl

/-- Marking the first greatest of the sixty-four experts, in one column. -/
theorem mark64_at (v c : FVec Ideal S64x512 .f32) (j : Fin 512) (q : Fin 64) (hq : Router.FirstTop (col64 v j) q) (p : Fin 64) :
    mark64 v c (ix2 p j) = if p = q then (1 : EReal) else c (ix2 p j) := by
  have e : mark64 v c (ix2 p j) = Scalar.select (hit64 v (colMax64 v) (ix2 p j)) (Ideal.ofBits .f32 0x3F800000#32) (c (ix2 p j)) := rfl
  rw [e, hit64_at v j q hq, ofBits_one]
  split_ifs <;> rfl

/-- After `k` rounds the `k` greatest entries of a column are struck out. -/
theorem rounds64_at (v : FVec Ideal S64x512 .f32) (j : Fin 512) (k : ℕ)
    (hf : ∀ r : Fin 64, r.val < k → col64 v j (Router.place (col64 v j) r) ≠ ⊥) (hk : k ≤ 64) :
    col64 (rounds64 v k) j = Router.left (col64 v j) k := by
  induction k with
  | zero => exact (Router.left_zero _).symm
  | succ k ih =>
    have ih := ih (fun r hr => hf r (Nat.lt_succ_of_lt hr)) (by omega)
    have ht := Router.first_left (col64 v j) ⟨k, by omega⟩ (hf ⟨k, by omega⟩ (Nat.lt_succ_self k))
    rw [← ih] at ht
    funext p
    refine (strike64_at (rounds64 v k) j _ ht p).trans ?_
    rw [Router.left_succ (col64 v j) ⟨k, by omega⟩ p, ← ih]
    rfl

/-- After `k` rounds the `k` greatest entries of a column are marked. -/
theorem marks64_at (v : FVec Ideal S64x512 .f32) (j : Fin 512) (k : ℕ)
    (hf : ∀ r : Fin 64, r.val < k → col64 v j (Router.place (col64 v j) r) ≠ ⊥) (hk : k ≤ 64) (p : Fin 64) :
    marks64 v k (ix2 p j) = Router.mark (col64 v j) k p := by
  induction k with
  | zero =>
    rw [Router.mark_zero]
    exact ofBits_zero
  | succ k ih =>
    have hr := rounds64_at v j k (fun r hr => hf r (Nat.lt_succ_of_lt hr)) (by omega)
    have ih := ih (fun r hr => hf r (Nat.lt_succ_of_lt hr)) (by omega)
    have ht := Router.first_left (col64 v j) ⟨k, by omega⟩ (hf ⟨k, by omega⟩ (Nat.lt_succ_self k))
    rw [← hr] at ht
    refine (mark64_at (rounds64 v k) (marks64 v k) j _ ht p).trans ?_
    rw [ih, Router.mark_succ (col64 v j) ⟨k, by omega⟩ p]

/-- A group's score in a column: its two greatest entries' sum. -/
theorem pair_at (x : FVec Ideal S8x512 .f32) (j : Fin 512) (hx : ∀ p, col8 x j p ≠ ⊥) :
    addf (colMax8 x) (colMax8 (strike8 x)) (ix2 0 j) = Router.pair (col8 x j) := by
  have e : addf (colMax8 x) (colMax8 (strike8 x)) (ix2 0 j) = (colMax8 x (ix2 0 j) : EReal) + colMax8 (strike8 x) (ix2 0 j) := rfl
  have h0 := Router.top_left (col8 x j) 0 (hx _)
  have h1 := Router.top_left (col8 x j) 1 (hx _)
  have hr := rounds8_at x j 1 (fun _ _ => hx _) (by norm_num)
  have h0' : Softmax.top (col8 x j) = col8 x j (Router.place (col8 x j) 0) := by
    rw [← h0]
    exact congrArg Softmax.top (Router.left_zero _).symm
  have h1' : Softmax.top (col8 (strike8 x) j) = col8 x j (Router.place (col8 x j) 1) := by
    rw [← h1]
    exact congrArg Softmax.top hr
  rw [e, colMax8_at, colMax8_at, h0', h1']
  rfl

/-- Putting a group's score in its row. -/
theorem put_at (w : Fin 8) (x acc : FVec Ideal S8x512 .f32) (j : Fin 512) (hx : ∀ p, col8 x j p ≠ ⊥) (g : Fin 8) :
    put (BitVec.ofNat 32 w.val) x acc (ix2 g j) = if g = w then Router.pair (col8 x j) else acc (ix2 g j) := by
  have hp := pair_at x j hx
  unfold put
  generalize addf (colMax8 x) (colMax8 (strike8 x)) = m at hp ⊢
  have e : ∀ b : BitVec 32, select (cmpi .eq (iota .tc S8x512 32 [0] iota_S8x512_d0_w32) (broadcast S8x512 b))
      (broadcastTo S8x512 (shapeCast S1x512 m shapeCasts_S1x512_S1x512) broadcasts_S1x512_S8x512) acc (ix2 g j)
      = Scalar.select (IntOp.cmpi .eq (BitVec.ofNat 32 g.val) b) (m (ix2 0 j)) (acc (ix2 g j)) := fun b => by
    pointwise
  rw [e, eq_word8, hp]
  split_ifs <;> rfl

/-- The column of a group within the tile. -/
theorem group_at (g : Fin 8) (o : ℕ) (ho : o = 8 * g.val) (h : S64x512.Slices ![o, 0] S8x512) (v : FVec Ideal S64x512 .f32) (j : Fin 512) :
    col8 (group o h v) j = Router.part (col64 v j) g := by
  subst ho
  funext p
  unfold col8 group Router.part col64
  pointwise

/-- Putting the score of a group of the tile in its row. -/
theorem put_group (w : Fin 8) (b : BitVec 32) (hb : b = BitVec.ofNat 32 w.val) (o : ℕ) (ho : o = 8 * w.val) (h : S64x512.Slices ![o, 0] S8x512)
    (v : FVec Ideal S64x512 .f32) (acc : FVec Ideal S8x512 .f32) (j : Fin 512) (hv : ∀ p, col64 v j p ≠ ⊥) (g : Fin 8) :
    put b (group o h v) acc (ix2 g j) = if g = w then Router.groups (col64 v j) w else acc (ix2 g j) := by
  subst hb
  have hg := group_at w o ho h v j
  rw [put_at w _ acc j (fun p => by rw [hg]; exact hv _) g, hg]
  rfl

/-- The groups' scores in a column. -/
theorem groupScores_at (v : FVec Ideal S64x512 .f32) (j : Fin 512) (hv : ∀ p, col64 v j p ≠ ⊥) (g : Fin 8) :
    groupScores v (ix2 g j) = Router.groups (col64 v j) g := by
  unfold groupScores
  rw [put_group 7 7#32 rfl 56 rfl _ _ _ _ hv, put_group 6 6#32 rfl 48 rfl _ _ _ _ hv, put_group 5 5#32 rfl 40 rfl _ _ _ _ hv,
    put_group 4 4#32 rfl 32 rfl _ _ _ _ hv, put_group 3 3#32 rfl 24 rfl _ _ _ _ hv, put_group 2 2#32 rfl 16 rfl _ _ _ _ hv,
    put_group 1 1#32 rfl 8 rfl _ _ _ _ hv, put_group 0 0#32 rfl 0 rfl _ _ _ _ hv]
  fin_cases g <;> rfl

/-- A group's rows, kept or not. -/
theorem keep_at (g : Fin 8) (o : ℕ) (ho : o = g.val) (hg : S8x512.Slices ![o, 0] S1x512) (x c : FVec Ideal S8x512 .f32) (q : Fin 8) (j : Fin 512) :
    keep o hg x c (ix2 q j) = if 0 < (c (ix2 g j) : EReal) then x (ix2 q j) else ⊥ := by
  subst ho
  have e : keep g.val hg x c (ix2 q j) = Scalar.select (Ideal.cmp .ogt (c (ix2 g j)) (Ideal.ofBits .f32 0x00000000#32)) (x (ix2 q j))
      (Ideal.ofBits .f32 0xFF800000#32) := by
    pointwise [keep]
  rw [e, Softmax.ofBits_neg_inf, ofBits_zero]
  unfold Scalar.select Ideal.cmp
  by_cases h : 0 < (c (ix2 g j) : EReal)
  · simp [h]
  · simp [h]

/-- The rows of the marked groups at one entry. -/
theorem masked_at (v : FVec Ideal S64x512 .f32) (c : FVec Ideal S8x512 .f32) (g q : Fin 8) (j : Fin 512) :
    masked v c (ix2 ⟨8 * g.val + q.val, by omega⟩ j) = if 0 < (c (ix2 g j) : EReal) then v (ix2 ⟨8 * g.val + q.val, by omega⟩ j) else ⊥ := by
  have hx : ∀ (o k : ℕ) (ho : o = 8 * g.val) (hk : k = g.val) (h : S64x512.Slices ![o, 0] S8x512) (hg : S8x512.Slices ![k, 0] S1x512),
      keep k hg (group o h v) c (ix2 q j) = if 0 < (c (ix2 g j) : EReal) then v (ix2 ⟨8 * g.val + q.val, by omega⟩ j) else ⊥ := by
    intro o k ho hk h hg
    rw [keep_at g k hk hg _ c q j]
    exact congrArg (fun y : EReal => if 0 < (c (ix2 g j) : EReal) then y else ⊥) (congrFun (group_at g o ho h v j) q)
  unfold masked
  have hc : g.val = 0 ∨ g.val = 1 ∨ g.val = 2 ∨ g.val = 3 ∨ g.val = 4 ∨ g.val = 5 ∨ g.val = 6 ∨ g.val = 7 := by omega
  rcases hc with hc | hc | hc | hc | hc | hc | hc | hc
  · rw [concatenate_apply_piece (t := S64x512) 0 _ _ (ix2 ⟨8 * g.val + q.val, by omega⟩ j) 0 (by simp) S8x512 _ rfl rfl 0 rfl (ix2 q j) (fun b hb => match b, hb with
      | ⟨0, _⟩, hb => absurd rfl hb
      | ⟨1, _⟩, _ => rfl) (by show 0 + q.val = 8 * g.val + q.val; omega)]
    exact hx 0 0 (by omega) hc.symm _ _
  · rw [concatenate_apply_piece (t := S64x512) 0 _ _ (ix2 ⟨8 * g.val + q.val, by omega⟩ j) 1 (by simp) S8x512 _ rfl rfl 8 rfl (ix2 q j) (fun b hb => match b, hb with
      | ⟨0, _⟩, hb => absurd rfl hb
      | ⟨1, _⟩, _ => rfl) (by show 8 + q.val = 8 * g.val + q.val; omega)]
    exact hx 8 1 (by omega) hc.symm _ _
  · rw [concatenate_apply_piece (t := S64x512) 0 _ _ (ix2 ⟨8 * g.val + q.val, by omega⟩ j) 2 (by simp) S8x512 _ rfl rfl 16 rfl (ix2 q j) (fun b hb => match b, hb with
      | ⟨0, _⟩, hb => absurd rfl hb
      | ⟨1, _⟩, _ => rfl) (by show 16 + q.val = 8 * g.val + q.val; omega)]
    exact hx 16 2 (by omega) hc.symm _ _
  · rw [concatenate_apply_piece (t := S64x512) 0 _ _ (ix2 ⟨8 * g.val + q.val, by omega⟩ j) 3 (by simp) S8x512 _ rfl rfl 24 rfl (ix2 q j) (fun b hb => match b, hb with
      | ⟨0, _⟩, hb => absurd rfl hb
      | ⟨1, _⟩, _ => rfl) (by show 24 + q.val = 8 * g.val + q.val; omega)]
    exact hx 24 3 (by omega) hc.symm _ _
  · rw [concatenate_apply_piece (t := S64x512) 0 _ _ (ix2 ⟨8 * g.val + q.val, by omega⟩ j) 4 (by simp) S8x512 _ rfl rfl 32 rfl (ix2 q j) (fun b hb => match b, hb with
      | ⟨0, _⟩, hb => absurd rfl hb
      | ⟨1, _⟩, _ => rfl) (by show 32 + q.val = 8 * g.val + q.val; omega)]
    exact hx 32 4 (by omega) hc.symm _ _
  · rw [concatenate_apply_piece (t := S64x512) 0 _ _ (ix2 ⟨8 * g.val + q.val, by omega⟩ j) 5 (by simp) S8x512 _ rfl rfl 40 rfl (ix2 q j) (fun b hb => match b, hb with
      | ⟨0, _⟩, hb => absurd rfl hb
      | ⟨1, _⟩, _ => rfl) (by show 40 + q.val = 8 * g.val + q.val; omega)]
    exact hx 40 5 (by omega) hc.symm _ _
  · rw [concatenate_apply_piece (t := S64x512) 0 _ _ (ix2 ⟨8 * g.val + q.val, by omega⟩ j) 6 (by simp) S8x512 _ rfl rfl 48 rfl (ix2 q j) (fun b hb => match b, hb with
      | ⟨0, _⟩, hb => absurd rfl hb
      | ⟨1, _⟩, _ => rfl) (by show 48 + q.val = 8 * g.val + q.val; omega)]
    exact hx 48 6 (by omega) hc.symm _ _
  · rw [concatenate_apply_piece (t := S64x512) 0 _ _ (ix2 ⟨8 * g.val + q.val, by omega⟩ j) 7 (by simp) S8x512 _ rfl rfl 56 rfl (ix2 q j) (fun b hb => match b, hb with
      | ⟨0, _⟩, hb => absurd rfl hb
      | ⟨1, _⟩, _ => rfl) (by show 56 + q.val = 8 * g.val + q.val; omega)]
    exact hx 56 7 (by omega) hc.symm _ _

/-- The marked scores, divided by their sum and scaled, at one entry. -/
theorem share_at (s c : FVec Ideal S64x512 .f32) (p : Fin 64) (j : Fin 512) :
    share s c (ix2 p j) = Ideal.div (c (ix2 p j) * s (ix2 p j)) (∑ e : Fin 64, (c (ix2 e j) * s (ix2 e j) : EReal)) * Ideal.ofBits .f32 0x40200000#32 := by
  pointwise [share]

/-- The gates of a column are the router's. -/
theorem gates_at (s v : FVec Ideal S64x512 .f32) (j : Fin 512) (hv : ∀ p, col64 v j p ≠ ⊥) (p : Fin 64) :
    gates s v (ix2 p j) = Router.gate (col64 s j) (col64 v j) p := by
  have hg : col8 (groupScores v) j = Router.groups (col64 v j) := funext fun g => groupScores_at v j hv g
  have hm : ∀ g : Fin 8, marks8 (groupScores v) 4 (ix2 g j) = Router.mark (Router.groups (col64 v j)) 4 g := fun g => by
    rw [marks8_at (groupScores v) j 4 (fun r _ => by rw [hg]; exact Router.groups_ne_bot _ hv _) (by norm_num) g, hg]
  have hw : col64 (masked v (marks8 (groupScores v) 4)) j = Router.within (col64 v j) := by
    funext e
    have h := masked_at v (marks8 (groupScores v) 4) ⟨e.val / 8, by omega⟩ ⟨e.val % 8, by omega⟩ j
    have he : (⟨8 * (e.val / 8) + e.val % 8, by omega⟩ : Fin 64) = e := Fin.ext (by show 8 * (e.val / 8) + e.val % 8 = e.val; omega)
    rw [hm] at h
    dsimp only at h
    rw [he] at h
    exact h
  have hc : ∀ e : Fin 64, marks64 (masked v (marks8 (groupScores v) 4)) 8 (ix2 e j) = Router.mark (Router.within (col64 v j)) 8 e := fun e => by
    rw [marks64_at _ j 8 (fun r hr => by rw [hw]; exact Router.within_place _ hv r hr) (by norm_num) e, hw]
  unfold gates
  rw [share_at]
  simp only [hc]
  rfl

end Cert.Kernel10Ideal.ValueRouter

end
-- ==== Proof.RouterValue.lean ====
/- The router: the kernel's gates are the reference's. -/
module

public import proofs.«01_k».proof.Proof.RouterSpec
public import proofs.«01_k».proof.Proof.RouterTile
public import proofs.«01_k».proof.Proof.MoeGated
public import proofs.«01_k».proof.Proof.Gen.Kernel10Ideal.Value
public import proofs.«01_k».proof.Proof.Gen.Pre_routed
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Router

open Cert.Reference10Ideal Cert.Reference10Ideal.Gen

/-- The token's rows, the first layer's weights and its biases are numbers. -/
structure Routed (x : FVec Ideal S17408x1024 .f32) (w : FVec Ideal S2x1024x64 .f32) (b : FVec Ideal S2x64 .f32) : Prop where
  rows : ∀ p k, ∃ r : ℝ, x (ix2 p k) = (r : EReal)
  weights : ∀ k e, ∃ r : ℝ, w (ix3 0 k e) = (r : EReal)
  biases : ∀ e, ∃ r : ℝ, b (ix2 0 e) = (r : EReal)

/-- A sum of products of numbers is a number. -/
theorem sum_real {n : ℕ} (a b : Fin n → EReal) (ha : ∀ k, ∃ r : ℝ, a k = (r : EReal)) (hb : ∀ k, ∃ r : ℝ, b k = (r : EReal)) :
    ∃ r : ℝ, ∑ k, a k * b k = (r : EReal) := by
  choose f hf using ha
  choose g hg using hb
  refine ⟨∑ k, f k * g k, ?_⟩
  have push : ∀ s : Finset (Fin n), ∑ k ∈ s, a k * b k = ((∑ k ∈ s, f k * g k : ℝ) : EReal) := fun s => by
    induction s using Finset.cons_induction with
    | empty => simp
    | cons i s hi ih => rw [Finset.sum_cons, Finset.sum_cons, ih, hf, hg, EReal.coe_add, EReal.coe_mul]
  exact push Finset.univ

/-- A score is a positive number. -/
theorem score_real (x : FVec Ideal S17408x1024 .f32) (w : FVec Ideal S2x1024x64 .f32) (b : FVec Ideal S2x64 .f32) (h : Routed x w b)
    (p : Fin 17408) (e : Fin 64) : ∃ r : ℝ, 0 < r ∧ score x w p e = (r : EReal) := by
  obtain ⟨z, hz⟩ := sum_real (fun k : Fin 1024 => x (ix2 p k)) (fun k => w (ix3 0 k e)) (h.rows p) (fun k => h.weights k e)
  refine ⟨(1 + Real.exp (-z))⁻¹, by positivity, ?_⟩
  unfold score
  rw [hz]
  exact Ideal.logistic_coe z

/-- A score is positive. -/
theorem score_pos (x : FVec Ideal S17408x1024 .f32) (w : FVec Ideal S2x1024x64 .f32) (b : FVec Ideal S2x64 .f32) (h : Routed x w b)
    (p : Fin 17408) (e : Fin 64) : 0 < score x w p e := by
  obtain ⟨r, hr, e⟩ := score_real x w b h p e
  rw [e]
  exact_mod_cast hr

/-- A score with its bias is not minus infinity. -/
theorem voted_ne_bot (x : FVec Ideal S17408x1024 .f32) (w : FVec Ideal S2x1024x64 .f32) (b : FVec Ideal S2x64 .f32) (h : Routed x w b)
    (p : Fin 17408) (e : Fin 64) : voted x w b p e ≠ ⊥ := by
  obtain ⟨r, -, hs⟩ := score_real x w b h p e
  obtain ⟨q, hq⟩ := h.biases e
  unfold voted
  rw [hs, hq, ← EReal.coe_add]
  exact EReal.coe_ne_bot _

/-- The precondition says that these are numbers. -/
theorem routed_of (x : FVec Ideal S17408x1024 .f32) (w : FVec Ideal S2x1024x64 .f32) (b : FVec Ideal S2x64 .f32)
    (h : Cert.Pre_routed.fn (F := Ideal) x w b = fun _ => 1#1) : Routed x w b := by
  have e := congrFun h (Shape.Idx.first Cert.Pre_routed.Gen.h_S_)
  dsimp only [Cert.Pre_routed.fn] at e
  obtain ⟨e0, e2⟩ := IntOp.andi_eq_one.1 e
  obtain ⟨e0, e1⟩ := IntOp.andi_eq_one.1 e0
  have : Subsingleton (Shape.Idx Cert.Pre_routed.S_) := ⟨fun a b => funext fun k => k.elim0⟩
  have num : ∀ {y : EReal}, max y (-y) < ⊤ → ∃ r : ℝ, y = (r : EReal) := fun {y} hy => by
    induction y with
    | bot => exact absurd hy (by simp)
    | top => exact absurd hy (by simp)
    | coe r => exact ⟨r, rfl⟩
  refine ⟨fun p k => ?_, fun k e => ?_, fun e => ?_⟩
  · have q := Cert.Moe.lt_of_cmpf (Host.reduce_andi_all _ _ _ _ _ e0 (ix2 p k))
    exact num (lt_of_lt_of_eq q Cert.AttSample.ofBits_inf32)
  · have q := Cert.Moe.lt_of_cmpf (Host.reduce_andi_all _ _ _ _ _ e1 (ix2 k e))
    have hy : shapeCast Cert.Pre_routed.S1024x64 (extractStridedSlice Cert.Pre_routed.S1x1024x64 ![0, 0, 0] w
      Cert.Pre_routed.Gen.slices_S2x1024x64_S1x1024x64_0_0_0) Cert.Pre_routed.Gen.shapeCasts_S1x1024x64_S1024x64 (ix2 k e) = w (ix3 0 k e) := by pointwise
    rw [← hy]
    exact num (lt_of_lt_of_eq q Cert.AttSample.ofBits_inf32)
  · have q := Cert.Moe.lt_of_cmpf (Host.reduce_andi_all _ _ _ _ _ e2 (ix1 e))
    have hy : shapeCast Cert.Pre_routed.S64 (extractStridedSlice Cert.Pre_routed.S1x64 ![0, 0] b
      Cert.Pre_routed.Gen.slices_S2x64_S1x64_0_0) Cert.Pre_routed.Gen.shapeCasts_S1x64_S64 (ix1 e) = b (ix2 0 e) := by pointwise
    rw [← hy]
    exact num (lt_of_lt_of_eq q Cert.AttSample.ofBits_inf32)

end Cert.Router

namespace Cert.Kernel10Ideal.ValueRouter

open Cert.Kernel10Ideal Cert.Kernel10Ideal.Gen

/-- The scores of a tile, entry by entry. -/
theorem scores_apply (w : Vec Ideal S64x1024 .f32) (x : Vec Ideal S512x1024 .f32) (e : Fin 64) (j : Fin 512) :
    k0_pay2 w x (ix2 e j) = Ideal.div 1 (1 + Ideal.exp (-(∑ k : Fin 1024, (w (ix2 e k) : EReal) * x (ix2 j k)))) := by
  pointwise [k0_pay2]
  rw [Cert.Moe.sigmoid_tanh]

/-- The scores with the biases, entry by entry. -/
theorem votes_apply (w : Vec Ideal S64x1024 .f32) (x : Vec Ideal S512x1024 .f32) (b : Vec Ideal S64x1 .f32) (e : Fin 64) (j : Fin 512) :
    k0_pay3 w x b (ix2 e j) = (k0_pay2 w x (ix2 e j) : EReal) + b (ix2 e 0) := by
  unfold k0_pay3
  generalize k0_pay2 w x = s
  pointwise

variable (m : (ℓ : Loc nD τ sig) → Buf (Elt Ideal) ℓ)

/-- Which blocks a grid point works on. -/
theorem idx_val : ∀ t : Fin cfg0.N, win0_0.index t = ![t.val, 0] ∧ win0_1.index t = ![0, 0] ∧ win0_2.index t = ![0, 0] ∧ win0_3.index t = ![0, t.val] :=
  (by decide +kernel : ∀ t : Fin grid0.N, _)

/-- The weights in the region's entry. -/
theorem entry1 (c : Dev nD) : V m c main_v2 = transpose S64x1024 [1, 0] (shapeCast S1024x64
    (extractStridedSlice S1x1024x64 ![0, 0, 0] (m ((c : Thread nD τ).loc main_arg1)) slices_S2x1024x64_S1x1024x64_0_0_0)
    shapeCasts_S1x1024x64_S1024x64) transposes_S1024x64_S64x1024_1_0 := by
  unfold V
  after_reads_simp
  rfl

/-- The biases in the region's entry. -/
theorem entry2 (c : Dev nD) : V m c main_v5 = shapeCast S64x1 (shapeCast S64
    (extractStridedSlice S1x64 ![0, 0] (m ((c : Thread nD τ).loc main_arg2)) slices_S2x64_S1x64_0_0) shapeCasts_S1x64_S64) shapeCasts_S64_S64x1 := by
  unfold V
  after_reads_simp
  rfl

/-- The rows of a grid point. -/
theorem blk0 (c : Dev nD) (t : Fin cfg0.N) (ht : t.val < 34) (j : Fin 512) (k : Fin 1024) :
    iblk m c 0 t (ix2 j k) = m ((c : Thread nD τ).loc main_arg0) (ix2 ⟨t * 512 + j, by omega⟩ k) := by
  blk_ext [iblk, V, idx_val t]

/-- The weights at a grid point. -/
theorem blk1 (c : Dev nD) (t : Fin cfg0.N) (e : Fin 64) (k : Fin 1024) :
    iblk m c 1 t (ix2 e k) = m ((c : Thread nD τ).loc main_arg1) (ix3 0 k e) := by
  have h : iblk m c 1 t (ix2 e k) = V m c main_v2 (ix2 e k) := by
    blk_ext [iblk, idx_val t]
  rw [h, entry1]
  pointwise

/-- The biases at a grid point. -/
theorem blk2 (c : Dev nD) (t : Fin cfg0.N) (e : Fin 64) :
    iblk m c 2 t (ix2 e 0) = m ((c : Thread nD τ).loc main_arg2) (ix2 0 e) := by
  have h : iblk m c 2 t (ix2 e 0) = V m c main_v5 (ix2 e 0) := by
    blk_ext [iblk, idx_val t]
  rw [h, entry2]
  pointwise

/-- An index of a block is its two coordinates. -/
theorem block_index (y : S64x512.Idx) : y = ix2 (y 0) (y 1) := by
  funext a
  match a with
  | ⟨0, _⟩ => rfl
  | ⟨1, _⟩ => rfl

/-- The place in the result of an index of a grid point's block. -/
theorem emb3 (t : Fin cfg0.N) (ht : t.val < 34) (y : S64x512.Idx) (hy : (y 1).val < 512) :
    (win0_3.blk t).view.emb y = ix2 (y 0) ⟨t * 512 + (y 1).val, by omega⟩ := by
  funext a
  match a with
  | ⟨0, _⟩ => exact Fin.ext (by blk_simp [idx_val t]; rfl)
  | ⟨1, _⟩ => exact Fin.ext (by blk_simp [idx_val t]; rfl)

/-- A column of scores is a token's. -/
theorem scores_at (c : Dev nD) (t : Fin cfg0.N) (ht : t.val < 34) (j : Fin 512) :
    col64 (k0_pay2 (iblk m c 1 t) (iblk m c 0 t)) j
      = Router.score (m ((c : Thread nD τ).loc main_arg0)) (m ((c : Thread nD τ).loc main_arg1)) ⟨t * 512 + j, by omega⟩ := by
  funext e
  unfold col64 Router.score
  rw [scores_apply]
  simp only [blk0 m c t ht, blk1]
  exact congrArg (fun z : EReal => Ideal.div 1 (1 + Ideal.exp (-z))) (Finset.sum_congr rfl fun k _ => mul_comm _ _)

/-- A column of scores with biases is a token's. -/
theorem votes_at (c : Dev nD) (t : Fin cfg0.N) (ht : t.val < 34) (j : Fin 512) :
    col64 (k0_pay3 (iblk m c 1 t) (iblk m c 0 t) (iblk m c 2 t)) j
      = Router.voted (m ((c : Thread nD τ).loc main_arg0)) (m ((c : Thread nD τ).loc main_arg1)) (m ((c : Thread nD τ).loc main_arg2)) ⟨t * 512 + j, by omega⟩ := by
  funext e
  unfold col64 Router.voted
  rw [votes_apply, blk2, ← scores_at m c t ht j]
  rfl

/-- What a grid point stores: the gates of its tokens. -/
theorem point (c : Dev nD) (hr : Router.Routed (m ((c : Thread nD τ).loc main_arg0)) (m ((c : Thread nD τ).loc main_arg1)) (m ((c : Thread nD τ).loc main_arg2)))
    (t : Fin cfg0.N) (ht : t.val < 34) (e : Fin 64) (j : Fin 512) :
    out0_3 (iblk m c 0 t) (iblk m c 1 t) (iblk m c 2 t) (ix2 e j)
      = Cert.Reference10Ideal.Read.val_main_v35 (F := Ideal) (m ((c : Thread nD τ).loc main_arg0)) (m ((c : Thread nD τ).loc main_arg1))
          (m ((c : Thread nD τ).loc main_arg2)) (ix2 e ⟨t * 512 + j, by omega⟩) := by
  rw [stored, gates_at _ _ j (fun p => by rw [votes_at m c t ht j]; exact Router.voted_ne_bot _ _ _ hr _ p), scores_at m c t ht, votes_at m c t ht]
  exact (Router.reference_at _ _ _ e _ (Router.score_pos _ _ _ hr _)).symm

/-- The kernel's gates are the reference's, of the same arguments. -/
theorem final3 (c : Dev nD) (hr : Router.Routed (m ((c : Thread nD τ).loc main_arg0)) (m ((c : Thread nD τ).loc main_arg1)) (m ((c : Thread nD τ).loc main_arg2))) :
    (dats m 0 c).arrAt 3 (cfgs 0).N
      = Cert.Reference10Ideal.Read.val_main_v35 (F := Ideal) (m ((c : Thread nD τ).loc main_arg0)) (m ((c : Thread nD τ).loc main_arg1))
          (m ((c : Thread nD τ).loc main_arg2)) := by
  refine (dats m 0 c).arrAt_eq_of_covers 3 _ (by decide +kernel) fun t _ y => ?_
  have ht : t.val < 34 := lt_of_lt_of_eq t.isLt N_0
  blk_simp
  rw [after0_3, emb3 t ht y (y 1).isLt]
  exact (congrArg (out0_3 (iblk m c 0 t) (iblk m c 1 t) (iblk m c 2 t)) (block_index y)).trans (point m c hr t ht (y 0) (y 1))

end Cert.Kernel10Ideal.ValueRouter

end
-- ==== Proof.RouterLink.lean ====
/- The gates that the router leaves are from zero up and not infinite, as the experts ask of theirs. -/
module

public import proofs.«01_k».proof.Proof.RouterValue
public import proofs.«01_k».proof.Proof.MoeSpec

@[expose] public section

set_option maxRecDepth 16384

noncomputable section

open Idealize.ShloMosaic

namespace Cert.Router

/-- The factor of the gates, 2.5. -/
theorem ofBits_scale : Ideal.ofBits .f32 0x40200000#32 = ((5 / 2 : ℝ) : EReal) := by
  simp [Ideal.ofBits, Ideal.ieee]
  norm_cast
  norm_num

/-- Of positive numbers as scores, a gate is a number from zero up. -/
theorem gate_real (s v : Fin 64 → EReal) (hs : ∀ e, ∃ r : ℝ, 0 < r ∧ s e = (r : EReal)) (p : Fin 64) :
    ∃ r : ℝ, 0 ≤ r ∧ gate s v p = (r : EReal) := by
  choose f hf hfs using hs
  have push : ∀ t : Finset (Fin 8), ∑ j ∈ t, s (place (within v) ⟨j.val, j.isLt.trans_le (by norm_num)⟩)
      = ((∑ j ∈ t, f (place (within v) ⟨j.val, j.isLt.trans_le (by norm_num)⟩) : ℝ) : EReal) := fun t => by
    induction t using Finset.cons_induction with
    | empty => simp
    | cons i t hi ih => rw [Finset.sum_cons, Finset.sum_cons, ih, hfs, EReal.coe_add]
  have pos : 0 < ∑ j : Fin 8, f (place (within v) ⟨j.val, j.isLt.trans_le (by norm_num)⟩) :=
    Finset.sum_pos (fun j _ => hf _) Finset.univ_nonempty
  have top : ∃ r : ℝ, 0 ≤ r ∧ mark (within v) 8 p * s p = (r : EReal) := by
    unfold mark
    split_ifs
    · exact ⟨f p, (hf p).le, by rw [one_mul, hfs]⟩
    · exact ⟨0, le_rfl, by rw [zero_mul, EReal.coe_zero]⟩
  obtain ⟨r, hr, e⟩ := top
  unfold gate
  rw [sum_marked (within v) s 8 (by norm_num), push, e, ofBits_scale, Ideal.div, if_neg (by exact_mod_cast pos.ne'), ← EReal.coe_inv, ← EReal.coe_mul,
    ← EReal.coe_mul]
  exact ⟨_, by positivity, rfl⟩

/-- Of finite tokens, weights and biases, the router's gates are such as the experts ask. -/
theorem gated_of_routed (x : FVec Ideal Cert.Reference10Ideal.S17408x1024 .f32) (w : FVec Ideal Cert.Reference10Ideal.S2x1024x64 .f32)
    (b : FVec Ideal Cert.Reference10Ideal.S2x64 .f32) (h : Routed x w b) :
    Cert.Moe.Gated (Cert.Reference10Ideal.Read.val_main_v35 (F := Ideal) x w b) := by
  intro e p
  rw [reference_at x w b e p (fun e => score_pos x w b h p e)]
  obtain ⟨r, hr, q⟩ := gate_real (score x w p) (voted x w b p) (fun e => score_real x w b h p e) e
  rw [q]
  exact ⟨by exact_mod_cast hr, EReal.coe_ne_top r⟩

end Cert.Router

end
-- ==== Proof.lean ====
/- The proof of the claim: each program runs to an end without a fault and leaves its arguments, and the kernel's result is
   the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_gated
public import proofs.«01_k».proof.Proof.Gen.Kernel2.Frame
public import proofs.«01_k».proof.Proof.Gen.Kernel2Ideal.Frame
public import proofs.«01_k».proof.Proof.Gen.Kernel2Ideal.Value
public import proofs.«01_k».proof.Proof.AttSampleValue
public import proofs.«01_k».proof.Proof.AttSampleFinite
public import proofs.«01_k».proof.Proof.MoeValue
public import proofs.«01_k».proof.Proof.MoeGated
public import proofs.«01_k».proof.Proof.ProjMain
public import proofs.«01_k».proof.Proof.ProjQkv
public import proofs.«01_k».proof.Proof.ProjDt
public import proofs.«01_k».proof.Proof.ProjKeep
public import proofs.«01_k».proof.Proof.MergeValue
public import proofs.«01_k».proof.Proof.AttPromptValue
public import proofs.«01_k».proof.Proof.BandValue
public import proofs.«01_k».proof.Proof.BandLink
public import proofs.«01_k».proof.Proof.AttPromptBanded
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Kernel6
public import proofs.«01_k».proof.Proof.Gen.Kernel6Ideal
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Kernel9
public import proofs.«01_k».proof.Proof.Gen.Kernel9Ideal
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Kernel10
public import proofs.«01_k».proof.Proof.Gen.Kernel10Ideal
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Kernel8
public import proofs.«01_k».proof.Proof.Gen.Kernel8Ideal
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Pre_banded
public import proofs.«01_k».proof.Proof.Gen.Pre_routed
public import proofs.«01_k».proof.Proof.RouterValue
public import proofs.«01_k».proof.Proof.RouterLink
public import proofs.«01_k».proof.Proof.Gen.Kernel7
public import proofs.«01_k».proof.Proof.Gen.Kernel7Ideal
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel7.Frame
public import proofs.«01_k».proof.Proof.Gen.Kernel7Ideal.Frame
public import proofs.«01_k».proof.Proof.Gen.Kernel7Ideal.Value
public import Idealize.ShloMosaic.Lib.Quiescent
public import Idealize.ShloMosaic.Adequacy
public import Idealize.ShloMosaic.Init

@[expose] public section

noncomputable section

namespace Cert.Proof

open Idealize.ShloMosaic Idealize.SL.Sem Cert.KernelIdeal.ValueAtt

/-- The sample attention's result is the reference's. -/
theorem algebraic : Cert.algebraic_KernelIdeal_ReferenceIdeal_pre_finite := by
  intro m g m' g' hpre hargs
  refine ⟨fun c => Cert.ReferenceIdeal.Read.val_main_v32 (F := Ideal) (m (c.tc.loc Cert.KernelIdeal.main_arg0)) (m (c.tc.loc Cert.KernelIdeal.main_arg1))
      (m (c.tc.loc Cert.KernelIdeal.main_arg2)) (m (c.tc.loc Cert.KernelIdeal.main_arg3)),
    θ_run_mono (Cert.KernelIdeal.Value.run_blocks m g) fun r h c => ⟨(h c).1.trans (final m c fun b h i j =>
      Cert.AttSample.scores_finite _ _ _ _ (hpre c) b h i j), (h c).2⟩,
    θ_run_mono (Cert.ReferenceIdeal.Value.run m' g') fun r h c => ⟨(h c).1.trans ?_, (h c).2⟩⟩
  rw [Cert.ReferenceIdeal.Read.val_main_v32_eq, (hargs c).1, (hargs c).2.1, (hargs c).2.2.1, (hargs c).2.2.2]

/-- The sample attention's reference runs to an end and leaves its arguments. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem (c.tc.loc Cert.ReferenceIdeal.main_arg0) = m (c.tc.loc Cert.ReferenceIdeal.main_arg0)
      ∧ r.2.mem (c.tc.loc Cert.ReferenceIdeal.main_arg1) = m (c.tc.loc Cert.ReferenceIdeal.main_arg1)
      ∧ r.2.mem (c.tc.loc Cert.ReferenceIdeal.main_arg2) = m (c.tc.loc Cert.ReferenceIdeal.main_arg2)
      ∧ r.2.mem (c.tc.loc Cert.ReferenceIdeal.main_arg3) = m (c.tc.loc Cert.ReferenceIdeal.main_arg3)) ∧ r.2.sem = fun _ => 0) :=
  θ_run_mono (Cert.ReferenceIdeal.Value.run m g) fun r h => And.intro (fun c => (h c).2) (sem_eq_zero_of_no_sems rfl r.2)

/-- The mixture of experts: both results are the reference's. -/
theorem algebraic_moe : Cert.algebraic_Kernel2Ideal_Reference2Ideal_pre_gated := by
  intro m g m' g' hpre hargs
  refine ⟨fun c => Cert.Reference2Ideal.Read.val_main_v59 (F := Ideal) (m (c.tc.loc Cert.Kernel2Ideal.main_arg0)) (m (c.tc.loc Cert.Kernel2Ideal.main_arg1)) (m (c.tc.loc Cert.Kernel2Ideal.main_arg2)) (m (c.tc.loc Cert.Kernel2Ideal.main_arg3))
      (m (c.tc.loc Cert.Kernel2Ideal.main_arg4)) (m (c.tc.loc Cert.Kernel2Ideal.main_arg5)) (m (c.tc.loc Cert.Kernel2Ideal.main_arg6)) (m (c.tc.loc Cert.Kernel2Ideal.main_arg7))
      (m (c.tc.loc Cert.Kernel2Ideal.main_arg8)) (m (c.tc.loc Cert.Kernel2Ideal.main_arg9)),
    fun c => Cert.Reference2Ideal.Read.val_main_v60 (F := Ideal) (m (c.tc.loc Cert.Kernel2Ideal.main_arg0)) (m (c.tc.loc Cert.Kernel2Ideal.main_arg1)) (m (c.tc.loc Cert.Kernel2Ideal.main_arg2)) (m (c.tc.loc Cert.Kernel2Ideal.main_arg3))
      (m (c.tc.loc Cert.Kernel2Ideal.main_arg4)) (m (c.tc.loc Cert.Kernel2Ideal.main_arg5)) (m (c.tc.loc Cert.Kernel2Ideal.main_arg6)) (m (c.tc.loc Cert.Kernel2Ideal.main_arg7))
      (m (c.tc.loc Cert.Kernel2Ideal.main_arg8)) (m (c.tc.loc Cert.Kernel2Ideal.main_arg9)),
    θ_run_mono (Cert.Kernel2Ideal.Value.run_blocks m g) fun r h c =>
      ⟨(h c).1.trans (Cert.Kernel2Ideal.ValueMoe.final10 m c (Cert.Moe.gated_of _ _ _ _ _ _ _ _ _ _ (hpre c))),
        (h c).2.1.trans (Cert.Kernel2Ideal.ValueMoe.final11 m c (Cert.Moe.gated_of _ _ _ _ _ _ _ _ _ _ (hpre c))), (h c).2.2⟩,
    θ_run_mono (Cert.Reference2Ideal.Value.run m' g') fun r h c => ⟨(h c).1.trans ?_, (h c).2.1.trans ?_, (h c).2.2⟩⟩
  · rw [Cert.Reference2Ideal.Read.val_main_v59_eq, (hargs c).1, (hargs c).2.1, (hargs c).2.2.1, (hargs c).2.2.2.1, (hargs c).2.2.2.2.1, (hargs c).2.2.2.2.2.1, (hargs c).2.2.2.2.2.2.1, (hargs c).2.2.2.2.2.2.2.1, (hargs c).2.2.2.2.2.2.2.2.1, (hargs c).2.2.2.2.2.2.2.2.2]
  · rw [Cert.Reference2Ideal.Read.val_main_v60_eq, (hargs c).1, (hargs c).2.1, (hargs c).2.2.1, (hargs c).2.2.2.1, (hargs c).2.2.2.2.1, (hargs c).2.2.2.2.2.1, (hargs c).2.2.2.2.2.2.1, (hargs c).2.2.2.2.2.2.2.1, (hargs c).2.2.2.2.2.2.2.2.1, (hargs c).2.2.2.2.2.2.2.2.2]

/-- The mixture's reference runs to an end and leaves its arguments. -/
theorem frame_reference_moe (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem (c.tc.loc Cert.Reference2Ideal.main_arg0) = m (c.tc.loc Cert.Reference2Ideal.main_arg0)
      ∧ r.2.mem (c.tc.loc Cert.Reference2Ideal.main_arg1) = m (c.tc.loc Cert.Reference2Ideal.main_arg1)
      ∧ r.2.mem (c.tc.loc Cert.Reference2Ideal.main_arg2) = m (c.tc.loc Cert.Reference2Ideal.main_arg2)
      ∧ r.2.mem (c.tc.loc Cert.Reference2Ideal.main_arg3) = m (c.tc.loc Cert.Reference2Ideal.main_arg3)
      ∧ r.2.mem (c.tc.loc Cert.Reference2Ideal.main_arg4) = m (c.tc.loc Cert.Reference2Ideal.main_arg4)
      ∧ r.2.mem (c.tc.loc Cert.Reference2Ideal.main_arg5) = m (c.tc.loc Cert.Reference2Ideal.main_arg5)
      ∧ r.2.mem (c.tc.loc Cert.Reference2Ideal.main_arg6) = m (c.tc.loc Cert.Reference2Ideal.main_arg6)
      ∧ r.2.mem (c.tc.loc Cert.Reference2Ideal.main_arg7) = m (c.tc.loc Cert.Reference2Ideal.main_arg7)
      ∧ r.2.mem (c.tc.loc Cert.Reference2Ideal.main_arg8) = m (c.tc.loc Cert.Reference2Ideal.main_arg8)
      ∧ r.2.mem (c.tc.loc Cert.Reference2Ideal.main_arg9) = m (c.tc.loc Cert.Reference2Ideal.main_arg9)) ∧ r.2.sem = fun _ => 0) :=
  θ_run_mono (Cert.Reference2Ideal.Value.run m g) fun r h => And.intro (fun c => (h c).2.2) (sem_eq_zero_of_no_sems rfl r.2)

/-- The main projection: the kernel's result is the reference's. -/
theorem algebraic_main : Cert.algebraic_Kernel3Ideal_Reference3Ideal := by
  intro m g m' g' _ hargs
  refine ⟨fun c => Cert.Reference3Ideal.Read.val_main_v15 (F := Ideal) (m (c.tc.loc Cert.Kernel3Ideal.main_arg0)) (m (c.tc.loc Cert.Kernel3Ideal.main_arg1)) (m (c.tc.loc Cert.Kernel3Ideal.main_arg2)),
    θ_run_mono (Cert.Kernel3Ideal.Value.run_blocks m g) fun r h c => ⟨(h c).1.trans (Cert.Kernel3Ideal.ValueProj.final2 m c), (h c).2⟩,
    θ_run_mono (Cert.Reference3Ideal.Value.run m' g') fun r h c => ⟨(h c).1.trans ?_, (h c).2⟩⟩
  rw [Cert.Reference3Ideal.Read.val_main_v15_eq, (hargs c).1, (hargs c).2.1, (hargs c).2.2]

/-- The queries', keys' and values' projection: the kernel's result is the reference's. -/
theorem algebraic_qkv : Cert.algebraic_Kernel4Ideal_Reference4Ideal := by
  intro m g m' g' _ hargs
  refine ⟨fun c => Cert.Reference4Ideal.Read.val_main_v18 (F := Ideal) (m (c.tc.loc Cert.Kernel4Ideal.main_arg0)) (m (c.tc.loc Cert.Kernel4Ideal.main_arg1)) (m (c.tc.loc Cert.Kernel4Ideal.main_arg2)),
    θ_run_mono (Cert.Kernel4Ideal.Value.run_blocks m g) fun r h c => ⟨(h c).1.trans (Cert.Kernel4Ideal.ValueProj.final2 m c), (h c).2⟩,
    θ_run_mono (Cert.Reference4Ideal.Value.run m' g') fun r h c => ⟨(h c).1.trans ?_, (h c).2⟩⟩
  rw [Cert.Reference4Ideal.Read.val_main_v18_eq, (hargs c).1, (hargs c).2.1, (hargs c).2.2]

/-- The time steps' projection: the kernel's result is the reference's. -/
theorem algebraic_dt : Cert.algebraic_Kernel5Ideal_Reference5Ideal := by
  intro m g m' g' _ hargs
  refine ⟨fun c => Cert.Reference5Ideal.Read.val_main_v15 (F := Ideal) (m (c.tc.loc Cert.Kernel5Ideal.main_arg0)) (m (c.tc.loc Cert.Kernel5Ideal.main_arg1)) (m (c.tc.loc Cert.Kernel5Ideal.main_arg2)),
    θ_run_mono (Cert.Kernel5Ideal.Value.run_blocks m g) fun r h c => ⟨(h c).1.trans (Cert.Kernel5Ideal.ValueProj.final2 m c), (h c).2⟩,
    θ_run_mono (Cert.Reference5Ideal.Value.run m' g') fun r h c => ⟨(h c).1.trans ?_, (h c).2⟩⟩
  rw [Cert.Reference5Ideal.Read.val_main_v15_eq, (hargs c).1, (hargs c).2.1, (hargs c).2.2]

/-- The keys and values that are kept: the kernel's result is the reference's. -/
theorem algebraic_keep : Cert.algebraic_Kernel6Ideal_Reference6Ideal := by
  intro m g m' g' _ hargs
  refine ⟨fun c => Cert.Reference6Ideal.Read.val_main_v32 (F := Ideal) (m (c.tc.loc Cert.Kernel6Ideal.main_arg0)) (m (c.tc.loc Cert.Kernel6Ideal.main_arg1)) (m (c.tc.loc Cert.Kernel6Ideal.main_arg2)),
    θ_run_mono (Cert.Kernel6Ideal.Value.run_blocks m g) fun r h c => ⟨(h c).1.trans (Cert.Kernel6Ideal.ValueProj.final2 m c), (h c).2⟩,
    θ_run_mono (Cert.Reference6Ideal.Value.run m' g') fun r h c => ⟨(h c).1.trans ?_, (h c).2⟩⟩
  rw [Cert.Reference6Ideal.Read.val_main_v32_eq, (hargs c).1, (hargs c).2.1, (hargs c).2.2]

set_option maxHeartbeats 1600000 in
/-- The merge of the branches: both results are the reference's. -/
theorem algebraic_merge : Cert.algebraic_Kernel7Ideal_Reference7Ideal := by
  intro m g m' g' _ hargs
  refine ⟨fun c => Cert.Reference7Ideal.Read.val_main_v72 (F := Ideal) (m (c.tc.loc Cert.Kernel7Ideal.main_arg0)) (m (c.tc.loc Cert.Kernel7Ideal.main_arg1)) (m (c.tc.loc Cert.Kernel7Ideal.main_arg2)) (m (c.tc.loc Cert.Kernel7Ideal.main_arg3))
      (m (c.tc.loc Cert.Kernel7Ideal.main_arg4)) (m (c.tc.loc Cert.Kernel7Ideal.main_arg5)) (m (c.tc.loc Cert.Kernel7Ideal.main_arg6)) (m (c.tc.loc Cert.Kernel7Ideal.main_arg7))
      (m (c.tc.loc Cert.Kernel7Ideal.main_arg8)) (m (c.tc.loc Cert.Kernel7Ideal.main_arg9)) (m (c.tc.loc Cert.Kernel7Ideal.main_arg10)) (m (c.tc.loc Cert.Kernel7Ideal.main_arg11))
      (m (c.tc.loc Cert.Kernel7Ideal.main_arg12)) (m (c.tc.loc Cert.Kernel7Ideal.main_arg13)) (m (c.tc.loc Cert.Kernel7Ideal.main_arg14)),
    fun c => Cert.Reference7Ideal.Read.val_main_v73 (F := Ideal) (m (c.tc.loc Cert.Kernel7Ideal.main_arg0)) (m (c.tc.loc Cert.Kernel7Ideal.main_arg1)) (m (c.tc.loc Cert.Kernel7Ideal.main_arg2)) (m (c.tc.loc Cert.Kernel7Ideal.main_arg3))
      (m (c.tc.loc Cert.Kernel7Ideal.main_arg4)) (m (c.tc.loc Cert.Kernel7Ideal.main_arg5)) (m (c.tc.loc Cert.Kernel7Ideal.main_arg6)) (m (c.tc.loc Cert.Kernel7Ideal.main_arg7))
      (m (c.tc.loc Cert.Kernel7Ideal.main_arg8)) (m (c.tc.loc Cert.Kernel7Ideal.main_arg9)) (m (c.tc.loc Cert.Kernel7Ideal.main_arg10)) (m (c.tc.loc Cert.Kernel7Ideal.main_arg11))
      (m (c.tc.loc Cert.Kernel7Ideal.main_arg12)) (m (c.tc.loc Cert.Kernel7Ideal.main_arg13)) (m (c.tc.loc Cert.Kernel7Ideal.main_arg14)),
    θ_run_mono (Cert.Kernel7Ideal.Value.run_blocks m g) fun r h c =>
      ⟨(h c).1.trans (Cert.Kernel7Ideal.ValueMerge.final15 m c), (h c).2.1.trans (Cert.Kernel7Ideal.ValueMerge.final16 m c), (h c).2.2⟩,
    θ_run_mono (Cert.Reference7Ideal.Value.run m' g') fun r h c => ⟨(h c).1.trans ?_, (h c).2.1.trans ?_, (h c).2.2⟩⟩
  · obtain ⟨e0, e1, e2, e3, e4, e5, e6, e7, e8, e9, e10, e11, e12, e13, e14⟩ := hargs c
    rw [Cert.Reference7Ideal.Read.val_main_v72_eq, e0, e1, e2, e3, e4, e5, e6, e7, e8, e9, e10, e11, e12, e13, e14]
  · obtain ⟨e0, e1, e2, e3, e4, e5, e6, e7, e8, e9, e10, e11, e12, e13, e14⟩ := hargs c
    rw [Cert.Reference7Ideal.Read.val_main_v73_eq, e0, e1, e2, e3, e4, e5, e6, e7, e8, e9, e10, e11, e12, e13, e14]

/-- In the prompt's attention the constant that masks is named minus infinity, and nothing else is changed. -/
theorem preserves_mask : Cert.preserves_Kernel8_Kernel8Ideal :=
  IdealRules.named_const.statement Cert.Kernel8Ideal.κ "mask" .f32 _ ⊥ rfl

/-- The prompt's attention: the kernel's result is the reference's. -/
theorem algebraic_prompt : Cert.algebraic_Kernel8Ideal_Reference8Ideal_pre_banded := by
  intro m g m' g' hpre hargs
  refine ⟨fun c => Cert.Reference8Ideal.Read.val_main_v64 (F := Ideal) (m (c.tc.loc Cert.Kernel8Ideal.main_arg0)) (m (c.tc.loc Cert.Kernel8Ideal.main_arg1)),
    θ_run_mono (Cert.Kernel8Ideal.Value.run_blocks m g) fun r h c => ⟨(h c).1.trans (Cert.Kernel8Ideal.ValueAtt.final m c
      (Cert.AttPrompt.banded _ _ (hpre c)) (Cert.AttPrompt.proper _ _ (hpre c))), (h c).2⟩,
    θ_run_mono (Cert.Reference8Ideal.Value.run m' g') fun r h c => ⟨(h c).1.trans ?_, (h c).2⟩⟩
  rw [Cert.Reference8Ideal.Read.val_main_v64_eq, (hargs c).1, (hargs c).2]

/-- The prompt attention's reference runs to an end and leaves its arguments. -/
theorem frame_reference_prompt (m : (ℓ : Loc Cert.Reference8Ideal.nD Cert.Reference8Ideal.τ Cert.Reference8Ideal.sig) → Buf (Elt Ideal) ℓ)
    (g : Dev Cert.Reference8Ideal.nD → PrngReg) :
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem (c.tc.loc Cert.Reference8Ideal.main_arg0) = m (c.tc.loc Cert.Reference8Ideal.main_arg0)
      ∧ r.2.mem (c.tc.loc Cert.Reference8Ideal.main_arg1) = m (c.tc.loc Cert.Reference8Ideal.main_arg1)) ∧ r.2.sem = fun _ => 0) :=
  θ_run_mono (Cert.Reference8Ideal.Value.run m g) fun r h => And.intro (fun c => (h c).2) (sem_eq_zero_of_no_sems rfl r.2)

/-- In the bias table the constant that masks is named minus infinity, and nothing else is changed. -/
theorem preserves_table : Cert.preserves_Kernel9_Kernel9Ideal :=
  IdealRules.named_const.statement Cert.Kernel9Ideal.κ "mask" .f32 _ ⊥ rfl

/-- The bias table: the kernel's table is the reference's. -/
theorem algebraic_table : Cert.algebraic_Kernel9Ideal_Reference9Ideal := by
  intro m g m' g' _ hargs
  refine ⟨fun c => Cert.Reference9Ideal.Read.val_main_v25 (F := Ideal) (m (c.tc.loc Cert.Kernel9Ideal.main_arg0)),
    θ_run_mono (Cert.Kernel9Ideal.Value.run_blocks m g) fun r h c => ⟨(h c).1.trans (Cert.Kernel9Ideal.ValueBand.final1 m c), (h c).2⟩,
    θ_run_mono (Cert.Reference9Ideal.Value.run m' g') fun r h c => ⟨(h c).1.trans ?_, (h c).2⟩⟩
  rw [Cert.Reference9Ideal.Read.val_main_v25_eq, hargs c]

/-- The router: the kernel's gates are the reference's. -/
theorem algebraic_router : Cert.algebraic_Kernel10Ideal_Reference10Ideal_pre_routed := by
  intro m g m' g' hpre hargs
  refine ⟨fun c => Cert.Reference10Ideal.Read.val_main_v35 (F := Ideal) (m (c.tc.loc Cert.Kernel10Ideal.main_arg0)) (m (c.tc.loc Cert.Kernel10Ideal.main_arg1))
      (m (c.tc.loc Cert.Kernel10Ideal.main_arg2)),
    θ_run_mono (Cert.Kernel10Ideal.Value.run_blocks m g) fun r h c => ⟨(h c).1.trans (Cert.Kernel10Ideal.ValueRouter.final3 m c
      (Cert.Router.routed_of _ _ _ (hpre c))), (h c).2⟩,
    θ_run_mono (Cert.Reference10Ideal.Value.run m' g') fun r h c => ⟨(h c).1.trans ?_, (h c).2⟩⟩
  rw [Cert.Reference10Ideal.Read.val_main_v35_eq, (hargs c).1, (hargs c).2.1, (hargs c).2.2]

/-- The router's reference runs to an end and leaves its arguments. -/
theorem frame_reference_router (m : (ℓ : Loc Cert.Reference10Ideal.nD Cert.Reference10Ideal.τ Cert.Reference10Ideal.sig) → Buf (Elt Ideal) ℓ)
    (g : Dev Cert.Reference10Ideal.nD → PrngReg) :
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem (c.tc.loc Cert.Reference10Ideal.main_arg0) = m (c.tc.loc Cert.Reference10Ideal.main_arg0)
      ∧ r.2.mem (c.tc.loc Cert.Reference10Ideal.main_arg1) = m (c.tc.loc Cert.Reference10Ideal.main_arg1)
      ∧ r.2.mem (c.tc.loc Cert.Reference10Ideal.main_arg2) = m (c.tc.loc Cert.Reference10Ideal.main_arg2)) ∧ r.2.sem = fun _ => 0) :=
  θ_run_mono (Cert.Reference10Ideal.Value.run m g) fun r h => And.intro (fun c => (h c).2) (sem_eq_zero_of_no_sems rfl r.2)

/-- The claims, together. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Pre_finite.Gen.facts, Cert.Pre_gated.Gen.facts, Cert.Pre_banded.Gen.facts, Cert.Pre_routed.Gen.facts,
  fun m ρ _ => Cert.Kernel.Gen.frame m ρ, fun m ρ _ => Cert.KernelIdeal.Gen.frame m ρ, fun m ρ _ => Cert.KernelIdeal.Gen.frame m ρ,
  fun m ρ _ => frame_reference m ρ, fun m ρ _ => frame_reference m ρ,
  fun m ρ _ => Cert.Kernel2.Gen.frame m ρ, fun m ρ _ => Cert.Kernel2Ideal.Gen.frame m ρ, fun m ρ _ => Cert.Kernel2Ideal.Gen.frame m ρ,
  fun m ρ _ => frame_reference_moe m ρ, fun m ρ _ => frame_reference_moe m ρ,
  fun m ρ _ => Cert.Kernel3.Gen.frame m ρ, fun m ρ _ => Cert.Kernel3Ideal.Gen.frame m ρ,
  fun m ρ _ => θ_run_mono (Cert.Reference3Ideal.Value.run m ρ) fun r h => And.intro (fun c => (h c).2) (sem_eq_zero_of_no_sems rfl r.2),
  fun m ρ _ => Cert.Kernel4.Gen.frame m ρ, fun m ρ _ => Cert.Kernel4Ideal.Gen.frame m ρ,
  fun m ρ _ => θ_run_mono (Cert.Reference4Ideal.Value.run m ρ) fun r h => And.intro (fun c => (h c).2) (sem_eq_zero_of_no_sems rfl r.2),
  fun m ρ _ => Cert.Kernel5.Gen.frame m ρ, fun m ρ _ => Cert.Kernel5Ideal.Gen.frame m ρ,
  fun m ρ _ => θ_run_mono (Cert.Reference5Ideal.Value.run m ρ) fun r h => And.intro (fun c => (h c).2) (sem_eq_zero_of_no_sems rfl r.2),
  fun m ρ _ => Cert.Kernel6.Gen.frame m ρ, fun m ρ _ => Cert.Kernel6Ideal.Gen.frame m ρ,
  fun m ρ _ => θ_run_mono (Cert.Reference6Ideal.Value.run m ρ) fun r h => And.intro (fun c => (h c).2) (sem_eq_zero_of_no_sems rfl r.2),
  fun m ρ _ => Cert.Kernel7.Gen.frame m ρ, fun m ρ _ => Cert.Kernel7Ideal.Gen.frame m ρ,
  fun m ρ _ => θ_run_mono (Cert.Reference7Ideal.Value.run m ρ) fun r h => And.intro (fun c => (h c).2.2) (sem_eq_zero_of_no_sems rfl r.2),
  fun m ρ _ => Cert.Kernel8.Gen.frame m ρ, fun m ρ _ => Cert.Kernel8Ideal.Gen.frame m ρ, fun m ρ _ => Cert.Kernel8Ideal.Gen.frame m ρ,
  fun m ρ _ => frame_reference_prompt m ρ, fun m ρ _ => frame_reference_prompt m ρ,
  fun m ρ _ => Cert.Kernel9.Gen.frame m ρ, fun m ρ _ => Cert.Kernel9Ideal.Gen.frame m ρ,
  fun m ρ _ => θ_run_mono (Cert.Reference9Ideal.Value.run m ρ) fun r h => And.intro (fun c => (h c).2) (sem_eq_zero_of_no_sems rfl r.2),
  fun m ρ _ => Cert.Kernel10.Gen.frame m ρ, fun m ρ _ => Cert.Kernel10Ideal.Gen.frame m ρ, fun m ρ _ => Cert.Kernel10Ideal.Gen.frame m ρ,
  fun m ρ _ => frame_reference_router m ρ, fun m ρ _ => frame_reference_router m ρ,
  trivial, algebraic, trivial, algebraic_moe, trivial, algebraic_main, trivial, algebraic_qkv, trivial, algebraic_dt, trivial, algebraic_keep, trivial, algebraic_merge, preserves_mask, algebraic_prompt, preserves_table, algebraic_table, trivial, algebraic_router⟩

end Cert.Proof

end
